-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v33) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1x1024x1024 : Shape := ⟨3, ![1, 1024, 1024]⟩
abbrev S1024x1024 : Shape := ⟨2, ![1024, 1024]⟩
abbrev S1x1024x64x128 : Shape := ⟨4, ![1, 1024, 64, 128]⟩
abbrev S_ : Shape := ⟨0, ![]⟩

class Facts : Prop where
  bcast_S_S1x1024x1024 : S_.BroadcastsInDim S1x1024x1024 (![] : Fin 0 → Fin S1x1024x1024.rank)
  bcast_S_S1024x1024 : S_.BroadcastsInDim S1024x1024 (![] : Fin 0 → Fin S1024x1024.rank)
  bcast_S_S1x1024x64x128 : S_.BroadcastsInDim S1x1024x64x128 (![] : Fin 0 → Fin S1x1024x64x128.rank)

variable [Facts]

def fn {F : FTy → Type} [FloatOps F] (main_arg0 : FVec F S1x1024x1024 .f32) (main_arg1 : FVec F S1024x1024 .f32) (main_arg2 : FVec F S1x1024x64x128 .f32) (main_arg3 : FVec F S1x1024x64x128 .f32) (main_arg4 : FVec F S1024x1024 .f32) : IVec S1x1024x1024 1 × IVec S1024x1024 1 × IVec S1x1024x64x128 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1x1024x64x128 .f32 := Host.absf main_arg2
  let main_cst_1 : FVec F S_ .f32 := constant S_ .f32 0x7F800000#32
  let main_v7 : FVec F S1x1024x64x128 .f32 := broadcastInDim S1x1024x64x128 ![] bcast_S_S1x1024x64x128 main_cst_1
  let main_v8 : IVec S1x1024x64x128 1 := cmpf .olt main_v6 main_v7
  (main_v2, main_v5, main_v8)
-- ==== Pre_finite_scores_ReferenceIdeal.lean ====
abbrev S1x1024x1024 : Shape := ⟨3, ![1, 1024, 1024]⟩
abbrev S1024x8192 : Shape := ⟨2, ![1024, 8192]⟩
abbrev S1x1024x64x128 : Shape := ⟨4, ![1, 1024, 64, 128]⟩
abbrev S8192x1024 : Shape := ⟨2, ![8192, 1024]⟩
abbrev S_ : Shape := ⟨0, ![]⟩

class Facts : Prop where
  bcast_S_S1x1024x1024 : S_.BroadcastsInDim S1x1024x1024 (![] : Fin 0 → Fin S1x1024x1024.rank)
  bcast_S_S1024x8192 : S_.BroadcastsInDim S1024x8192 (![] : Fin 0 → Fin S1024x8192.rank)
  bcast_S_S1x1024x64x128 : S_.BroadcastsInDim S1x1024x64x128 (![] : Fin 0 → Fin S1x1024x64x128.rank)

variable [Facts]

def fn {F : FTy → Type} [FloatOps F] (main_arg0 : FVec F S1x1024x1024 .f32) (main_arg1 : FVec F S1024x8192 .f32) (main_arg2 : FVec F S1x1024x64x128 .f32) (main_arg3 : FVec F S1x1024x64x128 .f32) (main_arg4 : FVec F S8192x1024 .f32) : IVec S1x1024x1024 1 × IVec S1024x8192 1 × IVec S1x1024x64x128 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_v3 : FVec F S1024x8192 .f32 := Host.absf main_arg1
  let main_cst_0 : FVec F S_ .f32 := constant S_ .f32 0x7F800000#32
  let main_v4 : FVec F S1024x8192 .f32 := broadcastInDim S1024x8192 ![] bcast_S_S1024x8192 main_cst_0
  let main_v5 : IVec S1024x8192 1 := cmpf .olt main_v3 main_v4
  let main_v6 : FVec F S1x1024x64x128 .f32 := Host.absf main_arg2
  let main_cst_1 : FVec F S_ .f32 := constant S_ .f32 0x7F800000#32
  let main_v7 : FVec F S1x1024x64x128 .f32 := broadcastInDim S1x1024x64x128 ![] bcast_S_S1x1024x64x128 main_cst_1
  let main_v8 : IVec S1x1024x64x128 1 := cmpf .olt main_v6 main_v7
  (main_v2, main_v5, main_v8)
-- ==== Kernel.lean ====
abbrev S1x1024x1024 : Shape := ⟨3, ![1, 1024, 1024]⟩
abbrev S1024x1024 : Shape := ⟨2, ![1024, 1024]⟩
abbrev S1x1024x64x128 : Shape := ⟨4, ![1, 1024, 64, 128]⟩
abbrev S1024x8x128 : Shape := ⟨3, ![1024, 8, 128]⟩
abbrev S7x32x1024 : Shape := ⟨3, ![7, 32, 1024]⟩
abbrev S2 : Shape := ⟨1, ![2]⟩
abbrev S56 : Shape := ⟨1, ![56]⟩
abbrev S1 : Shape := ⟨1, ![1]⟩
abbrev S_ : Shape := ⟨0, ![]⟩
abbrev S1x1024x8x128 : Shape := ⟨4, ![1, 1024, 8, 128]⟩
abbrev S256x256 : Shape := ⟨2, ![256, 256]⟩
abbrev S1x256x1024 : Shape := ⟨3, ![1, 256, 1024]⟩
abbrev S256x1024 : Shape := ⟨2, ![256, 1024]⟩
abbrev S256x128 : Shape := ⟨2, ![256, 128]⟩
abbrev S256x1x128 : Shape := ⟨3, ![256, 1, 128]⟩
abbrev S256 : Shape := ⟨1, ![256]⟩
abbrev S256x1 : Shape := ⟨2, ![256, 1]⟩
abbrev S1x32x1024 : Shape := ⟨3, ![1, 32, 1024]⟩
abbrev S32x1024 : Shape := ⟨2, ![32, 1024]⟩
abbrev S512x1x128 : Shape := ⟨3, ![512, 1, 128]⟩
abbrev S512x128 : Shape := ⟨2, ![512, 128]⟩
abbrev S256x512 : Shape := ⟨2, ![256, 512]⟩
abbrev S768x1x128 : Shape := ⟨3, ![768, 1, 128]⟩
abbrev S768x128 : Shape := ⟨2, ![768, 128]⟩
abbrev S256x768 : Shape := ⟨2, ![256, 768]⟩
abbrev S1024x1x128 : Shape := ⟨3, ![1024, 1, 128]⟩
abbrev S1024x128 : Shape := ⟨2, ![1024, 128]⟩

abbrev nBuf : Space → Nat
  | .hbm => 6
  | .vmem => 11
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1x1024x64x128, .f32⟩
  | .hbm, ⟨3, _⟩ => ⟨S1x1024x64x128, .f32⟩
  | .hbm, ⟨4, _⟩ => ⟨S1024x1024, .f32⟩
  | .hbm, ⟨5, _⟩ => ⟨S1x1024x1024, .f32⟩
  | .local _ .vmem, ⟨0, _⟩ => ⟨S1x1024x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024x1024, .f32⟩
  | .local _ .vmem, ⟨4, _⟩ => ⟨S1024x8x128, .f32⟩
  | .local _ .vmem, ⟨5, _⟩ => ⟨S1024x8x128, .f32⟩
  | .local _ .vmem, ⟨6, _⟩ => ⟨S1024x1024, .bf16⟩
  | .local _ .vmem, ⟨7, _⟩ => ⟨S7x32x1024, .bf16⟩
  | .local _ .vmem, ⟨8, _⟩ => ⟨S7x32x1024, .bf16⟩
  | .local _ .vmem, ⟨9, _⟩ => ⟨S7x32x1024, .bf16⟩
  | .local _ .vmem, ⟨10, _⟩ => ⟨S7x32x1024, .bf16⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 118 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | _ => false

abbrev sig : RefSig :=
  (ofTc nBuf bufTy 1 118 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_off1 (d0 : Dev nD) : Fin 4 → Nat :=
  let c0_i32 : BitVec 32 := 0#32
  let c0_i32_2 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.muli v2 c8_i32_0
  let c0_i32_3 : BitVec 32 := 0#32
  ![0, 0, v3.toNat, 0]
def k0_dev1 (d0 : Dev nD) : Nat :=
  let c0_i32_13 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_8 : BitVec 32 := 0#32
  let v13 : BitVec 32 := Scalar.addi v2 c0_i32_8
  let c1_i32_9 : BitVec 32 := 1#32
  let v14 : BitVec 32 := Scalar.addi v13 c1_i32_9
  let c8_i32_10 : BitVec 32 := 8#32
  let v15 : BitVec 32 := Scalar.remsi v14 c8_i32_10
  let c1_i32_12 : BitVec 32 := 1#32
  let v16 : BitVec 32 := Scalar.muli v15 c1_i32_12
  let v17 : BitVec 32 := Scalar.addi c0_i32_13 v16
  v17.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_14 : BitVec 32 := 1#32
  let v18 : BitVec 32 := Scalar.addi v2 c1_i32_14
  let c1_i32_15 : BitVec 32 := 1#32
  let v19 : BitVec 32 := Scalar.addi v18 c1_i32_15
  let c8_i32_16 : BitVec 32 := 8#32
  let v20 : BitVec 32 := Scalar.remsi v19 c8_i32_16
  let c1_i32_18 : BitVec 32 := 1#32
  let v21 : BitVec 32 := Scalar.muli v20 c1_i32_18
  let v22 : BitVec 32 := Scalar.addi c0_i32_19 v21
  v22.toNat
def k0_dev3 (d0 : Dev nD) : Nat :=
  let c0_i32_24 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v23 : BitVec 32 := Scalar.addi v2 c2_i32
  let c1_i32_20 : BitVec 32 := 1#32
  let v24 : BitVec 32 := Scalar.addi v23 c1_i32_20
  let c8_i32_21 : BitVec 32 := 8#32
  let v25 : BitVec 32 := Scalar.remsi v24 c8_i32_21
  let c1_i32_23 : BitVec 32 := 1#32
  let v26 : BitVec 32 := Scalar.muli v25 c1_i32_23
  let v27 : BitVec 32 := Scalar.addi c0_i32_24 v26
  v27.toNat
def k0_dev4 (d0 : Dev nD) : Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v28 : BitVec 32 := Scalar.addi v2 c3_i32
  let c1_i32_25 : BitVec 32 := 1#32
  let v29 : BitVec 32 := Scalar.addi v28 c1_i32_25
  let c8_i32_26 : BitVec 32 := 8#32
  let v30 : BitVec 32 := Scalar.remsi v29 c8_i32_26
  let c1_i32_28 : BitVec 32 := 1#32
  let v31 : BitVec 32 := Scalar.muli v30 c1_i32_28
  let v32 : BitVec 32 := Scalar.addi c0_i32_29 v31
  v32.toNat
def k0_dev5 (d0 : Dev nD) : Nat :=
  let c0_i32_34 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v33 : BitVec 32 := Scalar.addi v2 c4_i32
  let c1_i32_30 : BitVec 32 := 1#32
  let v34 : BitVec 32 := Scalar.addi v33 c1_i32_30
  let c8_i32_31 : BitVec 32 := 8#32
  let v35 : BitVec 32 := Scalar.remsi v34 c8_i32_31
  let c1_i32_33 : BitVec 32 := 1#32
  let v36 : BitVec 32 := Scalar.muli v35 c1_i32_33
  let v37 : BitVec 32 := Scalar.addi c0_i32_34 v36
  v37.toNat
def k0_dev6 (d0 : Dev nD) : Nat :=
  let c0_i32_39 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v38 : BitVec 32 := Scalar.addi v2 c5_i32
  let c1_i32_35 : BitVec 32 := 1#32
  let v39 : BitVec 32 := Scalar.addi v38 c1_i32_35
  let c8_i32_36 : BitVec 32 := 8#32
  let v40 : BitVec 32 := Scalar.remsi v39 c8_i32_36
  let c1_i32_38 : BitVec 32 := 1#32
  let v41 : BitVec 32 := Scalar.muli v40 c1_i32_38
  let v42 : BitVec 32 := Scalar.addi c0_i32_39 v41
  v42.toNat
def k0_dev7 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v43 : BitVec 32 := Scalar.addi v2 c6_i32
  let c1_i32_40 : BitVec 32 := 1#32
  let v44 : BitVec 32 := Scalar.addi v43 c1_i32_40
  let c8_i32_41 : BitVec 32 := 8#32
  let v45 : BitVec 32 := Scalar.remsi v44 c8_i32_41
  let c1_i32_43 : BitVec 32 := 1#32
  let v46 : BitVec 32 := Scalar.muli v45 c1_i32_43
  let v47 : BitVec 32 := Scalar.addi c0_i32_44 v46
  v47.toNat
def k0_off2 (d0 : Dev nD) (c0_i32_109 : BitVec 32) (c0_i32_106 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v261 : BitVec 32 := Scalar.addi v2 c0_i32_106
  let c1_i32_107 : BitVec 32 := 1#32
  let v262 : BitVec 32 := Scalar.addi v261 c1_i32_107
  let c8_i32_108 : BitVec 32 := 8#32
  let v263 : BitVec 32 := Scalar.remsi v262 c8_i32_108
  let c32_i32 : BitVec 32 := 32#32
  let v264 : BitVec 32 := Scalar.muli v263 c32_i32
  let v265 : BitVec 32 := Scalar.addi c0_i32_109 v264
  let c0_i32_117 : BitVec 32 := 0#32
  ![v265.toNat, 0]
def k0_dev8 (d0 : Dev nD) : Nat :=
  let c0_i32_114 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_106 : BitVec 32 := 0#32
  let v261 : BitVec 32 := Scalar.addi v2 c0_i32_106
  let c1_i32_107 : BitVec 32 := 1#32
  let v262 : BitVec 32 := Scalar.addi v261 c1_i32_107
  let c8_i32_108 : BitVec 32 := 8#32
  let v263 : BitVec 32 := Scalar.remsi v262 c8_i32_108
  let c1_i32_113 : BitVec 32 := 1#32
  let v266 : BitVec 32 := Scalar.muli v263 c1_i32_113
  let v267 : BitVec 32 := Scalar.addi c0_i32_114 v266
  v267.toNat
def k0_dev9 (d0 : Dev nD) : Nat :=
  let c0_i32_127 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_118 : BitVec 32 := 1#32
  let v275 : BitVec 32 := Scalar.addi v2 c1_i32_118
  let c1_i32_119 : BitVec 32 := 1#32
  let v276 : BitVec 32 := Scalar.addi v275 c1_i32_119
  let c8_i32_120 : BitVec 32 := 8#32
  let v277 : BitVec 32 := Scalar.remsi v276 c8_i32_120
  let c1_i32_126 : BitVec 32 := 1#32
  let v280 : BitVec 32 := Scalar.muli v277 c1_i32_126
  let v281 : BitVec 32 := Scalar.addi c0_i32_127 v280
  v281.toNat
def k0_dev10 (d0 : Dev nD) : Nat :=
  let c0_i32_140 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_131 : BitVec 32 := 2#32
  let v289 : BitVec 32 := Scalar.addi v2 c2_i32_131
  let c1_i32_132 : BitVec 32 := 1#32
  let v290 : BitVec 32 := Scalar.addi v289 c1_i32_132
  let c8_i32_133 : BitVec 32 := 8#32
  let v291 : BitVec 32 := Scalar.remsi v290 c8_i32_133
  let c1_i32_139 : BitVec 32 := 1#32
  let v294 : BitVec 32 := Scalar.muli v291 c1_i32_139
  let v295 : BitVec 32 := Scalar.addi c0_i32_140 v294
  v295.toNat
def k0_dev11 (d0 : Dev nD) : Nat :=
  let c0_i32_153 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_144 : BitVec 32 := 3#32
  let v303 : BitVec 32 := Scalar.addi v2 c3_i32_144
  let c1_i32_145 : BitVec 32 := 1#32
  let v304 : BitVec 32 := Scalar.addi v303 c1_i32_145
  let c8_i32_146 : BitVec 32 := 8#32
  let v305 : BitVec 32 := Scalar.remsi v304 c8_i32_146
  let c1_i32_152 : BitVec 32 := 1#32
  let v308 : BitVec 32 := Scalar.muli v305 c1_i32_152
  let v309 : BitVec 32 := Scalar.addi c0_i32_153 v308
  v309.toNat
def k0_dev12 (d0 : Dev nD) : Nat :=
  let c0_i32_166 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_157 : BitVec 32 := 4#32
  let v317 : BitVec 32 := Scalar.addi v2 c4_i32_157
  let c1_i32_158 : BitVec 32 := 1#32
  let v318 : BitVec 32 := Scalar.addi v317 c1_i32_158
  let c8_i32_159 : BitVec 32 := 8#32
  let v319 : BitVec 32 := Scalar.remsi v318 c8_i32_159
  let c1_i32_165 : BitVec 32 := 1#32
  let v322 : BitVec 32 := Scalar.muli v319 c1_i32_165
  let v323 : BitVec 32 := Scalar.addi c0_i32_166 v322
  v323.toNat
def k0_dev13 (d0 : Dev nD) : Nat :=
  let c0_i32_179 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_170 : BitVec 32 := 5#32
  let v331 : BitVec 32 := Scalar.addi v2 c5_i32_170
  let c1_i32_171 : BitVec 32 := 1#32
  let v332 : BitVec 32 := Scalar.addi v331 c1_i32_171
  let c8_i32_172 : BitVec 32 := 8#32
  let v333 : BitVec 32 := Scalar.remsi v332 c8_i32_172
  let c1_i32_178 : BitVec 32 := 1#32
  let v336 : BitVec 32 := Scalar.muli v333 c1_i32_178
  let v337 : BitVec 32 := Scalar.addi c0_i32_179 v336
  v337.toNat
def k0_dev14 (d0 : Dev nD) : Nat :=
  let c0_i32_192 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_183 : BitVec 32 := 6#32
  let v345 : BitVec 32 := Scalar.addi v2 c6_i32_183
  let c1_i32_184 : BitVec 32 := 1#32
  let v346 : BitVec 32 := Scalar.addi v345 c1_i32_184
  let c8_i32_185 : BitVec 32 := 8#32
  let v347 : BitVec 32 := Scalar.remsi v346 c8_i32_185
  let c1_i32_191 : BitVec 32 := 1#32
  let v350 : BitVec 32 := Scalar.muli v347 c1_i32_191
  let v351 : BitVec 32 := Scalar.addi c0_i32_192 v350
  v351.toNat
def k0_dev15 (d0 : Dev nD) : Nat :=
  let c0_i32_248 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_242 : BitVec 32 := 0#32
  let v578 : BitVec 32 := Scalar.addi v2 c0_i32_242
  let c1_i32_243 : BitVec 32 := 1#32
  let v579 : BitVec 32 := Scalar.addi v578 c1_i32_243
  let c8_i32_244 : BitVec 32 := 8#32
  let v580 : BitVec 32 := Scalar.remsi v579 c8_i32_244
  let c1_i32_247 : BitVec 32 := 1#32
  let v583 : BitVec 32 := Scalar.muli v580 c1_i32_247
  let v584 : BitVec 32 := Scalar.addi c0_i32_248 v583
  v584.toNat
def k0_dev16 (d0 : Dev nD) : Nat :=
  let c0_i32_259 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_252 : BitVec 32 := 1#32
  let v592 : BitVec 32 := Scalar.addi v2 c1_i32_252
  let c1_i32_253 : BitVec 32 := 1#32
  let v593 : BitVec 32 := Scalar.addi v592 c1_i32_253
  let c8_i32_254 : BitVec 32 := 8#32
  let v594 : BitVec 32 := Scalar.remsi v593 c8_i32_254
  let c1_i32_258 : BitVec 32 := 1#32
  let v597 : BitVec 32 := Scalar.muli v594 c1_i32_258
  let v598 : BitVec 32 := Scalar.addi c0_i32_259 v597
  v598.toNat
def k0_dev17 (d0 : Dev nD) : Nat :=
  let c0_i32_270 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_263 : BitVec 32 := 2#32
  let v606 : BitVec 32 := Scalar.addi v2 c2_i32_263
  let c1_i32_264 : BitVec 32 := 1#32
  let v607 : BitVec 32 := Scalar.addi v606 c1_i32_264
  let c8_i32_265 : BitVec 32 := 8#32
  let v608 : BitVec 32 := Scalar.remsi v607 c8_i32_265
  let c1_i32_269 : BitVec 32 := 1#32
  let v611 : BitVec 32 := Scalar.muli v608 c1_i32_269
  let v612 : BitVec 32 := Scalar.addi c0_i32_270 v611
  v612.toNat
def k0_dev18 (d0 : Dev nD) : Nat :=
  let c0_i32_282 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_274 : BitVec 32 := 3#32
  let v620 : BitVec 32 := Scalar.addi v2 c3_i32_274
  let c1_i32_275 : BitVec 32 := 1#32
  let v621 : BitVec 32 := Scalar.addi v620 c1_i32_275
  let c8_i32_276 : BitVec 32 := 8#32
  let v622 : BitVec 32 := Scalar.remsi v621 c8_i32_276
  let c1_i32_281 : BitVec 32 := 1#32
  let v625 : BitVec 32 := Scalar.muli v622 c1_i32_281
  let v626 : BitVec 32 := Scalar.addi c0_i32_282 v625
  v626.toNat
def k0_dev19 (d0 : Dev nD) : Nat :=
  let c0_i32_295 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_286 : BitVec 32 := 4#32
  let v634 : BitVec 32 := Scalar.addi v2 c4_i32_286
  let c1_i32_287 : BitVec 32 := 1#32
  let v635 : BitVec 32 := Scalar.addi v634 c1_i32_287
  let c8_i32_288 : BitVec 32 := 8#32
  let v636 : BitVec 32 := Scalar.remsi v635 c8_i32_288
  let c1_i32_294 : BitVec 32 := 1#32
  let v639 : BitVec 32 := Scalar.muli v636 c1_i32_294
  let v640 : BitVec 32 := Scalar.addi c0_i32_295 v639
  v640.toNat
def k0_dev20 (d0 : Dev nD) : Nat :=
  let c0_i32_308 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_299 : BitVec 32 := 5#32
  let v648 : BitVec 32 := Scalar.addi v2 c5_i32_299
  let c1_i32_300 : BitVec 32 := 1#32
  let v649 : BitVec 32 := Scalar.addi v648 c1_i32_300
  let c8_i32_301 : BitVec 32 := 8#32
  let v650 : BitVec 32 := Scalar.remsi v649 c8_i32_301
  let c1_i32_307 : BitVec 32 := 1#32
  let v653 : BitVec 32 := Scalar.muli v650 c1_i32_307
  let v654 : BitVec 32 := Scalar.addi c0_i32_308 v653
  v654.toNat
def k0_dev21 (d0 : Dev nD) : Nat :=
  let c0_i32_321 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_312 : BitVec 32 := 6#32
  let v662 : BitVec 32 := Scalar.addi v2 c6_i32_312
  let c1_i32_313 : BitVec 32 := 1#32
  let v663 : BitVec 32 := Scalar.addi v662 c1_i32_313
  let c8_i32_314 : BitVec 32 := 8#32
  let v664 : BitVec 32 := Scalar.remsi v663 c8_i32_314
  let c1_i32_320 : BitVec 32 := 1#32
  let v667 : BitVec 32 := Scalar.muli v664 c1_i32_320
  let v668 : BitVec 32 := Scalar.addi c0_i32_321 v667
  v668.toNat
def k0_dev22 (d0 : Dev nD) : Nat :=
  let c0_i32_377 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_371 : BitVec 32 := 0#32
  let v895 : BitVec 32 := Scalar.addi v2 c0_i32_371
  let c1_i32_372 : BitVec 32 := 1#32
  let v896 : BitVec 32 := Scalar.addi v895 c1_i32_372
  let c8_i32_373 : BitVec 32 := 8#32
  let v897 : BitVec 32 := Scalar.remsi v896 c8_i32_373
  let c1_i32_376 : BitVec 32 := 1#32
  let v900 : BitVec 32 := Scalar.muli v897 c1_i32_376
  let v901 : BitVec 32 := Scalar.addi c0_i32_377 v900
  v901.toNat
def k0_dev23 (d0 : Dev nD) : Nat :=
  let c0_i32_388 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_381 : BitVec 32 := 1#32
  let v909 : BitVec 32 := Scalar.addi v2 c1_i32_381
  let c1_i32_382 : BitVec 32 := 1#32
  let v910 : BitVec 32 := Scalar.addi v909 c1_i32_382
  let c8_i32_383 : BitVec 32 := 8#32
  let v911 : BitVec 32 := Scalar.remsi v910 c8_i32_383
  let c1_i32_387 : BitVec 32 := 1#32
  let v914 : BitVec 32 := Scalar.muli v911 c1_i32_387
  let v915 : BitVec 32 := Scalar.addi c0_i32_388 v914
  v915.toNat
def k0_dev24 (d0 : Dev nD) : Nat :=
  let c0_i32_400 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_392 : BitVec 32 := 2#32
  let v923 : BitVec 32 := Scalar.addi v2 c2_i32_392
  let c1_i32_393 : BitVec 32 := 1#32
  let v924 : BitVec 32 := Scalar.addi v923 c1_i32_393
  let c8_i32_394 : BitVec 32 := 8#32
  let v925 : BitVec 32 := Scalar.remsi v924 c8_i32_394
  let c1_i32_399 : BitVec 32 := 1#32
  let v928 : BitVec 32 := Scalar.muli v925 c1_i32_399
  let v929 : BitVec 32 := Scalar.addi c0_i32_400 v928
  v929.toNat
def k0_dev25 (d0 : Dev nD) : Nat :=
  let c0_i32_412 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_404 : BitVec 32 := 3#32
  let v937 : BitVec 32 := Scalar.addi v2 c3_i32_404
  let c1_i32_405 : BitVec 32 := 1#32
  let v938 : BitVec 32 := Scalar.addi v937 c1_i32_405
  let c8_i32_406 : BitVec 32 := 8#32
  let v939 : BitVec 32 := Scalar.remsi v938 c8_i32_406
  let c1_i32_411 : BitVec 32 := 1#32
  let v942 : BitVec 32 := Scalar.muli v939 c1_i32_411
  let v943 : BitVec 32 := Scalar.addi c0_i32_412 v942
  v943.toNat
def k0_dev26 (d0 : Dev nD) : Nat :=
  let c0_i32_425 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_416 : BitVec 32 := 4#32
  let v951 : BitVec 32 := Scalar.addi v2 c4_i32_416
  let c1_i32_417 : BitVec 32 := 1#32
  let v952 : BitVec 32 := Scalar.addi v951 c1_i32_417
  let c8_i32_418 : BitVec 32 := 8#32
  let v953 : BitVec 32 := Scalar.remsi v952 c8_i32_418
  let c1_i32_424 : BitVec 32 := 1#32
  let v956 : BitVec 32 := Scalar.muli v953 c1_i32_424
  let v957 : BitVec 32 := Scalar.addi c0_i32_425 v956
  v957.toNat
def k0_dev27 (d0 : Dev nD) : Nat :=
  let c0_i32_438 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_429 : BitVec 32 := 5#32
  let v965 : BitVec 32 := Scalar.addi v2 c5_i32_429
  let c1_i32_430 : BitVec 32 := 1#32
  let v966 : BitVec 32 := Scalar.addi v965 c1_i32_430
  let c8_i32_431 : BitVec 32 := 8#32
  let v967 : BitVec 32 := Scalar.remsi v966 c8_i32_431
  let c1_i32_437 : BitVec 32 := 1#32
  let v970 : BitVec 32 := Scalar.muli v967 c1_i32_437
  let v971 : BitVec 32 := Scalar.addi c0_i32_438 v970
  v971.toNat
def k0_dev28 (d0 : Dev nD) : Nat :=
  let c0_i32_451 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_442 : BitVec 32 := 6#32
  let v979 : BitVec 32 := Scalar.addi v2 c6_i32_442
  let c1_i32_443 : BitVec 32 := 1#32
  let v980 : BitVec 32 := Scalar.addi v979 c1_i32_443
  let c8_i32_444 : BitVec 32 := 8#32
  let v981 : BitVec 32 := Scalar.remsi v980 c8_i32_444
  let c1_i32_450 : BitVec 32 := 1#32
  let v984 : BitVec 32 := Scalar.muli v981 c1_i32_450
  let v985 : BitVec 32 := Scalar.addi c0_i32_451 v984
  v985.toNat
def k0_off3 (d0 : Dev nD) (c0_i32_561 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32_560 : BitVec 32 := 32#32
  let v1077 : BitVec 32 := Scalar.muli v2 c32_i32_560
  let v1078 : BitVec 32 := Scalar.addi c0_i32_561 v1077
  let v1079 : Index := Scalar.indexCast v1078
  let c0_562 : Index := 0#32
  ![v1079.toNat, 0]
def k0_off4 (d0 : Dev nD) (c0_i32_580 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32_579 : BitVec 32 := 32#32
  let v1115 : BitVec 32 := Scalar.muli v2 c32_i32_579
  let v1116 : BitVec 32 := Scalar.addi c0_i32_580 v1115
  let c0_i32_587 : BitVec 32 := 0#32
  ![v1116.toNat, 0]
def k0_dev29 (d0 : Dev nD) : Nat :=
  let c0_i32_586 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_581 : BitVec 32 := 0#32
  let v1117 : BitVec 32 := Scalar.addi v2 c0_i32_581
  let c1_i32_582 : BitVec 32 := 1#32
  let v1118 : BitVec 32 := Scalar.addi v1117 c1_i32_582
  let c8_i32_583 : BitVec 32 := 8#32
  let v1119 : BitVec 32 := Scalar.remsi v1118 c8_i32_583
  let c1_i32_585 : BitVec 32 := 1#32
  let v1120 : BitVec 32 := Scalar.muli v1119 c1_i32_585
  let v1121 : BitVec 32 := Scalar.addi c0_i32_586 v1120
  v1121.toNat
def k0_dev30 (d0 : Dev nD) : Nat :=
  let c0_i32_594 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_589 : BitVec 32 := 1#32
  let v1128 : BitVec 32 := Scalar.addi v2 c1_i32_589
  let c1_i32_590 : BitVec 32 := 1#32
  let v1129 : BitVec 32 := Scalar.addi v1128 c1_i32_590
  let c8_i32_591 : BitVec 32 := 8#32
  let v1130 : BitVec 32 := Scalar.remsi v1129 c8_i32_591
  let c1_i32_593 : BitVec 32 := 1#32
  let v1131 : BitVec 32 := Scalar.muli v1130 c1_i32_593
  let v1132 : BitVec 32 := Scalar.addi c0_i32_594 v1131
  v1132.toNat
def k0_dev31 (d0 : Dev nD) : Nat :=
  let c0_i32_601 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_597 : BitVec 32 := 2#32
  let v1139 : BitVec 32 := Scalar.addi v2 c2_i32_597
  let c1_i32_598 : BitVec 32 := 1#32
  let v1140 : BitVec 32 := Scalar.addi v1139 c1_i32_598
  let c8_i32_599 : BitVec 32 := 8#32
  let v1141 : BitVec 32 := Scalar.remsi v1140 c8_i32_599
  let c1_i32_600 : BitVec 32 := 1#32
  let v1142 : BitVec 32 := Scalar.muli v1141 c1_i32_600
  let v1143 : BitVec 32 := Scalar.addi c0_i32_601 v1142
  v1143.toNat
def k0_dev32 (d0 : Dev nD) : Nat :=
  let c0_i32_609 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_604 : BitVec 32 := 3#32
  let v1150 : BitVec 32 := Scalar.addi v2 c3_i32_604
  let c1_i32_605 : BitVec 32 := 1#32
  let v1151 : BitVec 32 := Scalar.addi v1150 c1_i32_605
  let c8_i32_606 : BitVec 32 := 8#32
  let v1152 : BitVec 32 := Scalar.remsi v1151 c8_i32_606
  let c1_i32_608 : BitVec 32 := 1#32
  let v1153 : BitVec 32 := Scalar.muli v1152 c1_i32_608
  let v1154 : BitVec 32 := Scalar.addi c0_i32_609 v1153
  v1154.toNat
def k0_dev33 (d0 : Dev nD) : Nat :=
  let c0_i32_618 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_612 : BitVec 32 := 4#32
  let v1161 : BitVec 32 := Scalar.addi v2 c4_i32_612
  let c1_i32_613 : BitVec 32 := 1#32
  let v1162 : BitVec 32 := Scalar.addi v1161 c1_i32_613
  let c8_i32_614 : BitVec 32 := 8#32
  let v1163 : BitVec 32 := Scalar.remsi v1162 c8_i32_614
  let c1_i32_617 : BitVec 32 := 1#32
  let v1164 : BitVec 32 := Scalar.muli v1163 c1_i32_617
  let v1165 : BitVec 32 := Scalar.addi c0_i32_618 v1164
  v1165.toNat
def k0_dev34 (d0 : Dev nD) : Nat :=
  let c0_i32_627 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_621 : BitVec 32 := 5#32
  let v1172 : BitVec 32 := Scalar.addi v2 c5_i32_621
  let c1_i32_622 : BitVec 32 := 1#32
  let v1173 : BitVec 32 := Scalar.addi v1172 c1_i32_622
  let c8_i32_623 : BitVec 32 := 8#32
  let v1174 : BitVec 32 := Scalar.remsi v1173 c8_i32_623
  let c1_i32_626 : BitVec 32 := 1#32
  let v1175 : BitVec 32 := Scalar.muli v1174 c1_i32_626
  let v1176 : BitVec 32 := Scalar.addi c0_i32_627 v1175
  v1176.toNat
def k0_dev35 (d0 : Dev nD) : Nat :=
  let c0_i32_636 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_630 : BitVec 32 := 6#32
  let v1183 : BitVec 32 := Scalar.addi v2 c6_i32_630
  let c1_i32_631 : BitVec 32 := 1#32
  let v1184 : BitVec 32 := Scalar.addi v1183 c1_i32_631
  let c8_i32_632 : BitVec 32 := 8#32
  let v1185 : BitVec 32 := Scalar.remsi v1184 c8_i32_632
  let c1_i32_635 : BitVec 32 := 1#32
  let v1186 : BitVec 32 := Scalar.muli v1185 c1_i32_635
  let v1187 : BitVec 32 := Scalar.addi c0_i32_636 v1186
  v1187.toNat
def k0_dev36 (d0 : Dev nD) : Nat :=
  let c0_i32_775 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_771 : BitVec 32 := 0#32
  let v1318 : BitVec 32 := Scalar.addi v2 c0_i32_771
  let c1_i32_772 : BitVec 32 := 1#32
  let v1319 : BitVec 32 := Scalar.addi v1318 c1_i32_772
  let c8_i32_773 : BitVec 32 := 8#32
  let v1320 : BitVec 32 := Scalar.remsi v1319 c8_i32_773
  let c1_i32_774 : BitVec 32 := 1#32
  let v1321 : BitVec 32 := Scalar.muli v1320 c1_i32_774
  let v1322 : BitVec 32 := Scalar.addi c0_i32_775 v1321
  v1322.toNat
def k0_dev37 (d0 : Dev nD) : Nat :=
  let c0_i32_782 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_778 : BitVec 32 := 1#32
  let v1329 : BitVec 32 := Scalar.addi v2 c1_i32_778
  let c1_i32_779 : BitVec 32 := 1#32
  let v1330 : BitVec 32 := Scalar.addi v1329 c1_i32_779
  let c8_i32_780 : BitVec 32 := 8#32
  let v1331 : BitVec 32 := Scalar.remsi v1330 c8_i32_780
  let c1_i32_781 : BitVec 32 := 1#32
  let v1332 : BitVec 32 := Scalar.muli v1331 c1_i32_781
  let v1333 : BitVec 32 := Scalar.addi c0_i32_782 v1332
  v1333.toNat
def k0_dev38 (d0 : Dev nD) : Nat :=
  let c0_i32_789 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_785 : BitVec 32 := 2#32
  let v1340 : BitVec 32 := Scalar.addi v2 c2_i32_785
  let c1_i32_786 : BitVec 32 := 1#32
  let v1341 : BitVec 32 := Scalar.addi v1340 c1_i32_786
  let c8_i32_787 : BitVec 32 := 8#32
  let v1342 : BitVec 32 := Scalar.remsi v1341 c8_i32_787
  let c1_i32_788 : BitVec 32 := 1#32
  let v1343 : BitVec 32 := Scalar.muli v1342 c1_i32_788
  let v1344 : BitVec 32 := Scalar.addi c0_i32_789 v1343
  v1344.toNat
def k0_dev39 (d0 : Dev nD) : Nat :=
  let c0_i32_797 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_792 : BitVec 32 := 3#32
  let v1351 : BitVec 32 := Scalar.addi v2 c3_i32_792
  let c1_i32_793 : BitVec 32 := 1#32
  let v1352 : BitVec 32 := Scalar.addi v1351 c1_i32_793
  let c8_i32_794 : BitVec 32 := 8#32
  let v1353 : BitVec 32 := Scalar.remsi v1352 c8_i32_794
  let c1_i32_796 : BitVec 32 := 1#32
  let v1354 : BitVec 32 := Scalar.muli v1353 c1_i32_796
  let v1355 : BitVec 32 := Scalar.addi c0_i32_797 v1354
  v1355.toNat
def k0_dev40 (d0 : Dev nD) : Nat :=
  let c0_i32_806 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_800 : BitVec 32 := 4#32
  let v1362 : BitVec 32 := Scalar.addi v2 c4_i32_800
  let c1_i32_801 : BitVec 32 := 1#32
  let v1363 : BitVec 32 := Scalar.addi v1362 c1_i32_801
  let c8_i32_802 : BitVec 32 := 8#32
  let v1364 : BitVec 32 := Scalar.remsi v1363 c8_i32_802
  let c1_i32_805 : BitVec 32 := 1#32
  let v1365 : BitVec 32 := Scalar.muli v1364 c1_i32_805
  let v1366 : BitVec 32 := Scalar.addi c0_i32_806 v1365
  v1366.toNat
def k0_dev41 (d0 : Dev nD) : Nat :=
  let c0_i32_815 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_809 : BitVec 32 := 5#32
  let v1373 : BitVec 32 := Scalar.addi v2 c5_i32_809
  let c1_i32_810 : BitVec 32 := 1#32
  let v1374 : BitVec 32 := Scalar.addi v1373 c1_i32_810
  let c8_i32_811 : BitVec 32 := 8#32
  let v1375 : BitVec 32 := Scalar.remsi v1374 c8_i32_811
  let c1_i32_814 : BitVec 32 := 1#32
  let v1376 : BitVec 32 := Scalar.muli v1375 c1_i32_814
  let v1377 : BitVec 32 := Scalar.addi c0_i32_815 v1376
  v1377.toNat
def k0_dev42 (d0 : Dev nD) : Nat :=
  let c0_i32_824 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_818 : BitVec 32 := 6#32
  let v1384 : BitVec 32 := Scalar.addi v2 c6_i32_818
  let c1_i32_819 : BitVec 32 := 1#32
  let v1385 : BitVec 32 := Scalar.addi v1384 c1_i32_819
  let c8_i32_820 : BitVec 32 := 8#32
  let v1386 : BitVec 32 := Scalar.remsi v1385 c8_i32_820
  let c1_i32_823 : BitVec 32 := 1#32
  let v1387 : BitVec 32 := Scalar.muli v1386 c1_i32_823
  let v1388 : BitVec 32 := Scalar.addi c0_i32_824 v1387
  v1388.toNat
def k0_dev43 (d0 : Dev nD) : Nat :=
  let c0_i32_879 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_873 : BitVec 32 := 0#32
  let v1614 : BitVec 32 := Scalar.addi v2 c0_i32_873
  let c1_i32_874 : BitVec 32 := 1#32
  let v1615 : BitVec 32 := Scalar.addi v1614 c1_i32_874
  let c8_i32_875 : BitVec 32 := 8#32
  let v1616 : BitVec 32 := Scalar.remsi v1615 c8_i32_875
  let c1_i32_878 : BitVec 32 := 1#32
  let v1619 : BitVec 32 := Scalar.muli v1616 c1_i32_878
  let v1620 : BitVec 32 := Scalar.addi c0_i32_879 v1619
  v1620.toNat
def k0_dev44 (d0 : Dev nD) : Nat :=
  let c0_i32_890 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_883 : BitVec 32 := 1#32
  let v1628 : BitVec 32 := Scalar.addi v2 c1_i32_883
  let c1_i32_884 : BitVec 32 := 1#32
  let v1629 : BitVec 32 := Scalar.addi v1628 c1_i32_884
  let c8_i32_885 : BitVec 32 := 8#32
  let v1630 : BitVec 32 := Scalar.remsi v1629 c8_i32_885
  let c1_i32_889 : BitVec 32 := 1#32
  let v1633 : BitVec 32 := Scalar.muli v1630 c1_i32_889
  let v1634 : BitVec 32 := Scalar.addi c0_i32_890 v1633
  v1634.toNat
def k0_dev45 (d0 : Dev nD) : Nat :=
  let c0_i32_901 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_894 : BitVec 32 := 2#32
  let v1642 : BitVec 32 := Scalar.addi v2 c2_i32_894
  let c1_i32_895 : BitVec 32 := 1#32
  let v1643 : BitVec 32 := Scalar.addi v1642 c1_i32_895
  let c8_i32_896 : BitVec 32 := 8#32
  let v1644 : BitVec 32 := Scalar.remsi v1643 c8_i32_896
  let c1_i32_900 : BitVec 32 := 1#32
  let v1647 : BitVec 32 := Scalar.muli v1644 c1_i32_900
  let v1648 : BitVec 32 := Scalar.addi c0_i32_901 v1647
  v1648.toNat
def k0_dev46 (d0 : Dev nD) : Nat :=
  let c0_i32_913 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_905 : BitVec 32 := 3#32
  let v1656 : BitVec 32 := Scalar.addi v2 c3_i32_905
  let c1_i32_906 : BitVec 32 := 1#32
  let v1657 : BitVec 32 := Scalar.addi v1656 c1_i32_906
  let c8_i32_907 : BitVec 32 := 8#32
  let v1658 : BitVec 32 := Scalar.remsi v1657 c8_i32_907
  let c1_i32_912 : BitVec 32 := 1#32
  let v1661 : BitVec 32 := Scalar.muli v1658 c1_i32_912
  let v1662 : BitVec 32 := Scalar.addi c0_i32_913 v1661
  v1662.toNat
def k0_dev47 (d0 : Dev nD) : Nat :=
  let c0_i32_926 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_917 : BitVec 32 := 4#32
  let v1670 : BitVec 32 := Scalar.addi v2 c4_i32_917
  let c1_i32_918 : BitVec 32 := 1#32
  let v1671 : BitVec 32 := Scalar.addi v1670 c1_i32_918
  let c8_i32_919 : BitVec 32 := 8#32
  let v1672 : BitVec 32 := Scalar.remsi v1671 c8_i32_919
  let c1_i32_925 : BitVec 32 := 1#32
  let v1675 : BitVec 32 := Scalar.muli v1672 c1_i32_925
  let v1676 : BitVec 32 := Scalar.addi c0_i32_926 v1675
  v1676.toNat
def k0_dev48 (d0 : Dev nD) : Nat :=
  let c0_i32_939 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_930 : BitVec 32 := 5#32
  let v1684 : BitVec 32 := Scalar.addi v2 c5_i32_930
  let c1_i32_931 : BitVec 32 := 1#32
  let v1685 : BitVec 32 := Scalar.addi v1684 c1_i32_931
  let c8_i32_932 : BitVec 32 := 8#32
  let v1686 : BitVec 32 := Scalar.remsi v1685 c8_i32_932
  let c1_i32_938 : BitVec 32 := 1#32
  let v1689 : BitVec 32 := Scalar.muli v1686 c1_i32_938
  let v1690 : BitVec 32 := Scalar.addi c0_i32_939 v1689
  v1690.toNat
def k0_dev49 (d0 : Dev nD) : Nat :=
  let c0_i32_952 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_943 : BitVec 32 := 6#32
  let v1698 : BitVec 32 := Scalar.addi v2 c6_i32_943
  let c1_i32_944 : BitVec 32 := 1#32
  let v1699 : BitVec 32 := Scalar.addi v1698 c1_i32_944
  let c8_i32_945 : BitVec 32 := 8#32
  let v1700 : BitVec 32 := Scalar.remsi v1699 c8_i32_945
  let c1_i32_951 : BitVec 32 := 1#32
  let v1703 : BitVec 32 := Scalar.muli v1700 c1_i32_951
  let v1704 : BitVec 32 := Scalar.addi c0_i32_952 v1703
  v1704.toNat
def k0_dev50 (d0 : Dev nD) : Nat :=
  let c0_i32_1174 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1170 : BitVec 32 := 0#32
  let v1911 : BitVec 32 := Scalar.addi v2 c0_i32_1170
  let c1_i32_1171 : BitVec 32 := 1#32
  let v1912 : BitVec 32 := Scalar.addi v1911 c1_i32_1171
  let c8_i32_1172 : BitVec 32 := 8#32
  let v1913 : BitVec 32 := Scalar.remsi v1912 c8_i32_1172
  let c1_i32_1173 : BitVec 32 := 1#32
  let v1914 : BitVec 32 := Scalar.muli v1913 c1_i32_1173
  let v1915 : BitVec 32 := Scalar.addi c0_i32_1174 v1914
  v1915.toNat
def k0_dev51 (d0 : Dev nD) : Nat :=
  let c0_i32_1181 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1177 : BitVec 32 := 1#32
  let v1922 : BitVec 32 := Scalar.addi v2 c1_i32_1177
  let c1_i32_1178 : BitVec 32 := 1#32
  let v1923 : BitVec 32 := Scalar.addi v1922 c1_i32_1178
  let c8_i32_1179 : BitVec 32 := 8#32
  let v1924 : BitVec 32 := Scalar.remsi v1923 c8_i32_1179
  let c1_i32_1180 : BitVec 32 := 1#32
  let v1925 : BitVec 32 := Scalar.muli v1924 c1_i32_1180
  let v1926 : BitVec 32 := Scalar.addi c0_i32_1181 v1925
  v1926.toNat
def k0_dev52 (d0 : Dev nD) : Nat :=
  let c0_i32_1188 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1184 : BitVec 32 := 2#32
  let v1933 : BitVec 32 := Scalar.addi v2 c2_i32_1184
  let c1_i32_1185 : BitVec 32 := 1#32
  let v1934 : BitVec 32 := Scalar.addi v1933 c1_i32_1185
  let c8_i32_1186 : BitVec 32 := 8#32
  let v1935 : BitVec 32 := Scalar.remsi v1934 c8_i32_1186
  let c1_i32_1187 : BitVec 32 := 1#32
  let v1936 : BitVec 32 := Scalar.muli v1935 c1_i32_1187
  let v1937 : BitVec 32 := Scalar.addi c0_i32_1188 v1936
  v1937.toNat
def k0_dev53 (d0 : Dev nD) : Nat :=
  let c0_i32_1196 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1191 : BitVec 32 := 3#32
  let v1944 : BitVec 32 := Scalar.addi v2 c3_i32_1191
  let c1_i32_1192 : BitVec 32 := 1#32
  let v1945 : BitVec 32 := Scalar.addi v1944 c1_i32_1192
  let c8_i32_1193 : BitVec 32 := 8#32
  let v1946 : BitVec 32 := Scalar.remsi v1945 c8_i32_1193
  let c1_i32_1195 : BitVec 32 := 1#32
  let v1947 : BitVec 32 := Scalar.muli v1946 c1_i32_1195
  let v1948 : BitVec 32 := Scalar.addi c0_i32_1196 v1947
  v1948.toNat
def k0_dev54 (d0 : Dev nD) : Nat :=
  let c0_i32_1205 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1199 : BitVec 32 := 4#32
  let v1955 : BitVec 32 := Scalar.addi v2 c4_i32_1199
  let c1_i32_1200 : BitVec 32 := 1#32
  let v1956 : BitVec 32 := Scalar.addi v1955 c1_i32_1200
  let c8_i32_1201 : BitVec 32 := 8#32
  let v1957 : BitVec 32 := Scalar.remsi v1956 c8_i32_1201
  let c1_i32_1204 : BitVec 32 := 1#32
  let v1958 : BitVec 32 := Scalar.muli v1957 c1_i32_1204
  let v1959 : BitVec 32 := Scalar.addi c0_i32_1205 v1958
  v1959.toNat
def k0_dev55 (d0 : Dev nD) : Nat :=
  let c0_i32_1214 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1208 : BitVec 32 := 5#32
  let v1966 : BitVec 32 := Scalar.addi v2 c5_i32_1208
  let c1_i32_1209 : BitVec 32 := 1#32
  let v1967 : BitVec 32 := Scalar.addi v1966 c1_i32_1209
  let c8_i32_1210 : BitVec 32 := 8#32
  let v1968 : BitVec 32 := Scalar.remsi v1967 c8_i32_1210
  let c1_i32_1213 : BitVec 32 := 1#32
  let v1969 : BitVec 32 := Scalar.muli v1968 c1_i32_1213
  let v1970 : BitVec 32 := Scalar.addi c0_i32_1214 v1969
  v1970.toNat
def k0_dev56 (d0 : Dev nD) : Nat :=
  let c0_i32_1223 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1217 : BitVec 32 := 6#32
  let v1977 : BitVec 32 := Scalar.addi v2 c6_i32_1217
  let c1_i32_1218 : BitVec 32 := 1#32
  let v1978 : BitVec 32 := Scalar.addi v1977 c1_i32_1218
  let c8_i32_1219 : BitVec 32 := 8#32
  let v1979 : BitVec 32 := Scalar.remsi v1978 c8_i32_1219
  let c1_i32_1222 : BitVec 32 := 1#32
  let v1980 : BitVec 32 := Scalar.muli v1979 c1_i32_1222
  let v1981 : BitVec 32 := Scalar.addi c0_i32_1223 v1980
  v1981.toNat
def k0_dev57 (d0 : Dev nD) : Nat :=
  let c0_i32_1444 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1440 : BitVec 32 := 0#32
  let v2187 : BitVec 32 := Scalar.addi v2 c0_i32_1440
  let c1_i32_1441 : BitVec 32 := 1#32
  let v2188 : BitVec 32 := Scalar.addi v2187 c1_i32_1441
  let c8_i32_1442 : BitVec 32 := 8#32
  let v2189 : BitVec 32 := Scalar.remsi v2188 c8_i32_1442
  let c1_i32_1443 : BitVec 32 := 1#32
  let v2190 : BitVec 32 := Scalar.muli v2189 c1_i32_1443
  let v2191 : BitVec 32 := Scalar.addi c0_i32_1444 v2190
  v2191.toNat
def k0_dev58 (d0 : Dev nD) : Nat :=
  let c0_i32_1451 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1447 : BitVec 32 := 1#32
  let v2198 : BitVec 32 := Scalar.addi v2 c1_i32_1447
  let c1_i32_1448 : BitVec 32 := 1#32
  let v2199 : BitVec 32 := Scalar.addi v2198 c1_i32_1448
  let c8_i32_1449 : BitVec 32 := 8#32
  let v2200 : BitVec 32 := Scalar.remsi v2199 c8_i32_1449
  let c1_i32_1450 : BitVec 32 := 1#32
  let v2201 : BitVec 32 := Scalar.muli v2200 c1_i32_1450
  let v2202 : BitVec 32 := Scalar.addi c0_i32_1451 v2201
  v2202.toNat
def k0_dev59 (d0 : Dev nD) : Nat :=
  let c0_i32_1458 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1454 : BitVec 32 := 2#32
  let v2209 : BitVec 32 := Scalar.addi v2 c2_i32_1454
  let c1_i32_1455 : BitVec 32 := 1#32
  let v2210 : BitVec 32 := Scalar.addi v2209 c1_i32_1455
  let c8_i32_1456 : BitVec 32 := 8#32
  let v2211 : BitVec 32 := Scalar.remsi v2210 c8_i32_1456
  let c1_i32_1457 : BitVec 32 := 1#32
  let v2212 : BitVec 32 := Scalar.muli v2211 c1_i32_1457
  let v2213 : BitVec 32 := Scalar.addi c0_i32_1458 v2212
  v2213.toNat
def k0_dev60 (d0 : Dev nD) : Nat :=
  let c0_i32_1466 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1461 : BitVec 32 := 3#32
  let v2220 : BitVec 32 := Scalar.addi v2 c3_i32_1461
  let c1_i32_1462 : BitVec 32 := 1#32
  let v2221 : BitVec 32 := Scalar.addi v2220 c1_i32_1462
  let c8_i32_1463 : BitVec 32 := 8#32
  let v2222 : BitVec 32 := Scalar.remsi v2221 c8_i32_1463
  let c1_i32_1465 : BitVec 32 := 1#32
  let v2223 : BitVec 32 := Scalar.muli v2222 c1_i32_1465
  let v2224 : BitVec 32 := Scalar.addi c0_i32_1466 v2223
  v2224.toNat
def k0_dev61 (d0 : Dev nD) : Nat :=
  let c0_i32_1475 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1469 : BitVec 32 := 4#32
  let v2231 : BitVec 32 := Scalar.addi v2 c4_i32_1469
  let c1_i32_1470 : BitVec 32 := 1#32
  let v2232 : BitVec 32 := Scalar.addi v2231 c1_i32_1470
  let c8_i32_1471 : BitVec 32 := 8#32
  let v2233 : BitVec 32 := Scalar.remsi v2232 c8_i32_1471
  let c1_i32_1474 : BitVec 32 := 1#32
  let v2234 : BitVec 32 := Scalar.muli v2233 c1_i32_1474
  let v2235 : BitVec 32 := Scalar.addi c0_i32_1475 v2234
  v2235.toNat
def k0_dev62 (d0 : Dev nD) : Nat :=
  let c0_i32_1484 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1478 : BitVec 32 := 5#32
  let v2242 : BitVec 32 := Scalar.addi v2 c5_i32_1478
  let c1_i32_1479 : BitVec 32 := 1#32
  let v2243 : BitVec 32 := Scalar.addi v2242 c1_i32_1479
  let c8_i32_1480 : BitVec 32 := 8#32
  let v2244 : BitVec 32 := Scalar.remsi v2243 c8_i32_1480
  let c1_i32_1483 : BitVec 32 := 1#32
  let v2245 : BitVec 32 := Scalar.muli v2244 c1_i32_1483
  let v2246 : BitVec 32 := Scalar.addi c0_i32_1484 v2245
  v2246.toNat
def k0_dev63 (d0 : Dev nD) : Nat :=
  let c0_i32_1493 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1487 : BitVec 32 := 6#32
  let v2253 : BitVec 32 := Scalar.addi v2 c6_i32_1487
  let c1_i32_1488 : BitVec 32 := 1#32
  let v2254 : BitVec 32 := Scalar.addi v2253 c1_i32_1488
  let c8_i32_1489 : BitVec 32 := 8#32
  let v2255 : BitVec 32 := Scalar.remsi v2254 c8_i32_1489
  let c1_i32_1492 : BitVec 32 := 1#32
  let v2256 : BitVec 32 := Scalar.muli v2255 c1_i32_1492
  let v2257 : BitVec 32 := Scalar.addi c0_i32_1493 v2256
  v2257.toNat
abbrev stage0_0 : Fin 1 → Memref sig .tc .vmem S1x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1x1024x1024 : Shape := ⟨3, ![1, 1024, 1024]⟩
abbrev S1024x8192 : Shape := ⟨2, ![1024, 8192]⟩
abbrev S1x1024x64x128 : Shape := ⟨4, ![1, 1024, 64, 128]⟩
abbrev S8192x1024 : Shape := ⟨2, ![8192, 1024]⟩
abbrev S1x1024x8192 : Shape := ⟨3, ![1, 1024, 8192]⟩
abbrev S1024 : Shape := ⟨1, ![1024]⟩
abbrev S_ : Shape := ⟨0, ![]⟩
abbrev S1024x1 : Shape := ⟨2, ![1024, 1]⟩
abbrev S1x1024 : Shape := ⟨2, ![1, 1024]⟩
abbrev S1024x1024 : Shape := ⟨2, ![1024, 1024]⟩
abbrev S1x64x1024x1024 : Shape := ⟨4, ![1, 64, 1024, 1024]⟩
abbrev S1x1x1024x1024 : Shape := ⟨4, ![1, 1, 1024, 1024]⟩
abbrev S1x64x1024 : Shape := ⟨3, ![1, 64, 1024]⟩
abbrev S1x64x1024x1 : Shape := ⟨4, ![1, 64, 1024, 1]⟩
abbrev S1x1x1024x1 : Shape := ⟨4, ![1, 1, 1024, 1]⟩
abbrev S1x64x128x1024 : Shape := ⟨4, ![1, 64, 128, 1024]⟩

abbrev nBuf : Space → Nat
  | .hbm => 89
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1024x8192, .f32⟩
  | .hbm, ⟨2, _⟩ => ⟨S1x1024x64x128, .f32⟩
  | .hbm, ⟨3, _⟩ => ⟨S1x1024x64x128, .f32⟩
  | .hbm, ⟨4, _⟩ => ⟨S8192x1024, .f32⟩
  | .hbm, ⟨5, _⟩ => ⟨S1x1024x8192, .f32⟩
  | .hbm, ⟨6, _⟩ => ⟨S1x1024x64x128, .f32⟩
  | .hbm, ⟨7, _⟩ => ⟨S1024, .i32⟩
  | .hbm, ⟨8, _⟩ => ⟨S_, .i32⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S1024, .i32⟩
  | .hbm, ⟨13, _⟩ => ⟨S_, .i32⟩
  | .hbm, ⟨14, _⟩ => ⟨S1024, .i32⟩
  | .hbm, ⟨15, _⟩ => ⟨S1024, .i1⟩
  | .hbm, ⟨16, _⟩ => ⟨S1024, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S1024, .i1⟩
  | .hbm, ⟨22, _⟩ => ⟨S_, .i32⟩
  | .hbm, ⟨23, _⟩ => ⟨S1024, .i32⟩
  | .hbm, ⟨24, _⟩ => ⟨S1024, .i32⟩
  | .hbm, ⟨25, _⟩ => ⟨S1024, .i32⟩
  | .hbm, ⟨26, _⟩ => ⟨S1024x1, .i32⟩
  | .hbm, ⟨27, _⟩ => ⟨S1024, .i32⟩
  | .hbm, ⟨28, _⟩ => ⟨S_, .i32⟩
  | .hbm, ⟨29, _⟩ => ⟨S_, .i32⟩
  | .hbm, ⟨30, _⟩ => ⟨S1024, .i32⟩
  | .hbm, ⟨31, _⟩ => ⟨S1024, .i32⟩
  | .hbm, ⟨32, _⟩ => ⟨S1024, .i32⟩
  | .hbm, ⟨33, _⟩ => ⟨S_, .i32⟩
  | .hbm, ⟨34, _⟩ => ⟨S1024, .i32⟩
  | .hbm, ⟨35, _⟩ => ⟨S1024, .i1⟩
  | .hbm, ⟨36, _⟩ => ⟨S1024, .i32⟩
  | .hbm, ⟨37, _⟩ => ⟨S1024, .i32⟩
  | .hbm, ⟨38, _⟩ => ⟨S_, .i32⟩
  | .hbm, ⟨39, _⟩ => ⟨S1024, .i32⟩
  | .hbm, ⟨40, _⟩ => ⟨S1024, .i1⟩
  | .hbm, ⟨41, _⟩ => ⟨S1024, .i1⟩
  | .hbm, ⟨42, _⟩ => ⟨S_, .i32⟩
  | .hbm, ⟨43, _⟩ => ⟨S1024, .i32⟩
  | .hbm, ⟨44, _⟩ => ⟨S1024, .i32⟩
  | .hbm, ⟨45, _⟩ => ⟨S1024, .i32⟩
  | .hbm, ⟨46, _⟩ => ⟨S1x1024, .i32⟩
  | .hbm, ⟨47, _⟩ => ⟨S1024x1024, .i32⟩
  | .hbm, ⟨48, _⟩ => ⟨S1024x1024, .i32⟩
  | .hbm, ⟨49, _⟩ => ⟨S1024x1024, .i1⟩
  | .hbm, ⟨50, _⟩ => ⟨S1x64x1024x1024, .f32⟩
  | .hbm, ⟨51, _⟩ => ⟨S_, .f32⟩
  | .hbm, ⟨52, _⟩ => ⟨S1x64x1024x1024, .f32⟩
  | .hbm, ⟨53, _⟩ => ⟨S1x64x1024x1024, .f32⟩
  | .hbm, ⟨54, _⟩ => ⟨S1x1x1024x1024, .i1⟩
  | .hbm, ⟨55, _⟩ => ⟨S_, .f32⟩
  | .hbm, ⟨56, _⟩ => ⟨S_, .f32⟩
  | .hbm, ⟨57, _⟩ => ⟨S1x64x1024x1024, .i1⟩
  | .hbm, ⟨58, _⟩ => ⟨S1x64x1024x1024, .f32⟩
  | .hbm, ⟨59, _⟩ => ⟨S1x64x1024x1024, .f32⟩
  | .hbm, ⟨60, _⟩ => ⟨S_, .f32⟩
  | .hbm, ⟨61, _⟩ => ⟨S1x64x1024, .f32⟩
  | .hbm, ⟨62, _⟩ => ⟨S1x64x1024x1, .f32⟩
  | .hbm, ⟨63, _⟩ => ⟨S1x64x1024x1024, .f32⟩
  | .hbm, ⟨64, _⟩ => ⟨S1x64x1024x1024, .f32⟩
  | .hbm, ⟨65, _⟩ => ⟨S1x64x1024x1024, .f32⟩
  | .hbm, ⟨66, _⟩ => ⟨S_, .i1⟩
  | .hbm, ⟨67, _⟩ => ⟨S1024, .i1⟩
  | .hbm, ⟨68, _⟩ => ⟨S1x1x1024x1, .i1⟩
  | .hbm, ⟨69, _⟩ => ⟨S_, .f32⟩
  | .hbm, ⟨70, _⟩ => ⟨S1x64x1024, .f32⟩
  | .hbm, ⟨71, _⟩ => ⟨S1x64x1024x1, .f32⟩
  | .hbm, ⟨72, _⟩ => ⟨S_, .f32⟩
  | .hbm, ⟨73, _⟩ => ⟨S_, .f32⟩
  | .hbm, ⟨74, _⟩ => ⟨S1x64x1024x1, .i1⟩
  | .hbm, ⟨75, _⟩ => ⟨S1x64x1024x1, .f32⟩
  | .hbm, ⟨76, _⟩ => ⟨S1x64x1024x1, .f32⟩
  | .hbm, ⟨77, _⟩ => ⟨S1x64x1024x1024, .f32⟩
  | .hbm, ⟨78, _⟩ => ⟨S1x64x1024x1024, .f32⟩
  | .hbm, ⟨79, _⟩ => ⟨S1x1x1024x1, .i1⟩
  | .hbm, ⟨80, _⟩ => ⟨S_, .f32⟩
  | .hbm, ⟨81, _⟩ => ⟨S_, .f32⟩
  | .hbm, ⟨82, _⟩ => ⟨S1x64x1024x1024, .i1⟩
  | .hbm, ⟨83, _⟩ => ⟨S1x64x1024x1024, .f32⟩
  | .hbm, ⟨84, _⟩ => ⟨S1x64x1024x1024, .f32⟩
  | .hbm, ⟨85, _⟩ => ⟨S1x64x128x1024, .f32⟩
  | .hbm, ⟨86, _⟩ => ⟨S1x1024x64x128, .f32⟩
  | .hbm, ⟨87, _⟩ => ⟨S1x1024x8192, .f32⟩
  | .hbm, ⟨88, _⟩ => ⟨S1x1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v15 : Ref sig .tc := ⟨.hbm, 59, rfl⟩
abbrev main_cst_2 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_c_3 : Ref sig .tc := ⟨.hbm, 66, rfl⟩
abbrev main_v21 : Ref sig .tc := ⟨.hbm, 67, rfl⟩
abbrev main_v22 : Ref sig .tc := ⟨.hbm, 68, rfl⟩
abbrev main_cst_4 : Ref sig .tc := ⟨.hbm, 69, rfl⟩
abbrev main_v23 : Ref sig .tc := ⟨.hbm, 70, rfl⟩
abbrev main_v24 : Ref sig .tc := ⟨.hbm, 71, rfl⟩
abbrev main_cst_5 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_6 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩

abbrev nD : Nat := 1
abbrev τ : Topo := Topo.v7x

variable {F : FTy → Type} [FloatOps F]
-- ==== Proof.Vals.lean ====
/- The values the kernel's body computes, as functions of what its loads read: a chunk of 256 rows
   of one device's partial product, the sum of eight partial products' rows, and what one chunk's
   store of the result writes. Each is the generated payloads applied to one another in the order of
   the program. -/
module

public import proofs.«01_k».proof.Proof.Gen.KernelIdeal.Skeleton

@[expose] public section

noncomputable section

namespace Cert.KernelIdeal.Coll

open Idealize.ShloMosaic Idealize.SL.Sem
open Cert.KernelIdeal Cert.KernelIdeal.Gen

variable {F : FTy → Type} [FloatOps F]

/-- The 0/1 matrix of the diagonal blocks. -/
def maskV : FVec F S256x256 .bf16 := k0_pay9 k0_pay6 k0_pay7 k0_pay8 0#32

/-- Chunk A: the partial product its 256 rows leave in the accumulator, from the weights, the heads' keys and values, the mask and the rows of `x` read. -/
def chunkA (v52 v55 : FVec F S1024x1024 .bf16) (v65 v67 : FVec F S1024x8x128 .bf16) (v121 : FVec F S256x256 .bf16) (v122 : Vec F S1x256x1024 .f32) : FVec F S256x1024 .bf16 :=
  let v126 := k0_pay10 v52 v122
  let v70 := k0_pay6
  let v84 := k0_pay7
  let v86 := k0_pay8
  let c0_i32_66 := 0#32
  let v133 := k0_pay11 v52 v65 v70 v84 v86 c0_i32_66 v122
  let v142 := k0_pay12 v67 v133
  let v158 := k0_pay13 v65 v67 v121 v126
  let v174 := k0_pay14 v65 v67 v121 v126
  let v181 := k0_pay15 v65 v121 v126
  let v183 := k0_pay16 v65 v121 v126
  let v190 := k0_pay17 v67 v181 v183
  let v206 := k0_pay18 v65 v67 v121 v126
  let v222 := k0_pay19 v65 v67 v121 v126
  let v229 := k0_pay20 v65 v121 v126
  let v232 := k0_pay21 v65 v121 v126
  let v234 := k0_pay22 v67
  k0_pay23 v55 v65 v67 v121 v126 v142 v158 v174 v190 v206 v222 v229 v232 v234

/-- Chunk B: the partial product its 256 rows leave in the accumulator, from the weights, the heads' keys and values, the mask and the rows of `x` read. -/
def chunkB (v52 v55 : FVec F S1024x1024 .bf16) (v65 v67 : FVec F S1024x8x128 .bf16) (v121 : FVec F S256x256 .bf16) (v359 : Vec F S1x256x1024 .f32) : FVec F S256x1024 .bf16 :=
  let v364 := k0_pay25 v52 v359
  let v389 := k0_pay26 v65 v67 v121 v364
  let v363 := k0_pay24 v52 v359
  let v414 := k0_pay27 v65 v67 v121 v363
  let v415 := k0_pay28 v414
  let v441 := k0_pay29 v65 v67 v121 v363
  let v460 := k0_pay33 v65 v121 v363
  let v464 := k0_pay34 v65 v67 v121 v363
  let v467 := k0_pay35 v460 v464
  let v493 := k0_pay36 v65 v67 v121 v363
  let v507 := k0_pay39 v65 v67 v121 v363
  let v508 := k0_pay40 v65 v363
  let v512 := k0_pay41 v65 v121 v363
  let v514 := k0_pay42 v67
  let cst_228 := constant S256x128 .f32 0x00000000#32
  let v519 := k0_pay43 v507 v508 v512 v514 cst_228
  let v545 := k0_pay44 v65 v67 v121 v363
  let v559 := k0_pay47 v65 v67 v121 v363
  let v560 := k0_pay48 v65 v363
  let v564 := k0_pay49 v65 v121 v363
  let v565 := k0_pay50 v67
  k0_pay51 v55 v389 v415 v441 v467 v493 v519 v545 v559 v560 v564 v565

/-- Chunk C: the partial product its 256 rows leave in the accumulator, from the weights, the heads' keys and values, the mask and the rows of `x` read. -/
def chunkC (v52 v55 : FVec F S1024x1024 .bf16) (v65 v67 : FVec F S1024x8x128 .bf16) (v121 : FVec F S256x256 .bf16) (v676 : Vec F S1x256x1024 .f32) : FVec F S256x1024 .bf16 :=
  let v680 := k0_pay52 v52 v676
  let v691 := k0_pay55 v52 v65 v121 v676
  let v694 := k0_pay56 v52 v65 v67 v121 v676
  let v695 := k0_pay57 v52 v65 v676
  let v706 := k0_pay58 v67 v691 v694 v695
  let v732 := k0_pay59 v65 v67 v121 v680
  let v738 := k0_pay60 v65 v680
  let v740 := k0_pay61 v65 v121 v680
  let v743 := k0_pay62 v65 v121 v680
  let v745 := k0_pay63 v67
  let cst_340 := constant S256x128 .f32 0x00000000#32
  let v758 := k0_pay64 v67 v738 v740 v743 v745 cst_340
  let v784 := k0_pay65 v65 v67 v121 v680
  let v790 := k0_pay66 v65 v680
  let v792 := k0_pay67 v65 v121 v680
  let v795 := k0_pay68 v65 v121 v680
  let v796 := k0_pay69 v67
  let v810 := k0_pay70 v67 v790 v792 v795 v796
  let v836 := k0_pay71 v65 v67 v121 v680
  let v842 := k0_pay72 v65 v680
  let v844 := k0_pay73 v65 v121 v680
  let v846 := k0_pay74 v65 v121 v680
  k0_pay75 v55 v65 v67 v121 v680 v706 v732 v758 v784 v810 v836 v842 v844 v846

/-- Chunk D: the partial product its 256 rows leave in the accumulator, from the weights, the heads' keys and values, the mask and the rows of `x` read. -/
def chunkD (v52 v55 : FVec F S1024x1024 .bf16) (v65 v67 : FVec F S1024x8x128 .bf16) (v121 : FVec F S256x256 .bf16) (v1395 : Vec F S1x256x1024 .f32) : FVec F S256x1024 .bf16 :=
  let v1425 := k0_pay82 v52 v65 v67 v121 v1395
  let v1431 := k0_pay83 v52 v65 v1395
  let v1432 := k0_pay84 v52 v65 v1395
  let v1451 := k0_pay85 v67 v121 v1431 v1432
  let v1399 := k0_pay81 v52 v1395
  let v1477 := k0_pay86 v65 v67 v121 v1399
  let v1482 := k0_pay87 v65 v1399
  let v1503 := k0_pay88 v67 v121 v1482
  let v1529 := k0_pay89 v65 v67 v121 v1399
  let v1530 := k0_pay90 v1399
  let v1532 := k0_pay91 v65
  let cst_855 := constant S256x1024 .f32 0x00000000#32
  let v1555 := k0_pay92 v67 v121 v1530 v1532 cst_855
  let v1581 := k0_pay93 v65 v67 v121 v1399
  let v1582 := k0_pay94 v1399
  let v1583 := k0_pay95 v65
  k0_pay96 v55 v67 v121 v1425 v1451 v1477 v1503 v1529 v1555 v1581 v1582 v1583

/-- Chunk `g`'s partial product, from the five values the body keeps and the chunk's rows of `x`. -/
def chunkV (g : Fin 4) (wq wo : FVec F S1024x1024 .bf16) (k v : FVec F S1024x8x128 .bf16)
    (x : Vec F S1x256x1024 .f32) : FVec F S256x1024 .bf16 :=
  match g with
  | 0 => chunkA wq wo k v maskV x
  | 1 => chunkB wq wo k v maskV x
  | 2 => chunkC wq wo k v maskV x
  | 3 => chunkD wq wo k v maskV x

/-- The reduced rows of chunk `g`: the device's own rows and the seven received. -/
def redV (g : Fin 4) (own : Vec F S32x1024 .bf16) (s : Fin 7 → Vec F S1x32x1024 .bf16) : FVec F S32x1024 .bf16 :=
  match g with
  | 0 => k0_pay78 (k0_pay76 own (s 0)) (k0_pay77 (s 1)) (s 2) (s 3) (s 4) (s 5) (s 6)
  | 1 => k0_pay80 (k0_pay79 own (s 0) (s 1)) (s 2) (s 3) (s 4) (s 5) (s 6)
  | 2 => k0_pay99 (k0_pay98 own (s 0) (s 1) (s 2) (s 3) (s 4) (s 5)) (s 6)
  | 3 => k0_pay102 (k0_pay101 own (s 0) (s 1) (s 2) (s 3) (s 4) (s 5) (s 6))

/-- What the store of chunk `g`'s rows of the result writes, from the gathered rows. -/
def outV (g : Fin 4) (r : Vec F S256x1024 .bf16) : FVec F S1x256x1024 .f32 :=
  match g with
  | 0 => k0_pay97 r
  | 1 => k0_pay100 r
  | 2 => k0_pay103 r
  | 3 => k0_pay1 r

end Cert.KernelIdeal.Coll

end
-- ==== Proof.Prog.lean ====
/- The kernel's body as a program over the four chunks, the seven peers of a device and the seven
   slots of a receive buffer: the same operations as the printed text, named by the chunk and the
   peer they serve. -/
module

public import proofs.«01_k».proof.Proof.Vals

@[expose] public section

noncomputable section

namespace Cert.KernelIdeal.Coll

open Idealize.ShloMosaic Idealize.ShloMosaic.TcCoe Idealize.SL.Sem
open Cert.KernelIdeal Cert.KernelIdeal.Gen

variable {F : FTy → Type} [FloatOps F]

/-! ## The buffers -/

abbrev xM : Memref sig .tc .vmem S1x1024x1024 .f32 := Memref.whole cc0_stg0_0
abbrev wqM : Memref sig .tc .vmem S1024x1024 .f32 := Memref.whole cc0_stg1_0
abbrev woM : Memref sig .tc .vmem S1024x1024 .f32 := Memref.whole cc0_stg2_0
abbrev outM : Memref sig .tc .vmem S1x1024x1024 .f32 := Memref.whole cc0_stg3_0
abbrev kArr : Memref sig .tc .hbm S1x1024x64x128 .f32 := Memref.whole main_arg2
abbrev vArr : Memref sig .tc .hbm S1x1024x64x128 .f32 := Memref.whole main_arg3
abbrev kM : Memref sig .tc .vmem S1024x8x128 .f32 := Memref.whole cc0_scratch0
abbrev vM : Memref sig .tc .vmem S1024x8x128 .f32 := Memref.whole cc0_scratch1
abbrev accM : Memref sig .tc .vmem S1024x1024 .bf16 := Memref.whole cc0_scratch2

/-- Chunk `g`'s receive buffer. -/
def recvM : Fin 4 → Memref sig .tc .vmem S7x32x1024 .bf16
  | 0 => Memref.whole cc0_scratch3
  | 1 => Memref.whole cc0_scratch4
  | 2 => Memref.whole cc0_scratch5
  | 3 => Memref.whole cc0_scratch6

theorem recvM_whole (g : Fin 4) : (recvM g).IsWhole := by
  match g with
  | 0 => exact Memref.isWhole_whole _
  | 1 => exact Memref.isWhole_whole _
  | 2 => exact Memref.isWhole_whole _
  | 3 => exact Memref.isWhole_whole _

/-! ## The rectangles -/

theorem xRect_inb : ∀ g : Fin 4, ∀ a, (![0, 256 * g.val, 0] : Fin 3 → ℕ) a + S1x256x1024.size a ≤ S1x1024x1024.size a := by decide +kernel
theorem accRect_inb : ∀ g : Fin 4, ∀ a, (![256 * g.val, 0] : Fin 2 → ℕ) a + S256x1024.size a ≤ S1024x1024.size a := by decide +kernel
theorem slot_inb : ∀ k : Fin 7, ∀ a, (![k.val, 0, 0] : Fin 3 → ℕ) a + S1x32x1024.size a ≤ S7x32x1024.size a := by decide +kernel
theorem sem_inb : ∀ i : Fin 56, ∀ a, (![i.val] : Fin 1 → ℕ) a + S1.size a ≤ S56.size a := by decide +kernel

/-- Chunk `g`'s rows of `x` and of the result. -/
abbrev xRect (g : Fin 4) : Rect S1x1024x1024 := Rect.unit (s := S1x1024x1024) ![0, 256 * g.val, 0] S1x256x1024.size (xRect_inb g)
/-- Chunk `g`'s rows of the accumulator. -/
abbrev accRect (g : Fin 4) : Rect S1024x1024 := Rect.unit (s := S1024x1024) ![256 * g.val, 0] S256x1024.size (accRect_inb g)
/-- Slot `k` of a receive buffer. -/
abbrev slotRect (k : Fin 7) : Rect S7x32x1024 := Rect.unit (s := S7x32x1024) ![k.val, 0, 0] S1x32x1024.size (slot_inb k)

theorem accRect_packed (g : Fin 4) : (accRect g).PackedRows (EltTy.packing .bf16) := by
  match g with
  | 0 => exact packedbf16_S1024x1024_S256x1024_0_0
  | 1 => exact packedbf16_S1024x1024_S256x1024_256_0
  | 2 => exact packedbf16_S1024x1024_S256x1024_512_0
  | 3 => exact packedbf16_S1024x1024_S256x1024_768_0

theorem slotRect_words (k : Fin 7) : (slotRect k).WholeWords (EltTy.packing .bf16) := by
  match k with
  | 0 => exact wordsbf16_S7x32x1024_S1x32x1024_0_0_0
  | 1 => exact wordsbf16_S7x32x1024_S1x32x1024_1_0_0
  | 2 => exact wordsbf16_S7x32x1024_S1x32x1024_2_0_0
  | 3 => exact wordsbf16_S7x32x1024_S1x32x1024_3_0_0
  | 4 => exact wordsbf16_S7x32x1024_S1x32x1024_4_0_0
  | 5 => exact wordsbf16_S7x32x1024_S1x32x1024_5_0_0
  | 6 => exact wordsbf16_S7x32x1024_S1x32x1024_6_0_0

/-- The rows device `c` computes for its peer `j`, as the scatter addresses them. -/
abbrev srcRect (c : Dev nD) (g : Fin 4) (j : Fin 7) : Rect S1024x1024 :=
  Rect.unit (s := S1024x1024) (k0_off2 c (BitVec.ofNat 32 (256 * g.val)) (BitVec.ofNat 32 j.val)) S32x1024.size (k0_off2_inb c g j)
/-- The device's own rows, as its loads and stores address them, -/
abbrev ownRect (c : Dev nD) (g : Fin 4) : Rect S1024x1024 :=
  Rect.unit (s := S1024x1024) (k0_off3 c (BitVec.ofNat 32 (256 * g.val))) S32x1024.size (k0_off3_inb c g)
/-- and as the gather's copies do. -/
abbrev gatRect (c : Dev nD) (g : Fin 4) : Rect S1024x1024 :=
  Rect.unit (s := S1024x1024) (k0_off4 c (BitVec.ofNat 32 (256 * g.val))) S32x1024.size (k0_off4_inb c g)

abbrev srcM (c : Dev nD) (g : Fin 4) (j : Fin 7) : Memref sig .tc .vmem S32x1024 .bf16 := accM.slice (srcRect c g j) (fun _ => rfl)
abbrev gatM (c : Dev nD) (g : Fin 4) : Memref sig .tc .vmem S32x1024 .bf16 := accM.slice (gatRect c g) (fun _ => rfl)
abbrev slotM (g : Fin 4) (k : Fin 7) : Memref sig .tc .vmem S32x1024 .bf16 :=
  ((recvM g).slice (slotRect k) (fun _ => rfl)).squeeze S32x1024 squeezes_S1x32x1024_S32x1024

theorem srcM_word (c : Dev nD) (g : Fin 4) (j : Fin 7) : (srcM c g j).view.WordExact :=
  (Memref.isWhole_whole cc0_scratch2).wordExact_slice rfl _ (k0_off2_wordsbf16 c g j)
theorem gatM_word (c : Dev nD) (g : Fin 4) : (gatM c g).view.WordExact :=
  (Memref.isWhole_whole cc0_scratch2).wordExact_slice rfl _ (k0_off4_wordsbf16 c g)
theorem slotM_word (g : Fin 4) (k : Fin 7) : (slotM g k).view.WordExact :=
  ((recvM_whole g).wordExact_slice rfl _ (slotRect_words k)).reshape _ _

/-! ## The semaphores and the devices -/

/-- The barrier semaphore. -/
abbrev barS : Sem sig := (SemArray.scalar (sig.barrier 0 rfl) : Sems sig S_).sem
/-- The semaphores of the two local copies. -/
abbrev kSem : DmaSem sig := ((cc0_scratch7.slice (Rect.unit (s := S2) ![0] S1.size inb_S2_S1_0) : DmaSems sig S1).squeeze S_ squeezes_S1_S_).sem
abbrev vSem : DmaSem sig := ((cc0_scratch7.slice (Rect.unit (s := S2) ![1] S1.size inb_S2_S1_1) : DmaSems sig S1).squeeze S_ squeezes_S1_S_).sem
/-- The `i`-th send and the `i`-th receive semaphore. -/
abbrev sendS (i : Fin 56) : DmaSem sig := ((cc0_scratch8.slice (Rect.unit (s := S56) ![i.val] S1.size (sem_inb i)) : DmaSems sig S1).squeeze S_ squeezes_S1_S_).sem
abbrev recvS (i : Fin 56) : DmaSem sig := ((cc0_scratch9.slice (Rect.unit (s := S56) ![i.val] S1.size (sem_inb i)) : DmaSems sig S1).squeeze S_ squeezes_S1_S_).sem

/-- Peer `j` counted from the other end. -/
def rev (j : Fin 7) : Fin 7 := ⟨6 - j.val, by omega⟩
/-- The semaphore of chunk `g`'s scatter to peer `j`, -/
def rsIx (g : Fin 4) (j : Fin 7) : Fin 56 := ⟨14 * g.val + j.val, by omega⟩
/-- and of its gather to peer `j`. -/
def agIx (g : Fin 4) (j : Fin 7) : Fin 56 := ⟨14 * g.val + 7 + j.val, by omega⟩

/-- The device the program computes for peer `j`. -/
def devJ (c : Dev nD) : Fin 7 → Dev nD
  | 0 => ⟨k0_dev1 c, k0_dev1_lt c⟩
  | 1 => ⟨k0_dev2 c, k0_dev2_lt c⟩
  | 2 => ⟨k0_dev3 c, k0_dev3_lt c⟩
  | 3 => ⟨k0_dev4 c, k0_dev4_lt c⟩
  | 4 => ⟨k0_dev5 c, k0_dev5_lt c⟩
  | 5 => ⟨k0_dev6 c, k0_dev6_lt c⟩
  | 6 => ⟨k0_dev7 c, k0_dev7_lt c⟩

/-! ## The steps -/

/-- Programs of the kernel's core. -/
abbrev PG (F : FTy → Type) [FloatOps F] (α : Type) : Type _ := Prog (TpuEff nD τ sig (Elt F) Λ₀ .tc) α

/-- The same step for the seven peers in turn. -/
def seq7 (f : Fin 7 → PG F PUnit) : PG F PUnit := do
  f 0; f 1; f 2; f 3; f 4; f 5; f 6

abbrev kSrc (c : Dev nD) : Memref sig .tc .hbm S1024x8x128 .f32 :=
  (kArr.slice (Rect.unit (s := S1x1024x64x128) (k0_off1 c) S1x1024x8x128.size (k0_off1_inb c)) (fun _ => rfl)).squeeze S1024x8x128 squeezes_S1x1024x8x128_S1024x8x128
abbrev vSrc (c : Dev nD) : Memref sig .tc .hbm S1024x8x128 .f32 :=
  (vArr.slice (Rect.unit (s := S1x1024x64x128) (k0_off1 c) S1x1024x8x128.size (k0_off1_inb c)) (fun _ => rfl)).squeeze S1024x8x128 squeezes_S1x1024x8x128_S1024x8x128

/-- The copies of the device's heads' keys and values set going. -/
def kStart (c : Dev nD) : PG F PUnit :=
  Prog.lift (.enqueueDma (kSrc c) (.here kM) (.dma kSem) ((View.wordExact_bits rfl).reshape _ _) (Memref.isWhole_whole _).wordExact ⟨Or.inl rfl, trivial⟩)
def vStart (c : Dev nD) : PG F PUnit :=
  Prog.lift (.enqueueDma (vSrc c) (.here vM) (.dma vSem) ((View.wordExact_bits rfl).reshape _ _) (Memref.isWhole_whole _).wordExact ⟨Or.inl rfl, trivial⟩)
/-- Their arrival awaited. -/
def kWait (c : Dev nD) : PG F PUnit :=
  Prog.lift (.waitDma2 kSem (kSrc c) kM ((View.wordExact_bits rfl).reshape _ _) (Memref.isWhole_whole _).wordExact)
def vWait (c : Dev nD) : PG F PUnit :=
  Prog.lift (.waitDma2 vSem (vSrc c) vM ((View.wordExact_bits rfl).reshape _ _) (Memref.isWhole_whole _).wordExact)

/-- The barrier's signal to peer `j`. -/
def sigTo (c : Dev nD) (j : Fin 7) : PG F PUnit := semSignalWord (devJ c j) barS 1#32

/-- Chunk `g`'s rows for peer `j` sent to it. -/
def rsSend (c : Dev nD) (g : Fin 4) (j : Fin 7) : PG F PUnit :=
  Prog.lift (.enqueueDma (srcM c g j) (.remote (Dev.tc (devJ c j)) (slotM g (rev j)) (.dma (sendS (rsIx g j)))) (.dma (recvS (rsIx g (rev j))))
    (srcM_word c g j) (slotM_word g (rev j)) ⟨⟨rfl, Or.inl rfl⟩, trivial⟩)

/-- The end of that transfer and of the one that arrives beside it. -/
def rsWait (c : Dev nD) (g : Fin 4) (j : Fin 7) : PG F PUnit := do
  Prog.lift (.waitDma2 (sendS (rsIx g j)) (slotM g (rev j)) (srcM c g j) (slotM_word g (rev j)) (srcM_word c g j))
  Prog.lift (.waitDma2 (recvS (rsIx g (rev j))) (srcM c g j) (slotM g (rev j)) (srcM_word c g j) (slotM_word g (rev j)))

/-- The reduced rows sent to peer `j`. -/
def agSend (c : Dev nD) (g : Fin 4) (j : Fin 7) : PG F PUnit :=
  Prog.lift (.enqueueDma (gatM c g) (.remote (Dev.tc (devJ c j)) (gatM c g) (.dma (sendS (agIx g j)))) (.dma (recvS (agIx g (rev j))))
    (gatM_word c g) (gatM_word c g) ⟨⟨rfl, Or.inl rfl⟩, trivial⟩)

def agWait (c : Dev nD) (g : Fin 4) (j : Fin 7) : PG F PUnit := do
  Prog.lift (.waitDma2 (sendS (agIx g j)) (gatM c g) (gatM c g) (gatM_word c g) (gatM_word c g))
  Prog.lift (.waitDma2 (recvS (agIx g (rev j))) (gatM c g) (gatM c g) (gatM_word c g) (gatM_word c g))

/-- Chunk `g` computed and stored. -/
def chunkStep (g : Fin 4) (wq wo : FVec F S1024x1024 .bf16) (k v : FVec F S1024x8x128 .bf16) : PG F PUnit := do
  let x : Vec F S1x256x1024 .f32 ← Prog.lift (.load xM (xRect g).toLoadRect (View.loadsAt_vmem h_S1x256x1024))
  let _ : Vec F S256x1024 .bf16 ← Prog.lift (.load accM (accRect g).toLoadRect (View.loadsAt_vmem h_S256x1024))
  Prog.lift (.store accM (accRect g) (chunkV g wq wo k v x) Finset.univ
    (View.stores_vmem h_S256x1024 ((Memref.isWhole_whole cc0_scratch2).storeExact_slice rfl _ (accRect_packed g)) (fun _ => rfl)) (.inl rfl))

/-- One slot of a receive buffer read. -/
def slotLoad (g : Fin 4) (k : Fin 7) : PG F (Vec F S1x32x1024 .bf16) :=
  Prog.lift (.load (recvM g) (slotRect k).toLoadRect (View.loadsAt_vmem h_S1x32x1024))

/-- The device's own rows of chunk `g` summed with the seven received, and stored. -/
def redStep (c : Dev nD) (g : Fin 4) : PG F PUnit := do
  let own : Vec F S32x1024 .bf16 ← Prog.lift (.load accM (ownRect c g).toLoadRect (View.loadsAt_vmem h_S32x1024))
  let s0 ← slotLoad g 0
  let s1 ← slotLoad g 1
  let s2 ← slotLoad g 2
  let s3 ← slotLoad g 3
  let s4 ← slotLoad g 4
  let s5 ← slotLoad g 5
  let s6 ← slotLoad g 6
  let _ : Vec F S32x1024 .bf16 ← Prog.lift (.load accM (ownRect c g).toLoadRect (View.loadsAt_vmem h_S32x1024))
  Prog.lift (.store accM (ownRect c g) (redV g own ![s0, s1, s2, s3, s4, s5, s6]) Finset.univ
    (View.stores_vmem h_S32x1024 ((Memref.isWhole_whole cc0_scratch2).storeExact_slice rfl _ (k0_off3_packedbf16 c g)) (fun _ => rfl)) (.inl rfl))

/-- Chunk `g`'s rows of the result stored. -/
def outStep (g : Fin 4) : PG F PUnit := do
  let r : Vec F S256x1024 .bf16 ← Prog.lift (.load accM (accRect g).toLoadRect (View.loadsAt_vmem h_S256x1024))
  let _ : Vec F S1x256x1024 .f32 ← Prog.lift (.load outM (xRect g).toLoadRect (View.loadsAt_vmem h_S1x256x1024))
  Prog.lift (.store outM (xRect g) (outV g r) Finset.univ (View.stores_vmem_bits_univ h_S1x256x1024 rfl) (.inl rfl))

/-- The body on device `c`, after the barrier's signals and the local copies' start. -/
def phases (c : Dev nD) (wq wo : FVec F S1024x1024 .bf16) (k v : FVec F S1024x8x128 .bf16) : PG F PUnit := do
  chunkStep 0 wq wo k v
  seq7 (rsSend c 0)
  chunkStep 1 wq wo k v
  seq7 (rsSend c 1)
  chunkStep 2 wq wo k v
  seq7 (rsSend c 2)
  seq7 (rsWait c 0)
  redStep c 0
  seq7 (agSend c 0)
  seq7 (rsWait c 1)
  redStep c 1
  seq7 (agSend c 1)
  chunkStep 3 wq wo k v
  seq7 (rsSend c 3)
  seq7 (agWait c 0)
  outStep 0
  seq7 (rsWait c 2)
  redStep c 2
  seq7 (agSend c 2)
  seq7 (agWait c 1)
  outStep 1
  seq7 (rsWait c 3)
  redStep c 3
  seq7 (agSend c 3)
  seq7 (agWait c 2)
  outStep 2
  seq7 (agWait c 3)
  outStep 3

/-- The body on device `c`. -/
def prog (c : Dev nD) : PG F PUnit := do
  kStart c
  vStart c
  seq7 (sigTo c)
  let wq : Vec F S1024x1024 .f32 ← Prog.lift (.load wqM (Rect.unit (s := S1024x1024) ![0, 0] S1024x1024.size inb_S1024x1024_S1024x1024_0_0).toLoadRect (View.loadsAt_vmem h_S1024x1024))
  let wo : Vec F S1024x1024 .f32 ← Prog.lift (.load woM (Rect.unit (s := S1024x1024) ![0, 0] S1024x1024.size inb_S1024x1024_S1024x1024_0_0).toLoadRect (View.loadsAt_vmem h_S1024x1024))
  semWaitWord barS 7#32
  kWait c
  vWait c
  let k : Vec F S1024x8x128 .f32 ← Prog.lift (.load kM (Rect.unit (s := S1024x8x128) ![0, 0, 0] S1024x8x128.size inb_S1024x8x128_S1024x8x128_0_0_0).toLoadRect (View.loadsAt_vmem h_S1024x8x128))
  let v : Vec F S1024x8x128 .f32 ← Prog.lift (.load vM (Rect.unit (s := S1024x8x128) ![0, 0, 0] S1024x8x128.size inb_S1024x8x128_S1024x8x128_0_0_0).toLoadRect (View.loadsAt_vmem h_S1024x8x128))
  phases c (k0_pay2 wq) (k0_pay3 wo) (k0_pay4 k) (k0_pay5 v)

set_option maxRecDepth 65536 in
/-- The printed body is that program, on the device it reads. -/
theorem body_eq : cc0_body (F := F) xM (Memref.isWhole_whole _) wqM (Memref.isWhole_whole _) kArr (Memref.isWhole_whole _) vArr (Memref.isWhole_whole _)
    woM (Memref.isWhole_whole _) outM (Memref.isWhole_whole _) kM (Memref.isWhole_whole _) vM (Memref.isWhole_whole _) accM (Memref.isWhole_whole _)
    (Memref.whole cc0_scratch3) (Memref.isWhole_whole _) (Memref.whole cc0_scratch4) (Memref.isWhole_whole _)
    (Memref.whole cc0_scratch5) (Memref.isWhole_whole _) (Memref.whole cc0_scratch6) (Memref.isWhole_whole _) cc0_scratch7 cc0_scratch8 cc0_scratch9
    = .op .deviceId (fun c => prog c) := by
  rw [cc0_body_eq_skeleton]
  rfl

end Cert.KernelIdeal.Coll

end
-- ==== Proof.Geo.lean ====
/- The peers of a device, the numbers of its semaphores, and the rows of the accumulator: what the
   protocol between the eight devices is stated in. -/
module

public import proofs.«01_k».proof.Proof.Prog
public import proofs.«01_k».proof.Proof.Gen.KernelIdeal.Launch
public import proofs.«01_k».proof.Proof.Gen.KernelIdeal.Points

@[expose] public section

noncomputable section

namespace Cert.KernelIdeal.Coll

open Idealize.ShloMosaic Idealize.ShloMosaic.TcCoe Idealize.SL.Sem
open Cert.KernelIdeal Cert.KernelIdeal.Gen

variable {F : FTy → Type} [FloatOps F]

/-! ## Peers -/

/-- Peer `j` of device `c`: the device `j + 1` places on. -/
def peer (j : Fin 7) (c : Dev nD) : Dev nD := ⟨(c.val + j.val + 1) % 8, Nat.mod_lt _ (by decide)⟩

theorem rev_rev (j : Fin 7) : rev (rev j) = j := by revert j; decide
theorem peer_rev (j : Fin 7) (c : Dev nD) : peer (rev j) (peer j c) = c := by revert j c; decide
theorem peer_rev' (j : Fin 7) (c : Dev nD) : peer j (peer (rev j) c) = c := by revert j c; decide
theorem peer_ne (j : Fin 7) (c : Dev nD) : peer j c ≠ c := by revert j c; decide
theorem peer_inj (c : Dev nD) : Function.Injective fun j : Fin 7 => peer j c := by revert c; decide
theorem exists_peer (c p : Dev nD) (h : p ≠ c) : ∃ j, p = peer j c := by revert c p; decide

theorem devJ_eq (c : Dev nD) (j : Fin 7) : devJ c j = peer j c := by
  match j with
  | 0 => exact Fin.ext (k0_dev1_eq c)
  | 1 => exact Fin.ext (k0_dev2_eq c)
  | 2 => exact Fin.ext (k0_dev3_eq c)
  | 3 => exact Fin.ext (k0_dev4_eq c)
  | 4 => exact Fin.ext (k0_dev5_eq c)
  | 5 => exact Fin.ext (k0_dev6_eq c)
  | 6 => exact Fin.ext (k0_dev7_eq c)

/-- Moving to peer `j`, as a permutation of the devices. -/
def shift (j : Fin 7) : Dev nD ≃ Dev nD := ⟨peer j, peer (rev j), peer_rev j, peer_rev' j⟩
/-- Counting the peers from the other end. -/
def revE : Fin 7 ≃ Fin 7 := ⟨rev, rev, rev_rev, rev_rev⟩

/-! ## The semaphores by number -/

/-- Semaphore `k` of transfer group `a`: groups `0, 2, 4, 6` scatter the four chunks, `1, 3, 5, 7` gather them. -/
def ix (a : Fin 8) (k : Fin 7) : Fin 56 := ⟨7 * a.val + k.val, by omega⟩
/-- Chunk `g`'s scatter group, -/
def rsA (g : Fin 4) : Fin 8 := ⟨2 * g.val, by omega⟩
/-- its gather group; -/
def agA (g : Fin 4) : Fin 8 := ⟨2 * g.val + 1, by omega⟩
/-- a group's chunk. -/
def gOf (a : Fin 8) : Fin 4 := ⟨a.val / 2, by omega⟩

theorem rsIx_eq (g : Fin 4) (j : Fin 7) : rsIx g j = ix (rsA g) j := by revert g j; decide
theorem agIx_eq (g : Fin 4) (j : Fin 7) : agIx g j = ix (agA g) j := by revert g j; decide
theorem gOf_rs (g : Fin 4) : gOf (rsA g) = g := by revert g; decide
theorem gOf_ag (g : Fin 4) : gOf (agA g) = g := by revert g; decide

theorem sendS_val : ∀ i : Fin 56, (sendS i).val = 6 + i.val := by decide +kernel
theorem recvS_val : ∀ i : Fin 56, (recvS i).val = 62 + i.val := by decide +kernel
theorem kSem_val : (kSem).val = 4 := by decide +kernel
theorem vSem_val : (vSem).val = 5 := by decide +kernel

/-- The kernel's own semaphores: the two of the local copies, the sends', the receives'. -/
abbrev OI : Type := Fin 2 ⊕ (Fin 8 × Fin 7) ⊕ (Fin 8 × Fin 7)
def osem : OI → SemLoc sig
  | .inl 0 => .dma kSem
  | .inl 1 => .dma vSem
  | .inr (.inl (a, k)) => .dma (sendS (ix a k))
  | .inr (.inr (a, k)) => .dma (recvS (ix a k))
/-- All the protocol's semaphores: the barrier and those. -/
abbrev CI : Type := Option OI
def csem : CI → SemLoc sig
  | none => .reg barS
  | some o => osem o

/-- The number of a DMA semaphore. -/
def numOf : SemLoc sig → ℕ
  | .reg _ => 0
  | .dma q => q.val
/-- The number of one of the kernel's own. -/
def oNum : OI → ℕ
  | .inl b => 4 + b.val
  | .inr (.inl (a, k)) => 6 + (7 * a.val + k.val)
  | .inr (.inr (a, k)) => 62 + (7 * a.val + k.val)

theorem numOf_osem (o : OI) : numOf (osem o) = oNum o := by
  match o with
  | .inl 0 => exact kSem_val
  | .inl 1 => exact vSem_val
  | .inr (.inl (a, k)) => exact sendS_val (ix a k)
  | .inr (.inr (a, k)) => exact recvS_val (ix a k)

theorem oNum_inj : Function.Injective oNum := by
  rintro (b | ⟨a, k⟩ | ⟨a, k⟩) (b' | ⟨a', k'⟩ | ⟨a', k'⟩) h <;> simp only [oNum] at h
  · have : b = b' := Fin.ext (by omega)
    rw [this]
  · omega
  · omega
  · omega
  · have h1 : a = a' := Fin.ext (by omega)
    have h2 : k = k' := Fin.ext (by omega)
    rw [h1, h2]
  · omega
  · omega
  · omega
  · have h1 : a = a' := Fin.ext (by omega)
    have h2 : k = k' := Fin.ext (by omega)
    rw [h1, h2]

theorem osem_inj : Function.Injective osem := fun o o' h =>
  oNum_inj (by rw [← numOf_osem, ← numOf_osem, h])

theorem osem_ne_bar (o : OI) : osem o ≠ .reg barS := by
  match o with
  | .inl 0 => exact fun h => by cases h
  | .inl 1 => exact fun h => by cases h
  | .inr (.inl (a, k)) => exact fun h => by cases h
  | .inr (.inr (a, k)) => exact fun h => by cases h

theorem csem_inj : Function.Injective csem := by
  rintro (_ | o) (_ | o') h
  · rfl
  · exact absurd h.symm (osem_ne_bar o')
  · exact absurd h (osem_ne_bar o)
  · exact congrArg some (osem_inj h)

abbrev kcell (ck : Dev nD × CI) : GSem nD τ sig := ((ck.1 : Thread nD τ), csem ck.2)

theorem kcell_inj : Function.Injective (kcell : Dev nD × CI → GSem nD τ sig) := by
  rintro ⟨c, k⟩ ⟨c', k'⟩ h
  have h1 : c = c' := by have := congrArg (fun g : GSem nD τ sig => g.1.1) h; exact this
  subst h1
  have h2 : k = k' := csem_inj (congrArg Prod.snd h)
  rw [h2]

abbrev barCell (c : Dev nD) : GSem nD τ sig := ((c : Thread nD τ), .reg barS)
abbrev copyCell (c : Dev nD) (b : Fin 2) : GSem nD τ sig := ((c : Thread nD τ), osem (.inl b))
abbrev sendCell (c : Dev nD) (a : Fin 8) (k : Fin 7) : GSem nD τ sig := ((c : Thread nD τ), osem (.inr (.inl (a, k))))
abbrev recvCell (c : Dev nD) (a : Fin 8) (k : Fin 7) : GSem nD τ sig := ((c : Thread nD τ), osem (.inr (.inr (a, k))))

/-! ## The rows of the accumulator -/

theorem rowRect_inb : ∀ (g : Fin 4) (p : Dev nD), ∀ a, (![256 * g.val + 32 * p.val, 0] : Fin 2 → ℕ) a + S32x1024.size a ≤ S1024x1024.size a := by decide +kernel

/-- The rows of chunk `g` that device `p` reduces. -/
abbrev rowRect (g : Fin 4) (p : Dev nD) : Rect S1024x1024 :=
  Rect.unit (s := S1024x1024) ![256 * g.val + 32 * p.val, 0] S32x1024.size (rowRect_inb g p)
abbrev rowM (g : Fin 4) (p : Dev nD) : Memref sig .tc .vmem S32x1024 .bf16 := accM.slice (rowRect g p) (fun _ => rfl)

theorem slice_congr {off off' : Fin 2 → ℕ} (h : off = off') (hi : ∀ a, off a + S32x1024.size a ≤ S1024x1024.size a)
    (hi' : ∀ a, off' a + S32x1024.size a ≤ S1024x1024.size a) :
    (accM.slice (Rect.unit (s := S1024x1024) off S32x1024.size hi) (fun _ => rfl) : Memref sig .tc .vmem S32x1024 .bf16)
      = accM.slice (Rect.unit (s := S1024x1024) off' S32x1024.size hi') (fun _ => rfl) := by
  subst h; rfl

theorem ownRect_eq (c : Dev nD) (g : Fin 4) : ownRect c g = rowRect g c := by
  have h : ∀ {off off' : Fin 2 → ℕ} (_ : off = off') (hi : ∀ a, off a + S32x1024.size a ≤ S1024x1024.size a)
      (hi' : ∀ a, off' a + S32x1024.size a ≤ S1024x1024.size a),
      Rect.unit (s := S1024x1024) off S32x1024.size hi = Rect.unit (s := S1024x1024) off' S32x1024.size hi' := by
    intro _ _ h _ _; subst h; rfl
  exact h (k0_off3_eq c g) _ _
theorem gatM_eq (c : Dev nD) (g : Fin 4) : gatM c g = rowM g c := slice_congr (k0_off4_eq c g) _ _
theorem srcM_eq (c : Dev nD) (g : Fin 4) (j : Fin 7) : srcM c g j = rowM g (peer j c) :=
  slice_congr ((k0_off2_eq c g j).trans (by
    have : (c.val + j.val + 1) % 8 = (peer j c).val := rfl
    rw [← this])) _ _

end Cert.KernelIdeal.Coll

end
-- ==== Proof.Proto.lean ====
/- The protocol between the eight devices: what each device computes and holds, what each
   semaphore's one round hands over, what each device owes at launch and the order of its waits. -/
module

public import proofs.«01_k».proof.Proof.Geo
public import Idealize.ShloMosaic.Lib.Pipeline.Launch
public import Idealize.ShloMosaic.Lib.Pipeline.Kit
public import Idealize.ShloMosaic.Lib.Tactic

@[expose] public section

noncomputable section

namespace Cert.KernelIdeal.Coll

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-! ## The resource algebra: the pipeline's rounds and the protocol's, whose duties are numbered by peers -/

abbrev UB : Type := URounds (GSem nD τ sig) (Fin 7)
abbrev UU : Type := UR sig nD τ × UB
local notation "𝕄" => MT nD τ sig Unit (Elt F) ℕ UU ℕ
abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Contents -/

/-- The chunk, the place in it, the reducing device and the place in its rows, of a row of the accumulator. -/
def gI (i : S1024x1024.Idx) : Fin 4 := ⟨(i 0).val / 256, by have : (i 0).val < 1024 := (i 0).isLt; omega⟩
def locI (i : S1024x1024.Idx) : S256x1024.Idx := fun
  | 0 => ⟨(i 0).val % 256, Nat.mod_lt _ (by decide)⟩
  | 1 => i 1
def pI (i : S1024x1024.Idx) : Dev nD := ⟨(i 0).val % 256 / 32, by have : (i 0).val < 1024 := (i 0).isLt; show _ < 8; omega⟩
def rowI (i : S1024x1024.Idx) : S32x1024.Idx := fun
  | 0 => ⟨(i 0).val % 32, Nat.mod_lt _ (by decide)⟩
  | 1 => i 1
def gO (i : S1x1024x1024.Idx) : Fin 4 := ⟨(i 1).val / 256, by have : (i 1).val < 1024 := (i 1).isLt; omega⟩
def locO (i : S1x1024x1024.Idx) : S1x256x1024.Idx := fun
  | 0 => i 0
  | 1 => ⟨(i 1).val % 256, Nat.mod_lt _ (by decide)⟩
  | 2 => i 2

/-- The contents a device's accumulator holds of its own partial product, chunk by chunk. -/
def partOf (x : Vec F S1x1024x1024 .f32) (wq wo : Vec F S1024x1024 .f32) (k v : Vec F S1024x8x128 .f32) : S1024x1024.Idx → Elt F .bf16 :=
  fun i => chunkV (gI i) (k0_pay2 wq) (k0_pay3 wo) (k0_pay4 k) (k0_pay5 v) (fun j => x ((xRect (gI i)).emb j)) (locI i)

/-- What slot `k` of chunk `g`'s receive buffer on device `c` receives: its peer's partial product at `c`'s rows. -/
def slotX (P : Dev nD → S1024x1024.Idx → Elt F .bf16) (c : Dev nD) (g : Fin 4) (k : Fin 7) : S32x1024.Idx → Elt F .bf16 :=
  fun j => P (peer k c) ((rowRect g c).emb j)
/-- The same as the load of the slot yields it, under a leading axis of extent one. -/
def slotL (X : S32x1024.Idx → Elt F .bf16) : Vec F S1x32x1024 .bf16 :=
  fun j => X ((Shape.reshapeEquiv squeezes_S1x32x1024_S32x1024.numel_eq).symm j)

/-- The reduced rows, all chunks and all devices: the accumulator's contents at the end, alike on every device. -/
def redOf (P : Dev nD → S1024x1024.Idx → Elt F .bf16) : S1024x1024.Idx → Elt F .bf16 :=
  fun i => redV (gI i) (fun j => P (pI i) ((rowRect (gI i) (pI i)).emb j)) (fun k => slotL (slotX P (pI i) (gI i) k)) (rowI i)

/-- The result. -/
def outOf (R : S1024x1024.Idx → Elt F .bf16) : S1x1024x1024.Idx → Elt F .f32 :=
  fun i => outV (gO i) (fun j => R ((accRect (gO i)).emb j)) (locO i)

/-- The staged inputs of device `c` and its heads' keys and values. -/
def xIn (c : Dev nD) : (cc0_stg0_0 : Ref sig .tc).ty.Contents (Elt F) := (win0_0.blk (0 : Fin 1)).view.read (Elt F) (m ((c : Thread nD τ).loc main_arg0))
def wqIn (c : Dev nD) : (cc0_stg1_0 : Ref sig .tc).ty.Contents (Elt F) := (win0_1.blk (0 : Fin 1)).view.read (Elt F) (m ((c : Thread nD τ).loc main_arg1))
def woIn (c : Dev nD) : (cc0_stg2_0 : Ref sig .tc).ty.Contents (Elt F) := (win0_2.blk (0 : Fin 1)).view.read (Elt F) (m ((c : Thread nD τ).loc main_arg4))
def kIn (c : Dev nD) : Vec F S1024x8x128 .f32 := (kSrc c).view.read (Elt F) (m ((c : Thread nD τ).loc main_arg2))
def vIn (c : Dev nD) : Vec F S1024x8x128 .f32 := (vSrc c).view.read (Elt F) (m ((c : Thread nD τ).loc main_arg3))

/-- Device `c`'s partial product. -/
def PP (c : Dev nD) : S1024x1024.Idx → Elt F .bf16 := partOf (xIn m c) (wqIn m c) (woIn m c) (kIn m c) (vIn m c)
/-- The reduced rows. -/
def RR : S1024x1024.Idx → Elt F .bf16 := redOf (PP m)

/-! ## The assertions -/

/-- Elements `S` of device `c`'s accumulator at share `q`, holding `f` there. -/
def accPt (c : Dev nD) (S : Finset S1024x1024.Idx) (q : PosShare TreeShare) (f : S1024x1024.Idx → Elt F .bf16) : sProp 𝕄 :=
  ((c : Thread nD τ).loc cc0_scratch2) ↦[S]{q} f

abbrev rowSet (g : Fin 4) (p : Dev nD) : Finset S1024x1024.Idx := (rowRect g p).set
abbrev chunkSet (g : Fin 4) : Finset S1024x1024.Idx := (accRect g).set

/-- Slot `k` of chunk `g`'s receive buffer on device `c`, read as `X`. -/
def slotOwn (c : Dev nD) (g : Fin 4) (k : Fin 7) (X : S32x1024.Idx → Elt F .bf16) : sProp 𝕄 :=
  owns (c : Thread nD τ) (slotM g k) fullShare X

omit [FloatOps F] in
instance accPt_storable (c S q f) : BI.Storable (upEmb : UEmb _ 𝕄) (accPt (F := F) c S q f) := by unfold accPt; infer_instance
omit [FloatOps F] in
instance slotOwn_storable (c g k X) : BI.Storable (upEmb : UEmb _ 𝕄) (slotOwn (F := F) c g k X) := by unfold slotOwn; infer_instance

/-- The share of its own reduced rows a device lends the transfer to peer `j`. -/
def lend (j : Fin 7) : PosShare TreeShare := Transfers.shareTokN fullShare j.val
/-- What it keeps meanwhile. -/
def kept : PosShare TreeShare := Transfers.shareDrop fullShare 7

/-! ## What each semaphore's round hands over -/

/-- Duty `j` of `t`'s barrier, paid by the device whose peer `j` is `t`: slot `j` of each of that device's receive buffers. -/
def barPay (t : Dev nD) (j : Fin 7) : sProp 𝕄 :=
  bigSep Finset.univ fun g : Fin 4 => iprop(∃ X, slotOwn (F := F) (peer (rev j) t) g j X)

/-- The local copies': the scratch holding the heads' block, and the lent source back. -/
def kPay (c : Dev nD) : sProp 𝕄 :=
  iprop(owns (c : Thread nD τ) kM fullShare (kIn m c) ∗ ((kSrc c).view.loc (c : Thread nD τ) ↦[(kSrc c).view.set]{fullShare} m ((c : Thread nD τ).loc main_arg2)))
def vPay (c : Dev nD) : sProp 𝕄 :=
  iprop(owns (c : Thread nD τ) vM fullShare (vIn m c) ∗ ((vSrc c).view.loc (c : Thread nD τ) ↦[(vSrc c).view.set]{fullShare} m ((c : Thread nD τ).loc main_arg3)))

/-- The end of a send: of a scatter nothing, of a gather the share lent. -/
def sendPay (c : Dev nD) (a : Fin 8) (k : Fin 7) : sProp 𝕄 :=
  if a.val % 2 = 0 then iprop(emp) else accPt c (rowSet (gOf a) c) (lend k) (RR m)

/-- A landing: of a scatter the filled slot, with the rows it was read from, which the gather writes back to;
    of a gather the peer's reduced rows. -/
def recvPay (c : Dev nD) (a : Fin 8) (k : Fin 7) : sProp 𝕄 :=
  if a.val % 2 = 0 then iprop(slotOwn c (gOf a) k (slotX (PP m) c (gOf a) k) ∗ accPt (peer k c) (rowSet (gOf a) c) fullShare (PP m (peer k c)))
  else accPt c (rowSet (gOf a) (peer k c)) fullShare (RR m)

def aOf (i : ℕ) : Fin 8 := ⟨i / 7 % 8, Nat.mod_lt _ (by decide)⟩
def kOf (i : ℕ) : Fin 7 := ⟨i % 7, Nat.mod_lt _ (by decide)⟩

/-- By the semaphore's number. -/
def payN (c : Dev nD) (n : ℕ) : sProp 𝕄 :=
  if n = 4 then kPay m c else if n = 5 then vPay m c
  else if n < 62 then sendPay m c (aOf (n - 6)) (kOf (n - 6)) else recvPay m c (aOf (n - 62)) (kOf (n - 62))

/-- The credit of a block of keys, and of 32 rows of the accumulator. -/
abbrev NK : ℕ := (kM).view.dmaCredit
abbrev N : ℕ := (rowM 0 0).view.dmaCredit
theorem NK_pos : 0 < NK := View.dmaCredit_pos _ (by decide)
theorem N_pos : 0 < N := View.dmaCredit_pos _ (by decide)

/-- One round, round 0: the barrier has seven duties of one unit, every other semaphore of the protocol one duty. -/
def Rd : Rounds.Schedule (GSem nD τ sig) (Fin 7) 𝕄 where
  duties g r := if r = 0 ∧ g.1.2 = .tc then (if g.2 = .reg barS then Finset.univ else if 4 ≤ numOf g.2 then {0} else ∅) else ∅
  unitless _ := False
  amount g _ _ := if g.2 = .reg barS then 1 else if numOf g.2 < 6 then NK else N
  payload g _ d := if g.2 = .reg barS then barPay g.1.1 d else payN m g.1.1 (numOf g.2)
  amount_pos g _ _ _ := by
    by_cases h : g.2 = .reg barS
    · rw [if_pos h]; exact Nat.one_pos
    · rw [if_neg h]; split
      · exact NK_pos
      · exact N_pos

omit [FloatOps F] in
instance barPay_storable (t j) : BI.Storable (upEmb : UEmb _ 𝕄) (barPay (F := F) t j) := by unfold barPay; infer_instance
instance sendPay_storable (c a k) : BI.Storable (upEmb : UEmb _ 𝕄) (sendPay m c a k) := by unfold sendPay; split <;> infer_instance
instance recvPay_storable (c a k) : BI.Storable (upEmb : UEmb _ 𝕄) (recvPay m c a k) := by unfold recvPay; split <;> infer_instance
omit [FloatOps F] in
instance kPay_storable (c) : BI.Storable (upEmb : UEmb _ 𝕄) (kPay m c) := by unfold kPay; infer_instance
omit [FloatOps F] in
instance vPay_storable (c) : BI.Storable (upEmb : UEmb _ 𝕄) (vPay m c) := by unfold vPay; infer_instance
instance payN_storable (c n) : BI.Storable (upEmb : UEmb _ 𝕄) (payN m c n) := by
  unfold payN; (repeat' split) <;> infer_instance

instance Rd_payload_storable (g : GSem nD τ sig) (r : ℕ) (d : Fin 7) : BI.Storable (upEmb : UEmb _ 𝕄) ((Rd m).payload g r d) := by
  show BI.Storable upEmb (if g.2 = .reg barS then barPay g.1.1 d else payN m g.1.1 (numOf g.2))
  split <;> infer_instance

/-! ### The tables -/

theorem oNum_ge (o : OI) : 4 ≤ oNum o := by
  match o with
  | .inl b => simp only [oNum]; omega
  | .inr (.inl (a, k)) => simp only [oNum]; omega
  | .inr (.inr (a, k)) => simp only [oNum]; omega

theorem duties_bar (c : Dev nD) : (Rd m).duties (barCell c) 0 = Finset.univ := by
  dsimp only [Rd]; rw [if_pos ⟨rfl, rfl⟩, if_pos rfl]
theorem duties_own (c : Dev nD) (o : OI) : (Rd m).duties ((c : Thread nD τ), osem o) 0 = {0} := by
  dsimp only [Rd]; rw [if_pos ⟨rfl, rfl⟩, if_neg (osem_ne_bar o), if_pos (by rw [numOf_osem]; exact oNum_ge o)]
theorem duties_later (g : GSem nD τ sig) : ∀ r, 1 ≤ r → (Rd m).duties g r = ∅ :=
  fun r hr => by dsimp only [Rd]; rw [if_neg fun h => by omega]

theorem amount_bar (c : Dev nD) (d : Fin 7) : (Rd m).amount (barCell c) 0 d = 1 := by dsimp only [Rd]; exact if_pos rfl
theorem amount_copy (c : Dev nD) (b : Fin 2) (d : Fin 7) : (Rd m).amount (copyCell c b) 0 d = NK := by
  dsimp only [Rd]; rw [if_neg (osem_ne_bar _), numOf_osem, if_pos (by simp only [oNum]; omega)]
theorem amount_send (c : Dev nD) (a : Fin 8) (k d : Fin 7) : (Rd m).amount (sendCell c a k) 0 d = N := by
  dsimp only [Rd]; rw [if_neg (osem_ne_bar _), numOf_osem, if_neg (by simp only [oNum]; omega)]
theorem amount_recv (c : Dev nD) (a : Fin 8) (k d : Fin 7) : (Rd m).amount (recvCell c a k) 0 d = N := by
  dsimp only [Rd]; rw [if_neg (osem_ne_bar _), numOf_osem, if_neg (by simp only [oNum]; omega)]

theorem expect_bar (c : Dev nD) : (Rd m).expect (barCell c) 0 = 7 := by
  unfold Schedule.expect Schedule.amountOf
  rw [duties_bar, Finset.sum_congr rfl fun d _ => amount_bar m c d, Finset.sum_const, Finset.card_univ, Fintype.card_fin, smul_eq_mul]
theorem expect_copy (c : Dev nD) (b : Fin 2) : (Rd m).expect (copyCell c b) 0 = NK := by
  unfold Schedule.expect Schedule.amountOf; rw [duties_own, Finset.sum_singleton, amount_copy]
theorem expect_send (c : Dev nD) (a : Fin 8) (k : Fin 7) : (Rd m).expect (sendCell c a k) 0 = N := by
  unfold Schedule.expect Schedule.amountOf; rw [duties_own, Finset.sum_singleton, amount_send]
theorem expect_recv (c : Dev nD) (a : Fin 8) (k : Fin 7) : (Rd m).expect (recvCell c a k) 0 = N := by
  unfold Schedule.expect Schedule.amountOf; rw [duties_own, Finset.sum_singleton, amount_recv]

theorem aOf_ix (a : Fin 8) (k : Fin 7) : aOf (7 * a.val + k.val) = a := Fin.ext (by simp only [aOf]; omega)
theorem kOf_ix (a : Fin 8) (k : Fin 7) : kOf (7 * a.val + k.val) = k := Fin.ext (by simp only [kOf]; omega)

theorem payload_bar (c : Dev nD) (d : Fin 7) : (Rd m).payload (barCell c) 0 d = barPay c d := by dsimp only [Rd]; exact if_pos rfl
theorem payload_k (c : Dev nD) (d : Fin 7) : (Rd m).payload (copyCell c 0) 0 d = kPay m c := by
  dsimp only [Rd]; rw [if_neg (osem_ne_bar _), numOf_osem]; exact if_pos rfl
theorem payload_v (c : Dev nD) (d : Fin 7) : (Rd m).payload (copyCell c 1) 0 d = vPay m c := by
  dsimp only [Rd]; rw [if_neg (osem_ne_bar _), numOf_osem]; exact (if_neg (by decide)).trans (if_pos rfl)
theorem payload_send (c : Dev nD) (a : Fin 8) (k d : Fin 7) : (Rd m).payload (sendCell c a k) 0 d = sendPay m c a k := by
  dsimp only [Rd]; rw [if_neg (osem_ne_bar _), numOf_osem, show oNum (.inr (.inl (a, k))) = 6 + (7 * a.val + k.val) from rfl]; unfold payN
  rw [if_neg (by omega), if_neg (by omega), if_pos (by omega), Nat.add_sub_cancel_left, aOf_ix, kOf_ix]
theorem payload_recv (c : Dev nD) (a : Fin 8) (k d : Fin 7) : (Rd m).payload (recvCell c a k) 0 d = recvPay m c a k := by
  dsimp only [Rd]; rw [if_neg (osem_ne_bar _), numOf_osem, show oNum (.inr (.inr (a, k))) = 62 + (7 * a.val + k.val) from rfl]; unfold payN
  rw [if_neg (by omega), if_neg (by omega), if_neg (by omega), Nat.add_sub_cancel_left, aOf_ix, kOf_ix]

theorem rest_bar (c : Dev nD) : bigSep ((Rd m).duties (barCell c) 0 \ ∅) (fun d => (Rd m).payload (barCell c) 0 d)
    = bigSep Finset.univ fun j : Fin 7 => barPay (F := F) c j := by
  rw [Finset.sdiff_empty, duties_bar]; exact bigSep_congr fun d _ => payload_bar m c d
theorem rest_own (c : Dev nD) (o : OI) : bigSep ((Rd m).duties ((c : Thread nD τ), osem o) 0 \ ∅) (fun d => (Rd m).payload ((c : Thread nD τ), osem o) 0 d)
    = (Rd m).payload ((c : Thread nD τ), osem o) 0 0 := by
  rw [Finset.sdiff_empty, duties_own, bigSep_singleton]

theorem sendPay_rs (c : Dev nD) (g : Fin 4) (k : Fin 7) : sendPay m c (rsA g) k = iprop(emp) := by
  unfold sendPay; exact if_pos (by simp only [rsA]; omega)
theorem sendPay_ag (c : Dev nD) (g : Fin 4) (k : Fin 7) : sendPay m c (agA g) k = accPt c (rowSet g c) (lend k) (RR m) := by
  unfold sendPay; rw [if_neg (by simp only [agA]; omega), gOf_ag]
theorem recvPay_rs (c : Dev nD) (g : Fin 4) (k : Fin 7) : recvPay m c (rsA g) k
    = iprop(slotOwn c g k (slotX (PP m) c g k) ∗ accPt (peer k c) (rowSet g c) fullShare (PP m (peer k c))) := by
  unfold recvPay; rw [if_pos (by simp only [rsA]; omega), gOf_rs]
theorem recvPay_ag (c : Dev nD) (g : Fin 4) (k : Fin 7) : recvPay m c (agA g) k = accPt c (rowSet g (peer k c)) fullShare (RR m) := by
  unfold recvPay; rw [if_neg (by simp only [agA]; omega), gOf_ag]

/-! ## What each device owes, and the levels of the semaphores -/

/-- The transfer groups in the order the program starts them. -/
def seqA : Fin 8 → Fin 8 := ![0, 2, 4, 1, 3, 6, 5, 7]

/-- The receive semaphore the `u`-th of a device's 56 sends pays, counted in program order. -/
def dueCell (c : Dev nD) (u : ℕ) : GSem nD τ sig := recvCell (peer (kOf u) c) (seqA (aOf u)) (rev (kOf u))

/-- What device `c` owes the receive semaphores once `n` of its sends are started, -/
def owed (c : Dev nD) (n : ℕ) : CellTallies nD τ sig Unit := ∑ u ∈ Finset.Ico n 56, tallyAt (dueCell c u) () N
/-- and the barriers once `n` of its signals are given. -/
def owedBar (c : Dev nD) (n : ℕ) : CellTallies nD τ sig Unit := ∑ u ∈ Finset.Ico n 7, tallyAt (barCell (peer (kOf u) c)) () 1

def O₀ (c : Dev nD) : CellTallies nD τ sig Unit := owed c 0 + owedBar c 0

theorem sum_Ico_bot {M : Type} [AddCommMonoid M] {a b : ℕ} (h : a < b) (f : ℕ → M) :
    ∑ u ∈ Finset.Ico a b, f u = f a + ∑ u ∈ Finset.Ico (a + 1) b, f u := by
  have hm : a ∉ Finset.Ico (a + 1) b := fun h' => by have := (Finset.mem_Ico.mp h').1; omega
  rw [← Finset.sum_insert hm]
  refine Finset.sum_congr (Finset.ext fun x => ?_) fun _ _ => rfl
  rw [Finset.mem_insert, Finset.mem_Ico, Finset.mem_Ico]; omega

theorem owed_step (c : Dev nD) {n : ℕ} (h : n < 56) : owed c n = owed c (n + 1) + tallyAt (dueCell c n) () N := by
  unfold owed; rw [sum_Ico_bot h, add_comm]
theorem owed_end (c : Dev nD) : owed c 56 = 0 := by unfold owed; rw [Finset.Ico_self, Finset.sum_empty]
theorem owedBar_step (c : Dev nD) {n : ℕ} (h : n < 7) : owedBar c n = owedBar c (n + 1) + tallyAt (barCell (peer (kOf n) c)) () 1 := by
  unfold owedBar; rw [sum_Ico_bot h, add_comm]
theorem owedBar_end (c : Dev nD) : owedBar c 7 = 0 := by unfold owedBar; rw [Finset.Ico_self, Finset.sum_empty]

theorem sum_tally_pos {S : Finset ℕ} {f : ℕ → GSem nD τ sig} {n : ℕ} {g : GSem nD τ sig} {u : Unit}
    (h : 0 < (∑ v ∈ S, tallyAt (f v) () n : CellTallies nD τ sig Unit) g u) : ∃ v ∈ S, g = f v := by
  by_contra hn
  rw [Finset.sum_apply, Finsupp.finsetSum_apply, Finset.sum_eq_zero] at h
  · exact Nat.lt_irrefl 0 h
  · intro v hv
    rw [tallyAt_apply, if_neg fun h' => hn ⟨v, hv, h'.1⟩]

def L (g : GSem nD τ sig) : Finset Unit := if g.1.2 = .tc then {()} else ∅
/-- The level of transfer group `a`'s receive semaphores, -/
def lvA : Fin 8 → ℕ := ![2, 3, 2, 3, 2, 4, 3, 5]
/-- of any semaphore: the barrier's is 1, those that wait for nobody else's step are at 0. -/
def lvS (s : SemLoc sig) : ℕ := if s = .reg barS then 1 else if numOf s < 62 then 0 else lvA (aOf (numOf s - 62))
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem lvS_bar : lvS (.reg barS) = 1 := if_pos rfl
theorem lvS_send (a : Fin 8) (k : Fin 7) : lvS (osem (.inr (.inl (a, k)))) = 0 := by
  unfold lvS; rw [if_neg (osem_ne_bar _), numOf_osem, if_pos (by simp only [oNum]; omega)]
theorem lvS_copy (b : Fin 2) : lvS (osem (.inl b)) = 0 := by
  unfold lvS; rw [if_neg (osem_ne_bar _), numOf_osem, if_pos (by simp only [oNum]; omega)]
theorem lvS_recv (a : Fin 8) (k : Fin 7) : lvS (osem (.inr (.inr (a, k)))) = lvA a := by
  unfold lvS; rw [if_neg (osem_ne_bar _), numOf_osem, if_neg (by simp only [oNum]; omega)]; simp only [oNum]
  rw [Nat.add_sub_cancel_left, aOf_ix]

theorem lv_due (c : Dev nD) (u : ℕ) : lv (dueCell c u) () = lvA (seqA (aOf u)) := lvS_recv _ _

omit [FloatOps F] in
/-- A device may wait on a semaphore below every receive semaphore it still owes. -/
theorem mayWait_owed (c : Dev nD) (sm : SemLoc sig) (n : ℕ) (h : ∀ u ∈ Finset.Ico n 56, lvS sm < lvA (seqA (aOf u))) :
    (levAts L lv : sProp 𝕄) ⊢ MayWait (c : Thread nD τ) sm () (owed c n) :=
  MayOwe.of_cut (L := L) (lev := lv) (lvS sm) (fun p hp => by rw [Finset.mem_singleton.mp hp, L_tc]; exact Finset.mem_singleton_self _)
    (fun g u hg => by obtain ⟨v, -, rfl⟩ := sum_tally_pos hg; exact Finset.mem_singleton_self _)
    (fun p hp => by rw [Finset.mem_singleton.mp hp]; exact le_refl _)
    (fun g u hg => by obtain ⟨v, hv, rfl⟩ := sum_tally_pos hg; exact lt_of_lt_of_eq (h v hv) (lv_due c v).symm)

omit [FloatOps F] in
/-- While it owes everything it may wait at level 0. -/
theorem mayWait_start (c : Dev nD) (sm : SemLoc sig) (h : lvS sm = 0) : (levAts L lv : sProp 𝕄) ⊢ MayWait (c : Thread nD τ) sm () (O₀ c) := by
  have hpos : ∀ {g : GSem nD τ sig} {u : Unit}, 0 < O₀ c g u → (∃ v, g = dueCell c v) ∨ ∃ v, g = barCell (peer (kOf v) c) := by
    intro g u hg
    unfold O₀ at hg
    rw [Pi.add_apply, Finsupp.add_apply] at hg
    by_cases h1 : 0 < owed c 0 g u
    · obtain ⟨v, -, hv⟩ := sum_tally_pos h1; exact Or.inl ⟨v, hv⟩
    · have h2 : 0 < owedBar c 0 g u := by omega
      obtain ⟨v, -, hv⟩ := sum_tally_pos h2; exact Or.inr ⟨v, hv⟩
  have hlt : ∀ a, 0 < lvA a := by decide
  exact MayOwe.of_cut (L := L) (lev := lv) 0 (fun p hp => by rw [Finset.mem_singleton.mp hp, L_tc]; exact Finset.mem_singleton_self _)
    (fun g u hg => by rcases hpos hg with ⟨v, rfl⟩ | ⟨v, rfl⟩ <;> exact Finset.mem_singleton_self _)
    (fun p hp => by rw [Finset.mem_singleton.mp hp]; exact le_of_eq h)
    (fun g u hg => by
      rcases hpos hg with ⟨v, rfl⟩ | ⟨v, rfl⟩
      · exact lt_of_lt_of_eq (hlt _) (lv_due c v).symm
      · show 0 < lvS (.reg barS); rw [lvS_bar]; exact Nat.one_pos)

end Cert.KernelIdeal.Coll

end
-- ==== Proof.Own.lean ====
/- Ownership: the accumulator as its chunks and their rows, a receive buffer as its slots, a row set
   lent to seven transfers and back; what a load or a transfer reads of each and what it leaves. -/
module

public import proofs.«01_k».proof.Proof.Proto

@[expose] public section

noncomputable section

namespace Cert.KernelIdeal.Coll

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Sets of rows -/

theorem mem_rowSet (g : Fin 4) (p : Dev nD) (i : S1024x1024.Idx) : i ∈ rowSet g p ↔ gI i = g ∧ pI i = p := by
  have h0 : (i 0).val < 1024 := (i 0).isLt
  have h1 : (i 1).val < 1024 := (i 1).isLt
  have hp : p.val < 8 := p.isLt
  have hI : ∀ {n : ℕ} {a b : Fin n}, a.val = b.val ↔ a = b := fun {n a b} => Fin.ext_iff.symm
  rw [Rect.mem_set_unit]
  constructor
  · intro h
    have a0 := h 0
    simp only [Matrix.cons_val_zero] at a0
    exact ⟨Fin.ext (by simp only [gI]; omega), Fin.ext (by simp only [pI]; omega)⟩
  · rintro ⟨hg, hpp⟩
    have e1 : (i 0).val / 256 = g.val := congrArg Fin.val hg
    have e2 : (i 0).val % 256 / 32 = p.val := congrArg Fin.val hpp
    intro a
    match a with
    | 0 => show 256 * g.val + 32 * p.val ≤ (i 0).val ∧ (i 0).val < 256 * g.val + 32 * p.val + 32; omega
    | 1 => show 0 ≤ (i 1).val ∧ (i 1).val < 0 + 1024; omega

theorem mem_chunkSet (g : Fin 4) (i : S1024x1024.Idx) : i ∈ chunkSet g ↔ gI i = g := by
  have h0 : (i 0).val < 1024 := (i 0).isLt
  have h1 : (i 1).val < 1024 := (i 1).isLt
  rw [Rect.mem_set_unit]
  constructor
  · intro h
    have a0 := h 0
    simp only [Matrix.cons_val_zero] at a0
    exact Fin.ext (by simp only [gI]; omega)
  · intro hg
    have e1 : (i 0).val / 256 = g.val := congrArg Fin.val hg
    intro a
    match a with
    | 0 => show 256 * g.val ≤ (i 0).val ∧ (i 0).val < 256 * g.val + 256; omega
    | 1 => show 0 ≤ (i 1).val ∧ (i 1).val < 0 + 1024; omega

theorem mem_outSet (g : Fin 4) (i : S1x1024x1024.Idx) : i ∈ (xRect g).set ↔ gO i = g := by
  have h0 : (i 0).val < 1 := (i 0).isLt
  have h1 : (i 1).val < 1024 := (i 1).isLt
  have h2 : (i 2).val < 1024 := (i 2).isLt
  rw [Rect.mem_set_unit]
  constructor
  · intro h
    have a0 := h 1
    simp only [Matrix.cons_val_one, Matrix.cons_val_zero] at a0
    exact Fin.ext (by simp only [gO]; omega)
  · intro hg
    have e1 : (i 1).val / 256 = g.val := congrArg Fin.val hg
    intro a
    match a with
    | 0 => show 0 ≤ (i 0).val ∧ (i 0).val < 0 + 1; omega
    | 1 => show 256 * g.val ≤ (i 1).val ∧ (i 1).val < 256 * g.val + 256; omega
    | 2 => show 0 ≤ (i 2).val ∧ (i 2).val < 0 + 1024; omega

theorem mem_slotSet (k : Fin 7) (i : S7x32x1024.Idx) : i ∈ (slotRect k).set ↔ (i 0).val = k.val := by
  have h0 : (i 0).val < 7 := (i 0).isLt
  have h1 : (i 1).val < 32 := (i 1).isLt
  have h2 : (i 2).val < 1024 := (i 2).isLt
  rw [Rect.mem_set_unit]
  constructor
  · intro h
    have a0 := h 0
    simp only [Matrix.cons_val_zero] at a0
    omega
  · intro hg a
    match a with
    | 0 => show k.val ≤ (i 0).val ∧ (i 0).val < k.val + 1; omega
    | 1 => show 0 ≤ (i 1).val ∧ (i 1).val < 0 + 32; omega
    | 2 => show 0 ≤ (i 2).val ∧ (i 2).val < 0 + 1024; omega

theorem chunkSet_rows (g : Fin 4) : chunkSet g = (Finset.univ : Finset (Dev nD)).biUnion (rowSet g) := by
  ext i
  rw [mem_chunkSet, Finset.mem_biUnion]
  exact ⟨fun h => ⟨pI i, Finset.mem_univ _, (mem_rowSet g _ i).mpr ⟨h, rfl⟩⟩, fun ⟨p, _, h⟩ => ((mem_rowSet g p i).mp h).1⟩
theorem rows_disj (g : Fin 4) (p p' : Dev nD) (h : p ≠ p') : Disjoint (rowSet g p) (rowSet g p') :=
  Finset.disjoint_left.mpr fun i hi hi' => h (((mem_rowSet g p i).mp hi).2.symm.trans ((mem_rowSet g p' i).mp hi').2)
theorem univ_chunks : (Finset.univ : Finset S1024x1024.Idx) = (Finset.univ : Finset (Fin 4)).biUnion chunkSet := by
  ext i
  rw [Finset.mem_biUnion]
  exact ⟨fun _ => ⟨gI i, Finset.mem_univ _, (mem_chunkSet _ i).mpr rfl⟩, fun _ => Finset.mem_univ _⟩
theorem chunks_disj (g g' : Fin 4) (h : g ≠ g') : Disjoint (chunkSet g) (chunkSet g') :=
  Finset.disjoint_left.mpr fun i hi hi' => h (((mem_chunkSet g i).mp hi).symm.trans ((mem_chunkSet g' i).mp hi'))
theorem univ_outs : (Finset.univ : Finset S1x1024x1024.Idx) = (Finset.univ : Finset (Fin 4)).biUnion fun g => (xRect g).set := by
  ext i
  rw [Finset.mem_biUnion]
  exact ⟨fun _ => ⟨gO i, Finset.mem_univ _, (mem_outSet _ i).mpr rfl⟩, fun _ => Finset.mem_univ _⟩
theorem outs_disj (g g' : Fin 4) (h : g ≠ g') : Disjoint (xRect g).set (xRect g').set :=
  Finset.disjoint_left.mpr fun i hi hi' => h (((mem_outSet g i).mp hi).symm.trans ((mem_outSet g' i).mp hi'))
theorem slots_disj (k k' : Fin 7) (h : k ≠ k') : Disjoint (slotRect k).set (slotRect k').set :=
  Finset.disjoint_left.mpr fun i hi hi' => h (Fin.ext (((mem_slotSet k i).mp hi).symm.trans ((mem_slotSet k' i).mp hi')))
theorem slots_cover : (Finset.univ : Finset (Fin 7)).biUnion (fun k => (slotRect k).set) = Finset.univ := by
  ext i
  rw [Finset.mem_biUnion]
  exact ⟨fun _ => Finset.mem_univ _, fun _ => ⟨⟨(i 0).val, (i 0).isLt⟩, Finset.mem_univ _, (mem_slotSet _ i).mpr rfl⟩⟩

/-! ## Families over the devices and over the peers -/

omit [FloatOps F] in
/-- Over the eight devices: device `c` and its seven peers. -/
theorem bigSep_dev (c : Dev nD) (Φ : Dev nD → sProp 𝕄) :
    bigSep Finset.univ Φ = iprop(Φ c ∗ bigSep Finset.univ fun j : Fin 7 => Φ (peer j c)) := by
  have h : (Finset.univ : Finset (Dev nD)).erase c = (Finset.univ : Finset (Fin 7)).map ⟨fun j => peer j c, peer_inj c⟩ := by
    ext p
    rw [Finset.mem_erase, Finset.mem_map]
    constructor
    · rintro ⟨hp, -⟩; obtain ⟨j, hj⟩ := exists_peer c p hp; exact ⟨j, Finset.mem_univ _, hj.symm⟩
    · rintro ⟨j, -, rfl⟩; exact ⟨peer_ne j c, Finset.mem_univ _⟩
  rw [bigSep_univ_split c, h, bigSep_map]; rfl

omit [FloatOps F] in
theorem bigSep_rev (Φ : Fin 7 → sProp 𝕄) : bigSep Finset.univ Φ = bigSep Finset.univ fun j : Fin 7 => Φ (rev j) :=
  bigSep_univ_equiv revE Φ

omit [FloatOps F] in
theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} by decide, bigSep_insert (by decide), bigSep_insert (by decide),
    bigSep_insert (by decide), bigSep_singleton]; rfl
omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) := by
  rw [show (Finset.univ : Finset (Fin 7)) = {0, 1, 2, 3, 4, 5, 6} by decide, bigSep_insert (by decide), bigSep_insert (by decide),
    bigSep_insert (by decide), bigSep_insert (by decide), bigSep_insert (by decide), bigSep_insert (by decide), bigSep_singleton]; rfl
omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide, bigSep_insert (by decide), bigSep_insert (by decide),
    bigSep_insert (by decide), bigSep_insert (by decide), bigSep_insert (by decide), bigSep_insert (by decide), bigSep_insert (by decide),
    bigSep_singleton]; rfl

/-! ## The accumulator and the result -/

omit [FloatOps F] in
theorem acc_rows (c : Dev nD) (g : Fin 4) (q : PosShare TreeShare) (f : S1024x1024.Idx → Elt F .bf16) :
    accPt (F := F) c (chunkSet g) q f = iprop(accPt c (rowSet g c) q f ∗ bigSep Finset.univ fun j : Fin 7 => accPt c (rowSet g (peer j c)) q f) := by
  unfold accPt
  rw [chunkSet_rows]
  exact (pointsTo_biUnion _ _ fun p _ p' _ h => rows_disj g p p' h).trans (bigSep_dev c _)

omit [FloatOps F] in
theorem acc_chunks (c : Dev nD) (q : PosShare TreeShare) (f : S1024x1024.Idx → Elt F .bf16) :
    (((c : Thread nD τ).loc cc0_scratch2) ↦{q} f : sProp 𝕄) = bigSep Finset.univ fun g : Fin 4 => accPt c (chunkSet g) q f := by
  unfold accPt
  show (((c : Thread nD τ).loc cc0_scratch2) ↦[Finset.univ]{q} f : sProp 𝕄) = _
  rw [show (Finset.univ : Finset (Idx ((c : Thread nD τ).loc cc0_scratch2))) = (Finset.univ : Finset (Fin 4)).biUnion chunkSet from univ_chunks]
  exact pointsTo_biUnion _ _ fun p _ p' _ h => chunks_disj p p' h

/-- Chunk `g`'s rows of the result on device `c`. -/
def outPt (c : Dev nD) (g : Fin 4) (f : S1x1024x1024.Idx → Elt F .f32) : sProp 𝕄 :=
  ((c : Thread nD τ).loc cc0_stg3_0) ↦[(xRect g).set]{fullShare} f

omit [FloatOps F] in
theorem out_chunks (c : Dev nD) (f : S1x1024x1024.Idx → Elt F .f32) :
    (((c : Thread nD τ).loc cc0_stg3_0) ↦{fullShare} f : sProp 𝕄) = bigSep Finset.univ fun g : Fin 4 => outPt c g f := by
  unfold outPt
  show (((c : Thread nD τ).loc cc0_stg3_0) ↦[Finset.univ]{fullShare} f : sProp 𝕄) = _
  rw [show (Finset.univ : Finset (Idx ((c : Thread nD τ).loc cc0_stg3_0))) = (Finset.univ : Finset (Fin 4)).biUnion (fun g => (xRect g).set) from univ_outs]
  exact pointsTo_biUnion _ _ fun p _ p' _ h => outs_disj p p' h

omit [FloatOps F] in
/-- A device's reduced rows, dealt to the seven transfers and what it keeps. -/
theorem acc_lend (c : Dev nD) (S : Finset S1024x1024.Idx) (f : S1024x1024.Idx → Elt F .bf16) :
    accPt (F := F) c S fullShare f = iprop(accPt c S kept f ∗ bigSep Finset.univ fun j : Fin 7 => accPt c S (lend j) f) := by
  unfold accPt kept lend
  have h := Transfers.pointsTo_toks (Ix := Unit) (Name := ℕ) (U := UU) (Lvl := ℕ) (ℓ := (c : Thread nD τ).loc cc0_scratch2) (S := S) (f := f) fullShare 7
  exact BI.equiv_iff.mp ⟨h.1, h.2⟩

/-! ## The slots -/

omit [FloatOps F] in
theorem slot_loc (c : Dev nD) (g : Fin 4) (k : Fin 7) : (slotM g k).view.loc (c : Thread nD τ) = (recvM g).view.loc (c : Thread nD τ) := rfl

omit [FloatOps F] in
theorem slot_set (g : Fin 4) (k : Fin 7) : (slotM g k).view.set = ((recvM g).view.slice (slotRect k)).set :=
  View.set_reshape (v := (recvM g).view.slice (slotRect k)) squeezes_S1x32x1024_S32x1024.numel_eq

/-- A slot under the axis of extent one is the slot. -/
theorem slotOwn_slice (c : Dev nD) (g : Fin 4) (k : Fin 7) (Y : S1x32x1024.Idx → Elt F .bf16) :
    (owns (c : Thread nD τ) ((recvM g).slice (slotRect k) (fun _ => rfl)) fullShare Y : sProp 𝕄)
      ⊢ slotOwn c g k (fun j => Y (Shape.reshapeEquiv squeezes_S1x32x1024_S32x1024.numel_eq j)) := by
  unfold slotOwn owns
  iintro ⟨%f, %hf, H⟩
  iexists f
  isplitr
  · ipureintro
    funext j
    rw [← hf]; rfl
  · rw [slot_set]; iexact H

/-- A receive buffer whole, at any contents, is its seven slots. -/
theorem recv_split (c : Dev nD) (g : Fin 4) (f : (recvM g).view.ty.Contents (Elt F)) :
    ((recvM g).view.loc (c : Thread nD τ) ↦[(recvM g).view.set]{fullShare} f : sProp 𝕄)
      ⊢ bigSep Finset.univ fun k : Fin 7 => iprop(∃ X, slotOwn c g k X) := by
  rw [pointsTo_rects (c : Thread nD τ) (recvM g) fullShare slotRect (fun _ _ => rfl) slots_disj slots_cover f]
  exact bigSep_mono fun k _ => (slotOwn_slice c g k _).trans (by iintro H; iexists _; iexact H)

/-- and back. -/
theorem recv_join (c : Dev nD) (g : Fin 4) :
    (bigSep Finset.univ fun k : Fin 7 => iprop(∃ X, slotOwn (F := F) c g k X))
      ⊢ iprop(∃ f : (recvM g).view.ty.Contents (Elt F), (recvM g).view.loc (c : Thread nD τ) ↦[(recvM g).view.set]{fullShare} f) := by
  have h1 : (bigSep Finset.univ fun k : Fin 7 => iprop(∃ X, slotOwn (F := F) c g k X))
      ⊢ bigSep Finset.univ fun k : Fin 7 => (iprop(∃ f : (recvM g).view.ty.Contents (Elt F), (recvM g).view.loc (c : Thread nD τ) ↦[((recvM g).view.slice (slotRect k)).set]{fullShare} f) : sProp 𝕄) := by
    refine bigSep_mono fun k _ => ?_
    unfold slotOwn owns
    refine (show iprop(∃ X, ∃ f, ⌜(slotM g k).view.read (Elt F) f = X⌝ ∗ ((slotM g k).view.loc (c : Thread nD τ) ↦[(slotM g k).view.set]{fullShare} f)) ⊢ (iprop(∃ f : (recvM g).view.ty.Contents (Elt F), (recvM g).view.loc (c : Thread nD τ) ↦[((recvM g).view.slice (slotRect k)).set]{fullShare} f) : sProp 𝕄) from ?_)
    iintro ⟨%X, %f, -, H⟩
    iexists f
    rw [slot_set]; iexact H
  refine h1.trans ((BI.bigSep_exists_pi _ _).trans ?_)
  iintro ⟨%fs, H⟩
  ihave H' := (pointsTo_biUnion_join (ℓ := (recvM g).view.loc (c : Thread nD τ)) (q := fullShare) Finset.univ (fun k : Fin 7 => ((recvM g).view.slice (slotRect k)).set) fs (fs 0)
    (fun k _ k' _ h => by rw [View.set_slice, View.set_slice]; exact (Finset.disjoint_map _).mpr (slots_disj k k' h))) $$ H
  icases H' with ⟨%f, -, H⟩
  iexists f
  have hset : (recvM g).view.set = (Finset.univ : Finset (Fin 7)).biUnion fun k => ((recvM g).view.slice (slotRect k)).set := by
    ext i; constructor
    · intro hi
      rw [View.set, Finset.mem_map] at hi
      obtain ⟨x, -, rfl⟩ := hi
      obtain ⟨t, -, hx⟩ := Finset.mem_biUnion.mp (slots_cover.symm ▸ Finset.mem_univ x)
      exact Finset.mem_biUnion.mpr ⟨t, Finset.mem_univ _, by rw [View.set_slice]; exact Finset.mem_map_of_mem _ hx⟩
    · intro hi
      obtain ⟨t, -, hi⟩ := Finset.mem_biUnion.mp hi
      exact View.set_slice_subset _ _ hi
  rw [hset]; iexact H

end Cert.KernelIdeal.Coll

end
-- ==== Proof.Steps.lean ====
/- The protocol's steps, each once for any device, chunk and peer: signals, sends and waits. -/
module

public import proofs.«01_k».proof.Proof.Own

@[expose] public section

noncomputable section

namespace Cert.KernelIdeal.Coll

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

abbrev 𝒱₀ : Variants := Variants.none

/-- Device `c` runs `p` to the postcondition `Q`. -/
abbrev WP (c : Dev nD) {α : Type} (p : PG F α) (Q : α → sProp 𝕄) : sProp 𝕄 :=
  wp frame (wpE (defs₀ (F := F)) 𝒱₀ (c : Thread nD τ) none) Set.univ p Q

theorem wp_step {c : Dev nD} {α : Type} {p : PG F PUnit} {k : PUnit → PG F α} {Q : α → sProp 𝕄} {P R : sProp 𝕄}
    (h : P ⊢ WP c p (fun _ => R)) : P ⊢ iprop((R -∗ WP c (k ⟨⟩) Q) -∗ WP c (p >>= k) Q) := by
  unfold WP; rw [Sem.wp_bind]
  iintro HP Hk
  iapply (Sem.wp_wand frame (wpE (defs₀ (F := F)) 𝒱₀ (c : Thread nD τ) none) Set.univ (p := p) (Q := fun _ => R)) $$ [HP]
  · iapply h; iexact HP
  iintro %a HR
  iapply Hk; iexact HR

/-- The last step. -/
theorem wp_last {c : Dev nD} {p : PG F PUnit} {Q : PUnit → sProp 𝕄} {P R : sProp 𝕄}
    (h : P ⊢ WP c p (fun _ => R)) : P ⊢ iprop((R -∗ Q ⟨⟩) -∗ WP c p Q) := by
  iintro HP Hk
  iapply (Sem.wp_wand frame (wpE (defs₀ (F := F)) 𝒱₀ (c : Thread nD τ) none) Set.univ (p := p) (Q := fun _ => R)) $$ [HP]
  · iapply h; iexact HP
  iintro %a HR
  iapply Hk; iexact HR

/-- A step for the seven peers in turn: what each takes and gives beside what passes from one to the next. -/
theorem wp_seq7 {c : Dev nD} {f : Fin 7 → PG F PUnit} {A B : Fin 7 → sProp 𝕄} {C : ℕ → sProp 𝕄}
    (h : ∀ j : Fin 7, iprop(A j ∗ C j.val) ⊢ WP c (f j) (fun _ => iprop(B j ∗ C (j.val + 1)))) :
    iprop(bigSep Finset.univ A ∗ C 0) ⊢ WP c (seq7 f) (fun _ => iprop(bigSep Finset.univ B ∗ C 7)) := by
  rw [bigSep_fin7, bigSep_fin7]
  have h0 : iprop(A 0 ∗ C 0) ⊢ WP c (f 0) (fun _ => iprop(B 0 ∗ C 1)) := h 0
  have h1 : iprop(A 1 ∗ C 1) ⊢ WP c (f 1) (fun _ => iprop(B 1 ∗ C 2)) := h 1
  have h2 : iprop(A 2 ∗ C 2) ⊢ WP c (f 2) (fun _ => iprop(B 2 ∗ C 3)) := h 2
  have h3 : iprop(A 3 ∗ C 3) ⊢ WP c (f 3) (fun _ => iprop(B 3 ∗ C 4)) := h 3
  have h4 : iprop(A 4 ∗ C 4) ⊢ WP c (f 4) (fun _ => iprop(B 4 ∗ C 5)) := h 4
  have h5 : iprop(A 5 ∗ C 5) ⊢ WP c (f 5) (fun _ => iprop(B 5 ∗ C 6)) := h 5
  have h6 : iprop(A 6 ∗ C 6) ⊢ WP c (f 6) (fun _ => iprop(B 6 ∗ C 7)) := h 6
  unfold seq7
  iintro ⟨⟨H0, H1, H2, H3, H4, H5, H6⟩, HC⟩
  iapply (wp_step h0) $$ [H0 HC]
  · isplitl [H0] <;> iassumption
  iintro ⟨H0, HC⟩
  iapply (wp_step h1) $$ [H1 HC]
  · isplitl [H1] <;> iassumption
  iintro ⟨H1, HC⟩
  iapply (wp_step h2) $$ [H2 HC]
  · isplitl [H2] <;> iassumption
  iintro ⟨H2, HC⟩
  iapply (wp_step h3) $$ [H3 HC]
  · isplitl [H3] <;> iassumption
  iintro ⟨H3, HC⟩
  iapply (wp_step h4) $$ [H4 HC]
  · isplitl [H4] <;> iassumption
  iintro ⟨H4, HC⟩
  iapply (wp_step h5) $$ [H5 HC]
  · isplitl [H5] <;> iassumption
  iintro ⟨H5, HC⟩
  iapply (wp_last h6) $$ [H6 HC]
  · isplitl [H6] <;> iassumption
  iintro ⟨H6, HC⟩
  isplitr [HC]
  · isplitl [H0]; · iexact H0
    isplitl [H1]; · iexact H1
    isplitl [H2]; · iexact H2
    isplitl [H3]; · iexact H3
    isplitl [H4]; · iexact H4
    isplitl [H5]; · iexact H5
    iexact H6
  · iexact HC

variable (m : (ℓ : Loc nD τ sig) → Buf (Elt F) ℓ) (ρ : Dev nD → PrngReg) (K : Dev nD × CI → ℕ)

/-! ## What every device knows -/

/-- Every semaphore's invariant, and that its round 0 is reached. -/
def records : sProp 𝕄 :=
  iprop((bigSep Finset.univ fun ck : Dev nD × CI => cellInv ER (Rd m) (K ck) (kcell ck))
    ∗ bigSep Finset.univ fun ck : Dev nD × CI => reached ER (kcell ck) 0)

instance records_persistent : BI.Persistent (records m K) := by unfold records; infer_instance

/-- The records and the levels. -/
def Ctx : sProp 𝕄 := iprop(records m K ∗ levAts L lv)
instance Ctx_persistent : BI.Persistent (Ctx m K) := by unfold Ctx; infer_instance

theorem ctx_inv (ck : Dev nD × CI) : Ctx m K ⊢ cellInv ER (Rd m) (K ck) (kcell ck) := by
  haveI : DecidableEq (Dev nD × CI) := Classical.decEq _
  unfold Ctx records
  have e := bigSep_elim (Φ := fun ck : Dev nD × CI => (cellInv ER (Rd m) (K ck) (kcell ck) : sProp 𝕄)) (Finset.mem_univ ck)
  iintro ⟨⟨H, -⟩, -⟩
  iapply (show (bigSep Finset.univ fun ck : Dev nD × CI => (cellInv ER (Rd m) (K ck) (kcell ck) : sProp 𝕄)) ⊢ cellInv ER (Rd m) (K ck) (kcell ck) from e)
  iexact H
theorem ctx_reached (ck : Dev nD × CI) : Ctx m K ⊢ reached ER (kcell ck) 0 := by
  haveI : DecidableEq (Dev nD × CI) := Classical.decEq _
  unfold Ctx records
  have e := bigSep_elim (Φ := fun ck : Dev nD × CI => (reached ER (kcell ck) 0 : sProp 𝕄)) (Finset.mem_univ ck)
  iintro ⟨⟨-, H⟩, -⟩
  iapply (show (bigSep Finset.univ fun ck : Dev nD × CI => (reached ER (kcell ck) 0 : sProp 𝕄)) ⊢ reached ER (kcell ck) 0 from e)
  iexact H
theorem ctx_lev : Ctx m K ⊢ levAts L lv := by
  unfold Ctx; iintro ⟨-, H⟩; iexact H

/-- The device owes `O`, whatever it has waited for. -/
def owesE (c : Dev nD) (O : CellTallies nD τ sig Unit) : sProp 𝕄 := iprop(∃ W, owes (c : Thread nD τ) O W)

/-! ## The barrier's signals -/

/-- Before the signal to peer `j`: its duty, and slot `j` of each of the device's receive buffers. -/
def sigA (c : Dev nD) (j : Fin 7) : sProp 𝕄 :=
  iprop(dutyTok ER (barCell (peer j c)) 0 j ∗ bigSep Finset.univ fun g : Fin 4 => iprop(∃ X, slotOwn (F := F) c g j X))
def sigC (c : Dev nD) (n : ℕ) : sProp 𝕄 := iprop(Ctx m K ∗ owesE c (owed c 0 + owedBar c n))

theorem kOf_lt (j : Fin 7) : kOf j.val = j := Fin.ext (by simp only [kOf]; omega)

theorem sig_owed (c : Dev nD) (j : Fin 7) :
    owed c 0 + owedBar c j.val = owed c 0 + owedBar c (j.val + 1) + tallyAt (barCell (peer j c)) () 1 := by
  rw [owedBar_step c j.isLt, kOf_lt, add_assoc]

theorem step_sig (c : Dev nD) (j : Fin 7) : iprop(sigA c j ∗ sigC m K c j.val) ⊢ WP c (sigTo c j) (fun _ => iprop(emp ∗ sigC m K c (j.val + 1))) := by
  unfold sigTo sigA sigC owesE
  simp only [semSignalWord, devJ_eq]
  iintro ⟨⟨Ht, Hs⟩, #HC, %W, HO⟩
  iapply (Rounds.wp_signal 𝒱₀ ER (Rd m) (c : Thread nD τ) none (dst := (peer j c : Thread nD τ)) (κ := K (peer j c, none))
      (d := j) (by rw [duties_bar]; exact Finset.mem_univ _) ((amount_bar m (peer j c) j).trans (by decide)) () (owed c 0 + owedBar c (j.val + 1))
      (sig_owed c j))
    $$ [HO Ht Hs]
  · isplitr; · iapply (ctx_inv m K (peer j c, none)); iexact HC
    isplitl [HO]; · iexact HO
    isplitl [Ht]; · iexact Ht
    isplitl [Hs]
    · rw [payload_bar]; unfold barPay; rw [peer_rev]; iexact Hs
    · iapply (ctx_reached m K (peer j c, none)); iexact HC
  iintro HO
  rw [Sem.wp_ret]; imodintro
  isplitr; · iempintro
  isplitr; · iexact HC
  iexists W; iexact HO

/-! ## The sends -/

theorem aOf_seq (q : Fin 8) (j : Fin 7) : aOf (7 * q.val + j.val) = q := aOf_ix q j
theorem dueCell_eq (c : Dev nD) (q : Fin 8) (j : Fin 7) : dueCell c (7 * q.val + j.val) = recvCell (peer j c) (seqA q) (rev j) := by
  unfold dueCell; rw [aOf_ix, kOf_ix]

/-- While the sends of the `q`-th group are started. -/
def sendC (c : Dev nD) (q : Fin 8) (n : ℕ) : sProp 𝕄 := iprop(Ctx m K ∗ owesE c (owed c (7 * q.val + n)))
theorem sendC_zero (c : Dev nD) (q : Fin 8) : sendC m K c q 0 = iprop(Ctx m K ∗ owesE c (owed c (7 * q.val))) := rfl

/-- A group's transfer to peer `j`: the two duties it pays. -/
def toks (c : Dev nD) (a : Fin 8) (j : Fin 7) : sProp 𝕄 :=
  iprop(dutyTok ER (sendCell c a j) 0 0 ∗ dutyTok ER (recvCell (peer j c) a (rev j)) 0 0)

omit [FloatOps F] in
theorem rowM_set (g : Fin 4) (p : Dev nD) : (rowM g p).view.set = rowSet g p := View.set_slice_whole _ _

omit [FloatOps F] in
theorem rowPt_eq (c : Dev nD) (g : Fin 4) (p : Dev nD) (q : PosShare TreeShare) (f : S1024x1024.Idx → Elt F .bf16) :
    ((rowM g p).view.loc (c : Thread nD τ) ↦[(rowM g p).view.set]{q} f : sProp 𝕄) = accPt c (rowSet g p) q f := by
  rw [rowM_set]; rfl

theorem mem_send (c : Dev nD) (a : Fin 8) (k : Fin 7) : 0 ∈ (Rd m).duties (sendCell c a k) 0 := by
  rw [duties_own m c (.inr (.inl (a, k)))]; exact Finset.mem_singleton_self _
theorem mem_recv (c : Dev nD) (a : Fin 8) (k : Fin 7) : 0 ∈ (Rd m).duties (recvCell c a k) 0 := by
  rw [duties_own m c (.inr (.inr (a, k)))]; exact Finset.mem_singleton_self _

def rsA' (c : Dev nD) (g : Fin 4) (j : Fin 7) : sProp 𝕄 :=
  iprop(accPt c (rowSet g (peer j c)) fullShare (PP m c) ∗ (∃ X, slotOwn (peer j c) g (rev j) X) ∗ toks c (rsA g) j)

theorem slot_amount (g : Fin 4) (k : Fin 7) (sm : DmaSem sig) : (slotM g k).view.amount (.dma sm) = N := by
  match g with
  | 0 => rfl
  | 1 => rfl
  | 2 => rfl
  | 3 => rfl
theorem row_amount (g : Fin 4) (p : Dev nD) (sm : DmaSem sig) : (rowM g p).view.amount (.dma sm) = N := rfl

/-! ## The waits -/

/-- A wait for one of the device's own semaphores: its payload, and the semaphore closed at zero. -/
theorem step_wait (c : Dev nD) (o : OI) (sm : DmaSem sig) (hsm : .dma sm = osem o) (n : ℕ) {sp sp' : Space} {sa sb : Shape} {ea eb : EltTy}
    {src : Memref sig .tc sp sa ea} {dst : Memref sig .tc sp' sb eb} {h1 : src.view.WordExact} {h2 : dst.view.WordExact}
    (hN : dst.view.dmaCredit = (Rd m).expect ((c : Thread nD τ), osem o) 0) (hlv : ∀ u ∈ Finset.Ico n 56, lvS (osem o) < lvA (seqA (aOf u))) :
    iprop((cred (tallyAt ((c : Thread nD τ), osem o) () dst.view.dmaCredit) ∗ atPos ER ((c : Thread nD τ), osem o) 0 ∅ 0) ∗ Ctx m K ∗ owesE c (owed c n))
      ⊢ WP c (Prog.lift (.waitDma2 sm src dst h1 h2))
        (fun _ => iprop(((Rd m).payload ((c : Thread nD τ), osem o) 0 0 ∗ semVal ((c : Thread nD τ), osem o) 0) ∗ Ctx m K ∗ owesE c (owed c n))) := by
  unfold owesE
  iintro ⟨⟨Hc, Ha⟩, #HC, %W, HO⟩
  rw [← rest_own m c o]
  iapply (Rounds.wp_wait_rest_token 𝒱₀ ER (Rd m) (c : Thread nD τ) none (κ := K (c, some o)) (sm := osem o)
      (by rw [← hsm]; exact wpE_waitDma2_eq 𝒱₀ (c : Thread nD τ) none Set.univ) (Set.mem_univ _) () (O := owed c n) (W := W) (R := 0) (m := 0) (T := ∅)
      (by rw [Nat.zero_add]; exact hN)) $$ [Hc HO Ha]
  · isplitr; · iapply (ctx_inv m K (c, some o)); iexact HC
    isplitl [Hc]; · iexact Hc
    isplitl [HO]; · iexact HO
    isplitr; · iapply (mayWait_owed c (osem o) n hlv); iapply (ctx_lev m K); iexact HC
    iexact Ha
  iintro ⟨HO, Ha, -, Hp⟩
  rw [Sem.wp_ret]
  imod (Rounds.cell_close ER (Rd m) (Set.mem_univ (K (c, some o))) (fun h => h) (R := 0 + 1) (duties_later m ((c : Thread nD τ), osem o))) $$ [Ha] with Hz
  · isplitr; · iapply (ctx_inv m K (c, some o)); iexact HC
    iexact Ha
  imodintro
  isplitl [Hp Hz]
  · isplitl [Hp]; · iexact Hp
    iexact Hz
  isplitr; · iexact HC
  iexists _; iexact HO

/-- Before the two waits of group `a` for peer `j`, -/
def waitA (c : Dev nD) (a : Fin 8) (j : Fin 7) : sProp 𝕄 :=
  iprop((cred (tallyAt (sendCell c a j) () N) ∗ atPos ER (sendCell c a j) 0 ∅ 0)
    ∗ cred (tallyAt (recvCell c a (rev j)) () N) ∗ atPos ER (recvCell c a (rev j)) 0 ∅ 0)
/-- and after. -/
def waitB (c : Dev nD) (a : Fin 8) (j : Fin 7) : sProp 𝕄 :=
  iprop((sendPay m c a j ∗ semVal (sendCell c a j) 0) ∗ recvPay m c a (rev j) ∗ semVal (recvCell c a (rev j)) 0)
def waitC (c : Dev nD) (n : ℕ) (_ : ℕ) : sProp 𝕄 := iprop(Ctx m K ∗ owesE c (owed c n))

/-- The two waits, of a scatter or of a gather. -/
theorem step_wait2 (c : Dev nD) (a : Fin 8) (j : Fin 7) (s1 s2 : DmaSem sig) (hs1 : s1 = sendS (ix a j)) (hs2 : s2 = recvS (ix a (rev j))) (n : ℕ)
    {src1 dst1 src2 dst2 : Memref sig .tc .vmem S32x1024 .bf16} {h1 : src1.view.WordExact} {h2 : dst1.view.WordExact}
    {h3 : src2.view.WordExact} {h4 : dst2.view.WordExact} (hN1 : dst1.view.dmaCredit = N) (hN2 : dst2.view.dmaCredit = N)
    (hlv : ∀ u ∈ Finset.Ico n 56, lvA a < lvA (seqA (aOf u))) :
    iprop(waitA c a j ∗ waitC m K c n j.val)
      ⊢ WP c ((Prog.lift (.waitDma2 s1 src1 dst1 h1 h2) >>= fun _ => Prog.lift (.waitDma2 s2 src2 dst2 h3 h4) : PG F PUnit))
        (fun _ => iprop(waitB m c a j ∗ waitC m K c n (j.val + 1))) := by
  subst hs1 hs2
  have t1 := step_wait m K c (.inr (.inl (a, j))) (sendS (ix a j)) rfl n (src := src1) (dst := dst1) (h1 := h1) (h2 := h2)
    (hN1.trans (expect_send m c a j).symm) (fun u hu => by rw [lvS_send]; exact Nat.lt_of_le_of_lt (Nat.zero_le _) (hlv u hu))
  have t2 := step_wait m K c (.inr (.inr (a, rev j))) (recvS (ix a (rev j))) rfl n (src := src2) (dst := dst2) (h1 := h3) (h2 := h4)
    (hN2.trans (expect_recv m c a (rev j)).symm) (fun u hu => by rw [lvS_recv]; exact hlv u hu)
  rw [hN1] at t1; rw [hN2] at t2
  rw [payload_send m c a j 0] at t1
  rw [payload_recv m c a (rev j) 0] at t2
  unfold waitA waitB waitC
  iintro ⟨⟨H1, H2⟩, HC⟩
  iapply (wp_step t1) $$ [H1 HC]
  · isplitl [H1] <;> iassumption
  iintro ⟨H1, HC⟩
  iapply (wp_last t2) $$ [H2 HC]
  · isplitl [H2] <;> iassumption
  iintro ⟨⟨H2, H3⟩, HC⟩
  isplitl [H1 H2 H3]
  · isplitl [H1]; · iexact H1
    isplitl [H2]; · iexact H2
    iexact H3
  iexact HC

theorem step_rsWait (c : Dev nD) (g : Fin 4) (n : ℕ) (hlv : ∀ u ∈ Finset.Ico n 56, lvA (rsA g) < lvA (seqA (aOf u))) (j : Fin 7) :
    iprop(waitA c (rsA g) j ∗ waitC m K c n j.val) ⊢ WP c (rsWait c g j) (fun _ => iprop(waitB m c (rsA g) j ∗ waitC m K c n (j.val + 1))) :=
  step_wait2 m K c (rsA g) j (sendS (rsIx g j)) (recvS (rsIx g (rev j))) (by rw [rsIx_eq]) (by rw [rsIx_eq]) n
    (by rw [srcM_eq]) (slot_amount g (rev j) (sendS 0)) hlv

theorem step_agWait (c : Dev nD) (g : Fin 4) (n : ℕ) (hlv : ∀ u ∈ Finset.Ico n 56, lvA (agA g) < lvA (seqA (aOf u))) (j : Fin 7) :
    iprop(waitA c (agA g) j ∗ waitC m K c n j.val) ⊢ WP c (agWait c g j) (fun _ => iprop(waitB m c (agA g) j ∗ waitC m K c n (j.val + 1))) :=
  step_wait2 m K c (agA g) j (sendS (agIx g j)) (recvS (agIx g (rev j))) (by rw [agIx_eq]) (by rw [agIx_eq]) n
    (by rw [gatM_eq]) (by rw [gatM_eq]) hlv

end Cert.KernelIdeal.Coll

end
-- ==== Proof.Sends.lean ====
/- The sends of the reduce-scatter and of the all-gather. -/
module

public import proofs.«01_k».proof.Proof.Steps

@[expose] public section

noncomputable section

namespace Cert.KernelIdeal.Coll

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ)

set_option maxHeartbeats 400000 in
/-- `wp_send_landing_pointsTo` at the scatter's semaphores, the device and the rows substituted. -/
theorem wp_rs (c n : Dev nD) (g : Fin 4) (j : Fin 7) (hn : n = peer j c) (src : Memref sig .tc .vmem S32x1024 .bf16) (hs : src = rowM g (peer j c))
    (s1 s2 : DmaSem sig) (h1 : s1 = sendS (ix (rsA g) j)) (h2 : s2 = recvS (ix (rsA g) (rev j)))
    (q : Fin 8) (hq : seqA q = rsA g)
    {hsc : (slotM g (rev j) : Memref sig (Dev.tc n : Thread nD τ).2.kind .vmem S32x1024 .bf16).view.ref.isScScratch = false}
    {hsrc : src.view.WordExact} {hdst : (slotM g (rev j)).view.WordExact}
    {hsem : DmaTarget.Typed .vmem (.dma s2) (.remote (Dev.tc n : Thread nD τ) (slotM g (rev j)) (.dma s1) hsc)} :
    iprop(rsA' m c g j ∗ sendC m K c q j.val) ⊢ WP c (Prog.lift (.enqueueDma src (.remote (Dev.tc n : Thread nD τ) (slotM g (rev j)) (.dma s1) hsc) (.dma s2) hsrc hdst hsem))
      (fun _ => iprop(cred (tallyAt (sendCell c (rsA g) j) () N) ∗ sendC m K c q (j.val + 1))) := by
  subst hn hs h1 h2
  unfold rsA' sendC owesE toks slotOwn owns
  have hlt : 7 * q.val + j.val < 56 := by omega
  have hO : owed c (7 * q.val + j.val) = owed c (7 * q.val + (j.val + 1)) + tallyAt (recvCell (peer j c) (rsA g) (rev j)) () N := by
    rw [owed_step c hlt, dueCell_eq, hq, add_assoc]
  have hpay1 : (emp : sProp 𝕄) ⊢ (Rd m).payload (sendCell c (rsA g) j) 0 0 := by rw [payload_send, sendPay_rs]
  iintro ⟨⟨Hsrc, ⟨%X, %fd, -, Hd⟩, Ht1, Ht2⟩, #HC, %W, HO⟩
  ihave Hsrc' := (Entails.of_eq (rowPt_eq (F := F) c g (peer j c) fullShare (PP m c)).symm) $$ Hsrc
  have hpay : iprop(((slotM g (rev j)).view.loc (peer j c : Thread nD τ) ↦[(slotM g (rev j)).view.set]{fullShare}
        ((slotM g (rev j)).view.write (Elt F) fd ((rowM g (peer j c)).view.read (Elt F) (PP m c)) Finset.univ))
      ∗ ((rowM g (peer j c)).view.loc (c : Thread nD τ) ↦[(rowM g (peer j c)).view.set]{fullShare} (PP m c)))
      ⊢ (Rd m).payload (recvCell (peer j c) (rsA g) (rev j)) 0 0 := by
    rw [payload_recv, recvPay_rs, peer_rev]
    refine BI.sep_mono ?_ (Entails.of_eq (rowPt_eq c g (peer j c) fullShare (PP m c)))
    unfold slotOwn
    have hX : slotX (PP m) (peer j c) g (rev j)
        = (slotM g (rev j)).view.read (Elt F) ((slotM g (rev j)).view.write (Elt F) fd ((rowM g (peer j c)).view.read (Elt F) (PP m c)) Finset.univ) := by
      rw [View.read_write_univ]; unfold slotX; rw [peer_rev]; rfl
    rw [hX]
    exact owns_intro _ _ _ _
  have t := (Rounds.wp_send_landing_pointsTo 𝒱₀ ER (Rd m) (c : Thread nD τ) none (defs := defs₀ (F := F)) (Γ := ∅) (c' := (peer j c : Thread nD τ)) (src := rowM g (peer j c)) (dst := slotM g (rev j))
      (sS := .dma (sendS (ix (rsA g) j))) (sem := .dma (recvS (ix (rsA g) (rev j)))) (hsc := hsc) (hsrc := hsrc) (hdst := hdst) (hsem := hsem)
      (k := fun x => .ret x) (Q := fun _ => iprop(cred (tallyAt (sendCell c (rsA g) j) () N) ∗ Ctx m K ∗ ∃ W, owes (c : Thread nD τ) (owed c (7 * q.val + (j.val + 1))) W)) (α := PUnit) (Es := Set.univ) (W := W) (κ₁ := K (c, some (.inr (.inl (rsA g, j)))))
      (κ₂ := K (peer j c, some (.inr (.inr (rsA g, rev j)))))
      (r₁ := 0) (r₂ := 0) (d₁ := 0) (d₂ := 0) (fd := fd) (q := fullShare) (fs := PP m c)
      (mem_send m c (rsA g) j)
      (mem_recv m (peer j c) (rsA g) (rev j))
      () () N (slot_amount g (rev j) _) (amount_send m c (rsA g) j 0) (amount_recv m (peer j c) (rsA g) (rev j) 0)
      (owed c (7 * q.val + (j.val + 1)))
      hO
      hpay1
      hpay)
  iapply t $$ [Hsrc' Hd Ht1 Ht2 HO]
  · isplitr; · iapply (ctx_inv m K (c, some (.inr (.inl (rsA g, j))))); iexact HC
    isplitr; · iapply (ctx_inv m K (peer j c, some (.inr (.inr (rsA g, rev j))))); iexact HC
    isplitl [Hsrc']; · iexact Hsrc'
    isplitl [Hd]; · iexact Hd
    isplitl [HO]; · iexact HO
    isplitl [Ht1]; · iexact Ht1
    isplitr; · iapply (ctx_reached m K (c, some (.inr (.inl (rsA g, j))))); iexact HC
    isplitl [Ht2]; · iexact Ht2
    iapply (ctx_reached m K (peer j c, some (.inr (.inr (rsA g, rev j))))); iexact HC
  iintro ⟨Hcr, HO⟩
  rw [Sem.wp_ret]; imodintro
  isplitl [Hcr]; · iexact Hcr
  isplitr; · iexact HC
  iexists W; iexact HO

theorem step_rs (c : Dev nD) (g : Fin 4) (q : Fin 8) (hq : seqA q = rsA g) (j : Fin 7) :
    iprop(rsA' m c g j ∗ sendC m K c q j.val) ⊢ WP c (rsSend c g j) (fun _ => iprop(cred (tallyAt (sendCell c (rsA g) j) () N) ∗ sendC m K c q (j.val + 1))) :=
  wp_rs m K c (devJ c j) g j (devJ_eq c j) (srcM c g j) (srcM_eq c g j) (sendS (rsIx g j)) (recvS (rsIx g (rev j)))
    (by rw [rsIx_eq]) (by rw [rsIx_eq]) q hq

def agA' (c : Dev nD) (g : Fin 4) (j : Fin 7) : sProp 𝕄 :=
  iprop(accPt c (rowSet g c) (lend j) (RR m) ∗ accPt (peer j c) (rowSet g c) fullShare (PP m (peer j c)) ∗ toks c (agA g) j)

set_option maxHeartbeats 400000 in
theorem wp_ag (c n : Dev nD) (g : Fin 4) (j : Fin 7) (hn : n = peer j c) (src : Memref sig .tc .vmem S32x1024 .bf16) (hs : src = rowM g c)
    (s1 s2 : DmaSem sig) (h1 : s1 = sendS (ix (agA g) j)) (h2 : s2 = recvS (ix (agA g) (rev j)))
    (q : Fin 8) (hq : seqA q = agA g)
    {hsc : (src : Memref sig (Dev.tc n : Thread nD τ).2.kind .vmem S32x1024 .bf16).view.ref.isScScratch = false}
    {hsrc hdst : src.view.WordExact}
    {hsem : DmaTarget.Typed .vmem (.dma s2) (.remote (Dev.tc n : Thread nD τ) src (.dma s1) hsc)} :
    iprop(agA' m c g j ∗ sendC m K c q j.val) ⊢ WP c (Prog.lift (.enqueueDma src (.remote (Dev.tc n : Thread nD τ) src (.dma s1) hsc) (.dma s2) hsrc hdst hsem))
      (fun _ => iprop(cred (tallyAt (sendCell c (agA g) j) () N) ∗ sendC m K c q (j.val + 1))) := by
  subst hn hs h1 h2
  unfold agA' sendC owesE toks
  have hlt : 7 * q.val + j.val < 56 := by omega
  have hO : owed c (7 * q.val + j.val) = owed c (7 * q.val + (j.val + 1)) + tallyAt (recvCell (peer j c) (agA g) (rev j)) () N := by
    rw [owed_step c hlt, dueCell_eq, hq, add_assoc]
  have hpay1 : ((rowM g c).view.loc (c : Thread nD τ) ↦[(rowM g c).view.set]{lend j} (RR m)) ⊢ (Rd m).payload (sendCell c (agA g) j) 0 0 := by
    rw [payload_send, sendPay_ag, rowPt_eq]
  iintro ⟨⟨Hsrc, Hd, Ht1, Ht2⟩, #HC, %W, HO⟩
  ihave Hsrc' := (Entails.of_eq (rowPt_eq (F := F) c g c (lend j) (RR m)).symm) $$ Hsrc
  ihave Hd' := (Entails.of_eq (rowPt_eq (F := F) (peer j c) g c fullShare (PP m (peer j c))).symm) $$ Hd
  have hpay : ((rowM g c).view.loc (peer j c : Thread nD τ) ↦[(rowM g c).view.set]{fullShare}
        ((rowM g c).view.write (Elt F) (PP m (peer j c)) ((rowM g c).view.read (Elt F) (RR m)) Finset.univ))
      ⊢ (Rd m).payload (recvCell (peer j c) (agA g) (rev j)) 0 0 := by
    rw [payload_recv, recvPay_ag, peer_rev, ← rowPt_eq]
    refine Entails.of_eq (pointsTo_congr fun i hi => ?_)
    obtain ⟨z, -, rfl⟩ := Finset.mem_map.mp hi
    rw [View.write_emb_of_mem _ _ (Finset.mem_univ _)]; rfl
  have t := (Rounds.wp_send_pointsTo 𝒱₀ ER (Rd m) (c : Thread nD τ) none (defs := defs₀ (F := F)) (Γ := ∅) (c' := (peer j c : Thread nD τ)) (src := rowM g c) (dst := rowM g c)
      (sS := .dma (sendS (ix (agA g) j))) (sem := .dma (recvS (ix (agA g) (rev j)))) (hsc := hsc) (hsrc := hsrc) (hdst := hdst) (hsem := hsem)
      (k := fun x => .ret x) (Q := fun _ => iprop(cred (tallyAt (sendCell c (agA g) j) () N) ∗ Ctx m K ∗ ∃ W, owes (c : Thread nD τ) (owed c (7 * q.val + (j.val + 1))) W)) (α := PUnit) (Es := Set.univ) (W := W) (κ₁ := K (c, some (.inr (.inl (agA g, j)))))
      (κ₂ := K (peer j c, some (.inr (.inr (agA g, rev j)))))
      (r₁ := 0) (r₂ := 0) (d₁ := 0) (d₂ := 0) (fd := PP m (peer j c)) (q := lend j) (fs := RR m)
      (mem_send m c (agA g) j)
      (mem_recv m (peer j c) (agA g) (rev j))
      () () N (row_amount g c _) (amount_send m c (agA g) j 0) (amount_recv m (peer j c) (agA g) (rev j) 0)
      (owed c (7 * q.val + (j.val + 1)))
      hO
      hpay1
      hpay)
  iapply t $$ [Hsrc' Hd' Ht1 Ht2 HO]
  · isplitr; · iapply (ctx_inv m K (c, some (.inr (.inl (agA g, j))))); iexact HC
    isplitr; · iapply (ctx_inv m K (peer j c, some (.inr (.inr (agA g, rev j))))); iexact HC
    isplitl [Hsrc']; · iexact Hsrc'
    isplitl [Hd']; · iexact Hd'
    isplitl [HO]; · iexact HO
    isplitl [Ht1]; · iexact Ht1
    isplitr; · iapply (ctx_reached m K (c, some (.inr (.inl (agA g, j))))); iexact HC
    isplitl [Ht2]; · iexact Ht2
    iapply (ctx_reached m K (peer j c, some (.inr (.inr (agA g, rev j))))); iexact HC
  iintro ⟨Hcr, HO⟩
  rw [Sem.wp_ret]; imodintro
  isplitl [Hcr]; · iexact Hcr
  isplitr; · iexact HC
  iexists W; iexact HO

theorem step_ag (c : Dev nD) (g : Fin 4) (q : Fin 8) (hq : seqA q = agA g) (j : Fin 7) :
    iprop(agA' m c g j ∗ sendC m K c q j.val) ⊢ WP c (agSend c g j) (fun _ => iprop(cred (tallyAt (sendCell c (agA g) j) () N) ∗ sendC m K c q (j.val + 1))) :=
  wp_ag m K c (devJ c j) g j (devJ_eq c j) (gatM c g) (gatM_eq c g) (sendS (agIx g j)) (recvS (agIx g (rev j)))
    (by rw [agIx_eq]) (by rw [agIx_eq]) q hq

end Cert.KernelIdeal.Coll

end
-- ==== Proof.Compute.lean ====
/- The computing steps: a chunk's partial product, its reduction, its rows of the result. -/
module

public import proofs.«01_k».proof.Proof.Steps

@[expose] public section

noncomputable section

namespace Cert.KernelIdeal.Coll

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## Loads and stores at the head of a program -/

theorem wp_ld {c : Dev nD} {α : Type} {Q : α → sProp 𝕄} {cs : CoreSpace} {s : Shape} {e : EltTy} (mm : Memref sig .tc cs s e) (r : Rect s)
    {hl : mm.view.LoadsAt r} {k : (r.shape.Idx → Elt F e) → PG F α} {S : Finset (Idx ((mm.access r).loc (c : Thread nD τ)))} {q : PosShare TreeShare}
    {f : Buf (Elt F) ((mm.access r).loc (c : Thread nD τ))} (hS : (mm.access r).set ⊆ S) :
    ((mm.access r).loc (c : Thread nD τ) ↦[S]{q} f : sProp 𝕄)
      ⊢ iprop((((mm.access r).loc (c : Thread nD τ) ↦[S]{q} f) -∗ WP c (k ((mm.access r).read (Elt F) f)) Q)
        -∗ WP c (Prog.lift (.load mm r.toLoadRect hl) >>= k) Q) :=
  wp_load_rect (defs := defs₀ (F := F)) 𝒱₀ (c : Thread nD τ) none Set.univ hS

theorem wp_st {c : Dev nD} {Q : PUnit → sProp 𝕄} {cs : CoreSpace} {s : Shape} {e : EltTy} (mm : Memref sig .tc cs s e) (r : Rect s)
    {w : r.shape.Idx → Elt F e} {hx : (mm.access r).Stores Finset.univ} {hm : (Finset.univ : Finset r.shape.Idx) = Finset.univ ∨ ∀ a, r.stride a = 1}
    {S : Finset (Idx ((mm.access r).loc (c : Thread nD τ)))}
    {f : Buf (Elt F) ((mm.access r).loc (c : Thread nD τ))} (hS : (mm.access r).set ⊆ S) :
    ((mm.access r).loc (c : Thread nD τ) ↦[S]{fullShare} f : sProp 𝕄)
      ⊢ iprop((((mm.access r).loc (c : Thread nD τ) ↦[S]{fullShare} ((mm.access r).write (Elt F) f w Finset.univ)) -∗ Q ⟨⟩)
        -∗ WP c (Prog.lift (.store mm r w Finset.univ hx hm)) Q) := by
  have h := wp_store (defs := defs₀ (F := F)) 𝒱₀ (c : Thread nD τ) none (Γ := ∅) Set.univ (m := mm) (r := r) (w := w) (Mk := Finset.univ) (hx := hx) (hm := hm)
    (k := fun x => .ret x) (Q := Q) (S := S) (f := f) hS
  iintro H Hk
  iapply h $$ H
  iintro H
  rw [Sem.wp_ret]; imodintro
  iapply Hk; iexact H

/-! ## Where a chunk's and a row set's elements lie -/

theorem rect_mem {s : Shape} {r : Rect s} {i : s.Idx} (h : i ∈ r.set) : ∃ j : r.shape.Idx, i = r.emb j := by
  obtain ⟨j, -, e⟩ := Finset.mem_map.mp ((r.map_emb_univ).symm ▸ h)
  exact ⟨j, e.symm⟩
theorem rect_emb_mem {s : Shape} (r : Rect s) (j : r.shape.Idx) : r.emb j ∈ r.set :=
  r.map_emb_univ ▸ Finset.mem_map_of_mem _ (Finset.mem_univ j)

theorem acc_emb_gI (g : Fin 4) (j : S256x1024.Idx) : gI ((accRect g).emb j) = g :=
  (mem_chunkSet g _).mp (rect_emb_mem (accRect g) j)
theorem acc_emb_loc (g : Fin 4) (j : S256x1024.Idx) : locI ((accRect g).emb j) = j := by
  have h0 : (j 0).val < 256 := (j 0).isLt
  funext a
  match a with
  | 0 => refine Fin.ext ?_; show (256 * g.val + 1 * (j 0).val) % 256 = (j 0).val; omega
  | 1 => refine Fin.ext ?_; show 0 + 1 * (j 1).val = (j 1).val; omega
theorem row_emb_gI (g : Fin 4) (p : Dev nD) (j : S32x1024.Idx) : gI ((rowRect g p).emb j) = g :=
  ((mem_rowSet g p _).mp (rect_emb_mem (rowRect g p) j)).1
theorem row_emb_pI (g : Fin 4) (p : Dev nD) (j : S32x1024.Idx) : pI ((rowRect g p).emb j) = p :=
  ((mem_rowSet g p _).mp (rect_emb_mem (rowRect g p) j)).2
theorem row_emb_row (g : Fin 4) (p : Dev nD) (j : S32x1024.Idx) : rowI ((rowRect g p).emb j) = j := by
  have h0 : (j 0).val < 32 := (j 0).isLt
  have hp : p.val < 8 := p.isLt
  funext a
  match a with
  | 0 => refine Fin.ext ?_; show (256 * g.val + 32 * p.val + 1 * (j 0).val) % 32 = (j 0).val; omega
  | 1 => refine Fin.ext ?_; show 0 + 1 * (j 1).val = (j 1).val; omega
theorem out_emb_gO (g : Fin 4) (j : S1x256x1024.Idx) : gO ((xRect g).emb j) = g :=
  (mem_outSet g _).mp (rect_emb_mem (xRect g) j)
theorem out_emb_loc (g : Fin 4) (j : S1x256x1024.Idx) : locO ((xRect g).emb j) = j := by
  have h0 : (j 0).val < 1 := (j 0).isLt
  have h1 : (j 1).val < 256 := (j 1).isLt
  funext a
  match a with
  | 0 => refine Fin.ext ?_; show 0 + 1 * (j 0).val = (j 0).val; omega
  | 1 => refine Fin.ext ?_; show (256 * g.val + 1 * (j 1).val) % 256 = (j 1).val; omega
  | 2 => refine Fin.ext ?_; show 0 + 1 * (j 2).val = (j 2).val; omega

theorem partOf_at (x : Vec F S1x1024x1024 .f32) (wq wo : Vec F S1024x1024 .f32) (k v : Vec F S1024x8x128 .f32) {i : S1024x1024.Idx} {g : Fin 4} {j : S256x1024.Idx}
    (hg : gI i = g) (hl : locI i = j) :
    partOf x wq wo k v i = chunkV g (k0_pay2 wq) (k0_pay3 wo) (k0_pay4 k) (k0_pay5 v) (fun j => x ((xRect g).emb j)) j := by
  subst hg hl; rfl
theorem redOf_at (P : Dev nD → S1024x1024.Idx → Elt F .bf16) {i : S1024x1024.Idx} {g : Fin 4} {p : Dev nD} {j : S32x1024.Idx}
    (hg : gI i = g) (hp : pI i = p) (hl : rowI i = j) :
    redOf P i = redV g (fun j => P p ((rowRect g p).emb j)) (fun k => slotL (slotX P p g k)) j := by
  subst hg hp hl; rfl
theorem outOf_at (R : S1024x1024.Idx → Elt F .bf16) {i : S1x1024x1024.Idx} {g : Fin 4} {j : S1x256x1024.Idx}
    (hg : gO i = g) (hl : locO i = j) : outOf R i = outV g (fun j => R ((accRect g).emb j)) j := by
  subst hg hl; rfl

/-- A rectangle of the accumulator, written with what `h` holds there, holds `h`. -/
theorem acc_stored (c : Dev nD) (r : Rect S1024x1024) (f h : S1024x1024.Idx → Elt F .bf16) (w : r.shape.Idx → Elt F .bf16) (hw : ∀ j, w j = h (r.emb j)) :
    (((c : Thread nD τ).loc cc0_scratch2) ↦[r.set]{fullShare} ((accM : Memref sig .tc .vmem S1024x1024 .bf16).access r).write (Elt F) f w Finset.univ : sProp 𝕄)
      = (((c : Thread nD τ).loc cc0_scratch2) ↦[r.set]{fullShare} h) :=
  pointsTo_congr fun i hi => by
    obtain ⟨j, rfl⟩ := rect_mem hi
    exact (View.write_emb_of_mem (v := (accM : Memref sig .tc .vmem S1024x1024 .bf16).access r) (Val := Elt F) f w (Finset.mem_univ j)).trans (hw j)

/-- The same of the result. -/
theorem out_stored (c : Dev nD) (r : Rect S1x1024x1024) (f h : S1x1024x1024.Idx → Elt F .f32) (w : r.shape.Idx → Elt F .f32) (hw : ∀ j, w j = h (r.emb j)) :
    (((c : Thread nD τ).loc cc0_stg3_0) ↦[r.set]{fullShare} ((outM : Memref sig .tc .vmem S1x1024x1024 .f32).access r).write (Elt F) f w Finset.univ : sProp 𝕄)
      = (((c : Thread nD τ).loc cc0_stg3_0) ↦[r.set]{fullShare} h) :=
  pointsTo_congr fun i hi => by
    obtain ⟨j, rfl⟩ := rect_mem hi
    exact (View.write_emb_of_mem (v := (outM : Memref sig .tc .vmem S1x1024x1024 .f32).access r) (Val := Elt F) f w (Finset.mem_univ j)).trans (hw j)

/-! ## The computing steps -/

/-- The staged rows of `x`. -/
def xSt (c : Dev nD) : sProp 𝕄 := ((c : Thread nD τ).loc cc0_stg0_0) ↦{fullShare} (xIn m c)

theorem step_chunk (c : Dev nD) (g : Fin 4) (f : S1024x1024.Idx → Elt F .bf16) :
    iprop(accPt c (chunkSet g) fullShare f ∗ xSt m c)
      ⊢ WP c (chunkStep g (k0_pay2 (wqIn m c)) (k0_pay3 (woIn m c)) (k0_pay4 (kIn m c)) (k0_pay5 (vIn m c)))
        (fun _ => iprop(accPt c (chunkSet g) fullShare (PP m c) ∗ xSt m c)) := by
  have hset : ((accM : Memref sig .tc .vmem S1024x1024 .bf16).access (accRect g)).set ⊆ chunkSet g := by
    rw [show ((accM : Memref sig .tc .vmem S1024x1024 .bf16).access (accRect g)).set = chunkSet g from View.set_slice_whole _ _]
  have hl := fun (kk : (S1x256x1024.Idx → Elt F .f32) → PG F PUnit) (Q : PUnit → sProp 𝕄) =>
    wp_ld (c := c) (k := kk) (Q := Q) xM (xRect g) (hl := View.loadsAt_vmem h_S1x256x1024) (S := Finset.univ) (q := fullShare) (f := xIn m c) (Finset.subset_univ _)
  have hl' := fun (kk : (S256x1024.Idx → Elt F .bf16) → PG F PUnit) (Q : PUnit → sProp 𝕄) =>
    wp_ld (c := c) (k := kk) (Q := Q) accM (accRect g) (hl := View.loadsAt_vmem h_S256x1024) (S := chunkSet g) (q := fullShare) (f := f) hset
  have hs := fun (w : S256x1024.Idx → Elt F .bf16) (Q : PUnit → sProp 𝕄) =>
    wp_st (c := c) (Q := Q) accM (accRect g) (w := w)
      (hx := View.stores_vmem h_S256x1024 ((Memref.isWhole_whole cc0_scratch2).storeExact_slice rfl _ (accRect_packed g)) (fun _ => rfl)) (hm := .inl rfl)
      (S := chunkSet g) (f := f) hset
  unfold accPt xSt chunkStep
  iintro ⟨Ha, Hx⟩
  iapply (hl _ _) $$ Hx
  iintro Hx
  iapply (hl' _ _) $$ Ha
  iintro Ha
  iapply (hs _ _) $$ Ha
  iintro Ha
  isplitl [Ha]
  · have e := acc_stored (F := F) c (accRect g) f (PP m c)
      (chunkV g (k0_pay2 (wqIn m c)) (k0_pay3 (woIn m c)) (k0_pay4 (kIn m c)) (k0_pay5 (vIn m c)) (fun j => xIn m c ((xRect g).emb j)))
      (fun j => (partOf_at (xIn m c) (wqIn m c) (woIn m c) (kIn m c) (vIn m c) (acc_emb_gI g j) (acc_emb_loc g j)).symm)
    rw [← e]; iexact Ha
  · iexact Hx

/-- One slot read. -/
theorem wp_slot {c : Dev nD} {α : Type} {Q : α → sProp 𝕄} (g : Fin 4) (k : Fin 7) (X : S32x1024.Idx → Elt F .bf16) {kk : Vec F S1x32x1024 .bf16 → PG F α} :
    slotOwn c g k X ⊢ iprop((slotOwn c g k X -∗ WP c (kk (slotL X)) Q) -∗ WP c (slotLoad g k >>= kk) Q) := by
  have hl := fun f => wp_ld (c := c) (k := kk) (Q := Q) (recvM g) (slotRect k) (hl := View.loadsAt_vmem h_S1x32x1024) (S := (slotM g k).view.set) (q := fullShare) (f := f)
    (by rw [slot_set])
  unfold slotOwn owns slotLoad
  iintro ⟨%f, %hf, H⟩ Hk
  iapply (hl f) $$ H
  iintro H
  have e : ((recvM g).access (slotRect k)).read (Elt F) f = slotL X := by
    funext j
    unfold slotL
    rw [← hf]
    show _ = ((recvM g).access (slotRect k)).read (Elt F) f (Shape.reshapeEquiv squeezes_S1x32x1024_S32x1024.numel_eq ((Shape.reshapeEquiv squeezes_S1x32x1024_S32x1024.numel_eq).symm j))
    rw [Equiv.apply_symm_apply]
  rw [e]
  iapply Hk
  iexists f
  isplitr
  · ipureintro; exact hf
  · iexact H

theorem vec7_eq {α : Type} (f : Fin 7 → α) : ![f 0, f 1, f 2, f 3, f 4, f 5, f 6] = f := by
  funext k
  match k with
  | 0 => rfl
  | 1 => rfl
  | 2 => rfl
  | 3 => rfl
  | 4 => rfl
  | 5 => rfl
  | 6 => rfl

theorem step_red (c : Dev nD) (g : Fin 4) :
    iprop(accPt c (rowSet g c) fullShare (PP m c) ∗ bigSep Finset.univ fun k : Fin 7 => slotOwn c g k (slotX (PP m) c g k))
      ⊢ WP c (redStep c g)
        (fun _ => iprop(accPt c (rowSet g c) fullShare (RR m) ∗ bigSep Finset.univ fun k : Fin 7 => slotOwn c g k (slotX (PP m) c g k))) := by
  have hw : (ownRect c g).set = rowSet g c := by rw [ownRect_eq]
  have hset : ((accM : Memref sig .tc .vmem S1024x1024 .bf16).access (ownRect c g)).set ⊆ rowSet g c := by
    rw [show ((accM : Memref sig .tc .vmem S1024x1024 .bf16).access (ownRect c g)).set = (ownRect c g).set from View.set_slice_whole _ _, hw]
  have hl' := fun (kk : (S32x1024.Idx → Elt F .bf16) → PG F PUnit) (Q : PUnit → sProp 𝕄) =>
    wp_ld (c := c) (k := kk) (Q := Q) accM (ownRect c g) (hl := View.loadsAt_vmem h_S32x1024) (S := rowSet g c) (q := fullShare) (f := PP m c) hset
  have hs := fun (w : S32x1024.Idx → Elt F .bf16) (Q : PUnit → sProp 𝕄) =>
    wp_st (c := c) (Q := Q) accM (ownRect c g) (w := w)
      (hx := View.stores_vmem h_S32x1024 ((Memref.isWhole_whole cc0_scratch2).storeExact_slice rfl _ (k0_off3_packedbf16 c g)) (fun _ => rfl)) (hm := .inl rfl)
      (S := rowSet g c) (f := PP m c) hset
  rw [bigSep_fin7]
  unfold accPt redStep
  iintro ⟨Ha, H0, H1, H2, H3, H4, H5, H6⟩
  iapply (hl' _ _) $$ Ha
  iintro Ha
  iapply (wp_slot g 0 _) $$ H0
  iintro H0
  iapply (wp_slot g 1 _) $$ H1
  iintro H1
  iapply (wp_slot g 2 _) $$ H2
  iintro H2
  iapply (wp_slot g 3 _) $$ H3
  iintro H3
  iapply (wp_slot g 4 _) $$ H4
  iintro H4
  iapply (wp_slot g 5 _) $$ H5
  iintro H5
  iapply (wp_slot g 6 _) $$ H6
  iintro H6
  iapply (hl' _ _) $$ Ha
  iintro Ha
  iapply (hs _ _) $$ Ha
  iintro Ha
  isplitl [Ha]
  · have hr : ∀ j : S32x1024.Idx, (ownRect c g).emb j = (rowRect g c).emb j := by
      intro j; funext a; refine Fin.ext ?_
      show (k0_off3 c (BitVec.ofNat 32 (256 * g.val))) a + 1 * (j a).val = (![256 * g.val + 32 * c.val, 0] : Fin 2 → ℕ) a + 1 * (j a).val
      have := congrArg (fun r : Rect S1024x1024 => r.off a) (ownRect_eq c g)
      exact congrArg (· + 1 * (j a).val) this
    have e3 : ((accM : Memref sig .tc .vmem S1024x1024 .bf16).access (ownRect c g)).read (Elt F) (PP m c) = fun j => PP m c ((rowRect g c).emb j) := by
      funext j; exact congrArg (PP m c) (hr j)
    have e := acc_stored (F := F) c (ownRect c g) (PP m c) (RR m)
      (redV g (((accM : Memref sig .tc .vmem S1024x1024 .bf16).access (ownRect c g)).read (Elt F) (PP m c))
        ![slotL (slotX (PP m) c g 0), slotL (slotX (PP m) c g 1), slotL (slotX (PP m) c g 2), slotL (slotX (PP m) c g 3), slotL (slotX (PP m) c g 4),
          slotL (slotX (PP m) c g 5), slotL (slotX (PP m) c g 6)])
      (fun j => by
        rw [vec7_eq (fun k => slotL (slotX (PP m) c g k)), e3]
        exact (redOf_at (PP m) (i := (ownRect c g).emb j) (g := g) (p := c) (j := j) (by rw [hr]; exact row_emb_gI g c j)
          (by rw [hr]; exact row_emb_pI g c j) (by rw [hr]; exact row_emb_row g c j)).symm)
    rw [hw] at e
    rw [← e]; iexact Ha
  · isplitl [H0]; · iexact H0
    isplitl [H1]; · iexact H1
    isplitl [H2]; · iexact H2
    isplitl [H3]; · iexact H3
    isplitl [H4]; · iexact H4
    isplitl [H5]; · iexact H5
    iexact H6

theorem step_out (c : Dev nD) (g : Fin 4) (f : S1x1024x1024.Idx → Elt F .f32) :
    iprop(accPt c (chunkSet g) fullShare (RR m) ∗ outPt c g f)
      ⊢ WP c (outStep g) (fun _ => iprop(accPt c (chunkSet g) fullShare (RR m) ∗ outPt c g (outOf (RR m)))) := by
  have hset : ((accM : Memref sig .tc .vmem S1024x1024 .bf16).access (accRect g)).set ⊆ chunkSet g := by
    rw [show ((accM : Memref sig .tc .vmem S1024x1024 .bf16).access (accRect g)).set = chunkSet g from View.set_slice_whole _ _]
  have hseto : ((outM : Memref sig .tc .vmem S1x1024x1024 .f32).access (xRect g)).set ⊆ (xRect g).set := by
    rw [show ((outM : Memref sig .tc .vmem S1x1024x1024 .f32).access (xRect g)).set = (xRect g).set from View.set_slice_whole _ _]
  have hl := fun (kk : (S1x256x1024.Idx → Elt F .f32) → PG F PUnit) (Q : PUnit → sProp 𝕄) =>
    wp_ld (c := c) (k := kk) (Q := Q) outM (xRect g) (hl := View.loadsAt_vmem h_S1x256x1024) (S := (xRect g).set) (q := fullShare) (f := f) hseto
  have hl' := fun (kk : (S256x1024.Idx → Elt F .bf16) → PG F PUnit) (Q : PUnit → sProp 𝕄) =>
    wp_ld (c := c) (k := kk) (Q := Q) accM (accRect g) (hl := View.loadsAt_vmem h_S256x1024) (S := chunkSet g) (q := fullShare) (f := RR m) hset
  have hs := fun (w : S1x256x1024.Idx → Elt F .f32) (Q : PUnit → sProp 𝕄) =>
    wp_st (c := c) (Q := Q) outM (xRect g) (w := w) (hx := View.stores_vmem_bits_univ h_S1x256x1024 rfl) (hm := .inl rfl)
      (S := (xRect g).set) (f := f) hseto
  unfold accPt outPt outStep
  iintro ⟨Ha, Hx⟩
  iapply (hl' _ _) $$ Ha
  iintro Ha
  iapply (hl _ _) $$ Hx
  iintro Hx
  iapply (hs _ _) $$ Hx
  iintro Hx
  isplitl [Ha]
  · iexact Ha
  · have e := out_stored (F := F) c (xRect g) f (outOf (RR m)) (outV g (fun j => RR m ((accRect g).emb j)))
      (fun j => (outOf_at (RR m) (out_emb_gO g j) (out_emb_loc g j)).symm)
    rw [← e]; iexact Hx

end Cert.KernelIdeal.Coll

end
-- ==== Proof.Phases.lean ====
/- The steps gathered into the phases of the program: a group's seven sends, its seven pairs of waits, the barrier, the local copies. -/
module

public import proofs.«01_k».proof.Proof.Sends
public import proofs.«01_k».proof.Proof.Compute

@[expose] public section

noncomputable section

namespace Cert.KernelIdeal.Coll

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : Dev nD × CI → ℕ)

/-- After `n` groups of sends. -/
def St (c : Dev nD) (n : ℕ) : sProp 𝕄 := iprop(Ctx m K ∗ owesE c (owed c (7 * n)))

/-- A group's duties; -/
def Tk (c : Dev nD) (a : Fin 8) : sProp 𝕄 := bigSep Finset.univ fun j : Fin 7 => toks (F := F) c a j
/-- the device's place at its waits, with the credit for what it will receive; -/
def Wt (c : Dev nD) (a : Fin 8) : sProp 𝕄 :=
  bigSep Finset.univ fun j : Fin 7 => iprop(atPos ER (sendCell c a j) 0 ∅ 0 ∗ cred (tallyAt (recvCell c a (rev j)) () N) ∗ atPos ER (recvCell c a (rev j)) 0 ∅ 0)
/-- the credit for the sends once started; -/
def Cr (c : Dev nD) (a : Fin 8) : sProp 𝕄 := bigSep Finset.univ fun j : Fin 7 => cred (tallyAt (sendCell c a j) () N)
/-- the semaphores at zero once awaited. -/
def Zr (c : Dev nD) (a : Fin 8) : sProp 𝕄 :=
  bigSep Finset.univ fun j : Fin 7 => iprop(semVal (sendCell c a j) 0 ∗ semVal (recvCell c a (rev j)) 0)

/-- The seven slots of chunk `g`'s receive buffers on the peers, that this device fills. -/
def theirs (c : Dev nD) (g : Fin 4) : sProp 𝕄 := bigSep Finset.univ fun j : Fin 7 => iprop(∃ X, slotOwn (F := F) (peer j c) g (rev j) X)
/-- The peers' rows that this device reduces, still holding their partial products. -/
def backs (c : Dev nD) (g : Fin 4) : sProp 𝕄 := bigSep Finset.univ fun k : Fin 7 => accPt (peer k c) (rowSet g c) fullShare (PP m (peer k c))
/-- The seven slots of the device's own receive buffer, filled. -/
def filled (c : Dev nD) (g : Fin 4) : sProp 𝕄 := bigSep Finset.univ fun k : Fin 7 => slotOwn c g k (slotX (PP m) c g k)

theorem ph_rsSend (c : Dev nD) (g : Fin 4) (q : Fin 8) (hq : seqA q = rsA g) (n n' : ℕ) (hn : n = q.val) (hn' : n' = q.val + 1) :
    iprop(accPt c (chunkSet g) fullShare (PP m c) ∗ theirs c g ∗ Tk c (rsA g) ∗ St m K c n)
      ⊢ WP c (seq7 (rsSend c g)) (fun _ => iprop(accPt c (rowSet g c) fullShare (PP m c) ∗ Cr c (rsA g) ∗ St m K c n')) := by
  subst hn hn'
  have h := wp_seq7 (step_rs m K c g q hq)
  have e : (bigSep Finset.univ fun j : Fin 7 => rsA' m c g j) = iprop((bigSep Finset.univ fun j : Fin 7 => accPt c (rowSet g (peer j c)) fullShare (PP m c)) ∗ theirs c g ∗ Tk c (rsA g)) := by
    unfold rsA' theirs Tk
    rw [bigSep_sep', bigSep_sep']
  rw [show (fun j : Fin 7 => rsA' m c g j) = rsA' m c g from rfl] at e
  rw [acc_rows]
  iintro ⟨⟨Ho, Hr⟩, Ht, Hk, HS⟩
  ihave Hw := h $$ [Hr Ht Hk HS]
  · rw [e]
    isplitl [Hr Ht Hk]
    · isplitl [Hr]; · iexact Hr
      isplitl [Ht]; · iexact Ht
      iexact Hk
    · unfold sendC; unfold St; iexact HS
  iapply (Sem.wp_wand frame (wpE (defs₀ (F := F)) 𝒱₀ (c : Thread nD τ) none) Set.univ) $$ Hw
  iintro %_ ⟨Hc, HS⟩
  isplitl [Ho]; · iexact Ho
  isplitl [Hc]; · unfold Cr; iexact Hc
  unfold sendC; unfold St; iexact HS

theorem ph_agSend (c : Dev nD) (g : Fin 4) (q : Fin 8) (hq : seqA q = agA g) (n n' : ℕ) (hn : n = q.val) (hn' : n' = q.val + 1) :
    iprop(accPt c (rowSet g c) fullShare (RR m) ∗ backs m c g ∗ Tk c (agA g) ∗ St m K c n)
      ⊢ WP c (seq7 (agSend c g)) (fun _ => iprop(accPt c (rowSet g c) kept (RR m) ∗ Cr c (agA g) ∗ St m K c n')) := by
  subst hn hn'
  have h := wp_seq7 (step_ag m K c g q hq)
  have e : (bigSep Finset.univ fun j : Fin 7 => agA' m c g j) = iprop((bigSep Finset.univ fun j : Fin 7 => accPt c (rowSet g c) (lend j) (RR m)) ∗ backs m c g ∗ Tk c (agA g)) := by
    unfold agA' backs Tk
    rw [bigSep_sep', bigSep_sep']
  rw [show (fun j : Fin 7 => agA' m c g j) = agA' m c g from rfl] at e
  rw [acc_lend]
  iintro ⟨⟨Ho, Hr⟩, Ht, Hk, HS⟩
  ihave Hw := h $$ [Hr Ht Hk HS]
  · rw [e]
    isplitl [Hr Ht Hk]
    · isplitl [Hr]; · iexact Hr
      isplitl [Ht]; · iexact Ht
      iexact Hk
    · unfold sendC; unfold St; iexact HS
  iapply (Sem.wp_wand frame (wpE (defs₀ (F := F)) 𝒱₀ (c : Thread nD τ) none) Set.univ) $$ Hw
  iintro %_ ⟨Hc, HS⟩
  isplitl [Ho]; · iexact Ho
  isplitl [Hc]; · unfold Cr; iexact Hc
  unfold sendC; unfold St; iexact HS

theorem waitA_all (c : Dev nD) (a : Fin 8) : iprop(Cr c a ∗ Wt c a) ⊢ bigSep Finset.univ (waitA (F := F) c a) := by
  unfold Cr Wt
  rw [← bigSep_sep']
  refine bigSep_mono fun j _ => ?_
  unfold waitA
  refine (show iprop(cred (tallyAt (sendCell c a j) () N) ∗ atPos ER (sendCell c a j) 0 ∅ 0
      ∗ cred (tallyAt (recvCell c a (rev j)) () N) ∗ atPos ER (recvCell c a (rev j)) 0 ∅ 0)
    ⊢ (iprop((cred (tallyAt (sendCell c a j) () N) ∗ atPos ER (sendCell c a j) 0 ∅ 0)
      ∗ cred (tallyAt (recvCell c a (rev j)) () N) ∗ atPos ER (recvCell c a (rev j)) 0 ∅ 0) : sProp 𝕄) from ?_)
  iintro ⟨H1, H2, H3⟩
  isplitl [H1 H2]
  · isplitl [H1] <;> iassumption
  iexact H3

theorem waitB_all (c : Dev nD) (a : Fin 8) : bigSep Finset.univ (waitB m c a)
    ⊢ iprop((bigSep Finset.univ fun j : Fin 7 => sendPay m c a j) ∗ (bigSep Finset.univ fun k : Fin 7 => recvPay m c a k) ∗ Zr c a) := by
  rw [bigSep_rev (fun k : Fin 7 => recvPay m c a k)]
  unfold Zr
  rw [← bigSep_sep', ← bigSep_sep']
  refine bigSep_mono fun j _ => ?_
  unfold waitB
  refine (show iprop((sendPay m c a j ∗ semVal (sendCell c a j) 0) ∗ recvPay m c a (rev j) ∗ semVal (recvCell c a (rev j)) 0)
    ⊢ (iprop(sendPay m c a j ∗ recvPay m c a (rev j) ∗ semVal (sendCell c a j) 0 ∗ semVal (recvCell c a (rev j)) 0) : sProp 𝕄) from ?_)
  iintro ⟨⟨H1, H2⟩, H3, H4⟩
  isplitl [H1]; · iexact H1
  isplitl [H3]; · iexact H3
  isplitl [H2] <;> iassumption

theorem ph_rsWait (c : Dev nD) (g : Fin 4) (n : ℕ) (hlv : ∀ u ∈ Finset.Ico (7 * n) 56, lvA (rsA g) < lvA (seqA (aOf u))) :
    iprop(Cr c (rsA g) ∗ Wt c (rsA g) ∗ St m K c n)
      ⊢ WP c (seq7 (rsWait c g)) (fun _ => iprop(filled m c g ∗ backs m c g ∗ Zr c (rsA g) ∗ St m K c n)) := by
  have h := wp_seq7 (step_rsWait m K c g (7 * n) hlv)
  have e : (bigSep Finset.univ fun k : Fin 7 => recvPay m c (rsA g) k) = iprop(filled m c g ∗ backs m c g) := by
    unfold filled backs
    rw [← bigSep_sep']; exact bigSep_congr fun k _ => recvPay_rs m c g k
  iintro ⟨Hc, Hw, HS⟩
  ihave Hw := h $$ [Hc Hw HS]
  · isplitl [Hc Hw]
    · iapply (waitA_all (F := F) c (rsA g))
      isplitl [Hc] <;> iassumption
    · unfold waitC; unfold St; iexact HS
  iapply (Sem.wp_wand frame (wpE (defs₀ (F := F)) 𝒱₀ (c : Thread nD τ) none) Set.univ) $$ Hw
  iintro %_ ⟨HB, HS⟩
  ihave HB' := (waitB_all m c (rsA g)) $$ HB
  icases HB' with ⟨-, Hr, Hz⟩
  ihave Hr' := (Entails.of_eq e) $$ Hr
  icases Hr' with ⟨Hf, Hb⟩
  isplitl [Hf]; · iexact Hf
  isplitl [Hb]; · iexact Hb
  isplitl [Hz]; · iexact Hz
  unfold waitC; unfold St; iexact HS

theorem ph_agWait (c : Dev nD) (g : Fin 4) (n : ℕ) (hlv : ∀ u ∈ Finset.Ico (7 * n) 56, lvA (agA g) < lvA (seqA (aOf u))) :
    iprop(accPt c (rowSet g c) kept (RR m) ∗ Cr c (agA g) ∗ Wt c (agA g) ∗ St m K c n)
      ⊢ WP c (seq7 (agWait c g)) (fun _ => iprop(accPt c (chunkSet g) fullShare (RR m) ∗ Zr c (agA g) ∗ St m K c n)) := by
  have h := wp_seq7 (step_agWait m K c g (7 * n) hlv)
  have e1 : (bigSep Finset.univ fun k : Fin 7 => recvPay m c (agA g) k) = bigSep Finset.univ fun k : Fin 7 => accPt c (rowSet g (peer k c)) fullShare (RR m) :=
    bigSep_congr fun k _ => recvPay_ag m c g k
  have e2 : (bigSep Finset.univ fun k : Fin 7 => sendPay m c (agA g) k) = bigSep Finset.univ fun k : Fin 7 => accPt c (rowSet g c) (lend k) (RR m) :=
    bigSep_congr fun k _ => sendPay_ag m c g k
  rw [acc_rows, acc_lend]
  iintro ⟨Hkept, Hc, Hw, HS⟩
  ihave Hw := h $$ [Hc Hw HS]
  · isplitl [Hc Hw]
    · iapply (waitA_all (F := F) c (agA g))
      isplitl [Hc] <;> iassumption
    · unfold waitC; unfold St; iexact HS
  iapply (Sem.wp_wand frame (wpE (defs₀ (F := F)) 𝒱₀ (c : Thread nD τ) none) Set.univ) $$ Hw
  iintro %_ ⟨HB, HS⟩
  ihave HB' := (waitB_all m c (agA g)) $$ HB
  icases HB' with ⟨Hs, Hr, Hz⟩
  ihave Hr' := (Entails.of_eq e1) $$ Hr
  ihave Hs' := (Entails.of_eq e2) $$ Hs
  isplitl [Hkept Hs' Hr']
  · isplitl [Hkept Hs']
    · isplitl [Hkept] <;> iassumption
    iexact Hr'
  isplitl [Hz]; · iexact Hz
  unfold waitC; unfold St; iexact HS

theorem ph_red (c : Dev nD) (g : Fin 4) :
    iprop(accPt c (rowSet g c) fullShare (PP m c) ∗ filled m c g) ⊢ WP c (redStep c g) (fun _ => iprop(accPt c (rowSet g c) fullShare (RR m) ∗ filled m c g)) :=
  step_red m c g

/-! ## The signals and the barrier's wait -/

/-- The slots of the device's own receive buffers, at any contents. -/
def mine (c : Dev nD) (g : Fin 4) : sProp 𝕄 := bigSep Finset.univ fun j : Fin 7 => iprop(∃ X, slotOwn (F := F) c g j X)

theorem ph_sig (c : Dev nD) :
    iprop((bigSep Finset.univ fun j : Fin 7 => dutyTok ER (barCell (peer j c)) 0 j) ∗ (bigSep Finset.univ fun g : Fin 4 => mine (F := F) c g)
        ∗ Ctx m K ∗ owesE c (O₀ c))
      ⊢ WP c (seq7 (sigTo c)) (fun _ => St m K c 0) := by
  have h := wp_seq7 (step_sig m K c)
  have e : bigSep Finset.univ (sigA (F := F) c) = iprop((bigSep Finset.univ fun j : Fin 7 => dutyTok ER (barCell (peer j c)) 0 j) ∗ (bigSep Finset.univ fun g : Fin 4 => mine (F := F) c g)) := by
    unfold mine
    rw [bigSep_univ_comm (fun (g : Fin 4) (j : Fin 7) => iprop(∃ X, slotOwn (F := F) c g j X)), ← bigSep_sep']
    rfl
  iintro ⟨Ht, Hs, HC, HO⟩
  ihave Hw := h $$ [Ht Hs HC HO]
  · rw [e]
    isplitl [Ht Hs]
    · isplitl [Ht] <;> iassumption
    unfold sigC; unfold O₀
    isplitl [HC] <;> iassumption
  iapply (Sem.wp_wand frame (wpE (defs₀ (F := F)) 𝒱₀ (c : Thread nD τ) none) Set.univ) $$ Hw
  iintro %_ ⟨-, HS⟩
  unfold sigC; unfold St
  rw [owedBar_end, add_zero]
  iexact HS

theorem ph_bar (c : Dev nD) :
    iprop(cred (tallyAt (barCell c) () 7) ∗ atPos ER (barCell c) 0 ∅ 0 ∗ St m K c 0)
      ⊢ WP c (semWaitWord barS 7#32) (fun _ => iprop((bigSep Finset.univ fun g : Fin 4 => theirs (F := F) c g) ∗ semVal (barCell c) 0 ∗ St m K c 0)) := by
  have e : (bigSep Finset.univ fun j : Fin 7 => barPay (F := F) c j) = bigSep Finset.univ fun g : Fin 4 => theirs (F := F) c g := by
    unfold theirs
    rw [bigSep_rev, bigSep_univ_comm (fun (g : Fin 4) (j : Fin 7) => iprop(∃ X, slotOwn (F := F) (peer j c) g (rev j) X))]
    refine bigSep_congr fun j _ => ?_
    unfold barPay; rw [rev_rev]
  unfold St owesE
  simp only [semWaitWord]
  iintro ⟨Hc, Ha, #HC, %W, HO⟩
  iapply (Rounds.wp_wait_rest_token 𝒱₀ ER (Rd m) (c : Thread nD τ) none (κ := K (c, none)) (sm := .reg barS)
      (wpE_semWait_eq 𝒱₀ (c : Thread nD τ) none Set.univ) (Set.mem_univ _) () (O := owed c 0) (W := W) (R := 0) (m := 0) (T := ∅)
      (by rw [Nat.zero_add]; exact (expect_bar m c).symm)) $$ [Hc HO Ha]
  · isplitr; · iapply (ctx_inv m K (c, none)); iexact HC
    isplitl [Hc]; · iexact Hc
    isplitl [HO]; · iexact HO
    isplitr
    · iapply (mayWait_owed (F := F) c (.reg barS) 0 (fun u _ => by rw [lvS_bar]; exact (by decide : ∀ a, 1 < lvA a) _))
      iapply (ctx_lev m K); iexact HC
    iexact Ha
  iintro ⟨HO, Ha, -, Hp⟩
  rw [Sem.wp_ret]
  ihave Hp := (Entails.of_eq ((rest_bar m c).trans e)) $$ Hp
  imod (Rounds.cell_close ER (Rd m) (Set.mem_univ (K (c, none))) (fun h => h) (R := 0 + 1) (duties_later m (barCell c))) $$ [Ha] with Hz
  · isplitr; · iapply (ctx_inv m K (c, none)); iexact HC
    iexact Ha
  imodintro
  isplitl [Hp]; · iexact Hp
  isplitl [Hz]; · iexact Hz
  isplitr; · iexact HC
  iexists _; iexact HO

/-! ## The local copies -/

theorem ph_copy (c : Dev nD) (b : Fin 2) (sm : DmaSem sig) (hsm : .dma sm = osem (.inl b)) (src : Memref sig .tc .hbm S1024x8x128 .f32)
    (dst : Memref sig .tc .vmem S1024x8x128 .f32)
    {h1 : src.view.WordExact} {h2 : dst.view.WordExact} {h3 : DmaTarget.Typed (nD := nD) (τ := τ) (sig := sig) (p := .tc) .hbm (.dma sm) (.here dst)}
    (fs : Buf (Elt F) (src.view.loc (c : Thread nD τ))) (fd : Buf (Elt F) (dst.view.loc (c : Thread nD τ))) (hN : dst.view.amount (.dma sm) = NK)
    (hpay : iprop((dst.view.loc (c : Thread nD τ) ↦[dst.view.set]{fullShare} (dst.view.write (Elt F) fd (src.view.read (Elt F) fs) Finset.univ))
      ∗ (src.view.loc (c : Thread nD τ) ↦[src.view.set]{fullShare} fs)) ⊢ (Rd m).payload (copyCell c b) 0 0) :
    iprop((src.view.loc (c : Thread nD τ) ↦[src.view.set]{fullShare} fs) ∗ (dst.view.loc (c : Thread nD τ) ↦[dst.view.set]{fullShare} fd)
        ∗ dutyTok ER (copyCell c b) 0 0 ∗ Ctx m K)
      ⊢ WP c (Prog.lift (.enqueueDma src (.here dst) (.dma sm) h1 h2 h3)) (fun _ => cred (tallyAt (copyCell c b) () NK)) := by
  have hm : (0 : Fin 7) ∈ (Rd m).duties ((c : Thread nD τ), osem (.inl b)) 0 := by rw [duties_own]; exact Finset.mem_singleton_self _
  have ha := amount_copy m c b 0
  have hi := ctx_inv m K (c, some (.inl b))
  have hr := ctx_reached m K (c, some (.inl b))
  simp only [copyCell, kcell, csem] at hi hr ha hpay ⊢
  rw [← hsm] at hi hr hm ha hpay ⊢
  have t := Rounds.wp_copy_pointsTo 𝒱₀ ER (Rd m) (c : Thread nD τ) none (defs := defs₀ (F := F)) (Γ := ∅) (src := src) (dst := dst) (sem := .dma sm)
    (hsrc := h1) (hdst := h2) (hsem := h3) (k := fun x => .ret x) (Q := fun _ => cred (tallyAt ((c : Thread nD τ), SemLoc.dma sm) () NK)) (α := PUnit) (Es := Set.univ)
    (q := fullShare) (fs := fs) (fd := fd) (r := 0) (d := 0) (κ := K (c, some (.inl b))) hm () NK hN ha hpay
  iintro ⟨Hs, Hd, Ht, #HC⟩
  iapply t $$ [Hs Hd Ht]
  · isplitr; · iapply hi; iexact HC
    isplitl [Hs]; · iexact Hs
    isplitl [Hd]; · iexact Hd
    isplitl [Ht]; · iexact Ht
    iapply hr; iexact HC
  iintro Hc
  rw [Sem.wp_ret]; imodintro; iexact Hc

end Cert.KernelIdeal.Coll

end
-- ==== Proof.RunPhases.lean ====
/- The body's main part, run once for any device. -/
module

public import proofs.«01_k».proof.Proof.Phases

@[expose] public section

noncomputable section

namespace Cert.KernelIdeal.Coll

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : Dev nD × CI → ℕ)

/-- Over the four chunks. -/
abbrev four (Φ : Fin 4 → sProp 𝕄) : sProp 𝕄 := iprop(Φ 0 ∗ Φ 1 ∗ Φ 2 ∗ Φ 3)

theorem four_intro (Φ : Fin 4 → sProp 𝕄) : iprop(Φ 0 ∗ Φ 1 ∗ Φ 2 ∗ Φ 3) ⊢ four Φ := BI.Entails.refl _

/-- The four chunks computed, reduced, gathered and stored, step by step in the program's order. -/
theorem run_phases (c : Dev nD) (f : S1024x1024.Idx → Elt F .bf16) (fo : S1x1024x1024.Idx → Elt F .f32) :
    iprop((four fun g => accPt c (chunkSet g) fullShare f) ∗ (four fun g => theirs (F := F) c g) ∗ (four fun g => Tk (F := F) c (rsA g)) ∗ (four fun g => Tk (F := F) c (agA g))
        ∗ (four fun g => Wt (F := F) c (rsA g)) ∗ (four fun g => Wt (F := F) c (agA g)) ∗ (four fun g => outPt c g fo) ∗ xSt m c ∗ St m K c 0)
      ⊢ WP c (phases c (k0_pay2 (wqIn m c)) (k0_pay3 (woIn m c)) (k0_pay4 (kIn m c)) (k0_pay5 (vIn m c)))
        (fun _ => iprop((four fun g => accPt c (chunkSet g) fullShare (RR m)) ∗ (four fun g => filled m c g) ∗ (four fun g => Zr (F := F) c (rsA g)) ∗ (four fun g => Zr (F := F) c (agA g))
          ∗ (four fun g => outPt c g (outOf (RR m))) ∗ xSt m c ∗ St m K c 8)) := by
  unfold phases four
  iintro ⟨⟨A0, A1, A2, A3⟩, ⟨T0, T1, T2, T3⟩, ⟨D0, D1, D2, D3⟩, ⟨E0, E1, E2, E3⟩, ⟨W0, W1, W2, W3⟩, ⟨V0, V1, V2, V3⟩, ⟨O0, O1, O2, O3⟩, X, S⟩
  iapply (wp_step (step_chunk m c 0 f)) $$ [A0 X]
  · isplitl [A0]; · iexact A0
    iexact X
  iintro ⟨A0, X⟩
  iapply (wp_step (ph_rsSend m K c 0 0 rfl 0 1 rfl rfl)) $$ [A0 T0 D0 S]
  · isplitl [A0]; · iexact A0
    isplitl [T0]; · iexact T0
    isplitl [D0]; · iexact D0
    iexact S
  iintro ⟨A0, C0, S⟩
  iapply (wp_step (step_chunk m c 1 f)) $$ [A1 X]
  · isplitl [A1]; · iexact A1
    iexact X
  iintro ⟨A1, X⟩
  iapply (wp_step (ph_rsSend m K c 1 1 rfl 1 2 rfl rfl)) $$ [A1 T1 D1 S]
  · isplitl [A1]; · iexact A1
    isplitl [T1]; · iexact T1
    isplitl [D1]; · iexact D1
    iexact S
  iintro ⟨A1, C1, S⟩
  iapply (wp_step (step_chunk m c 2 f)) $$ [A2 X]
  · isplitl [A2]; · iexact A2
    iexact X
  iintro ⟨A2, X⟩
  iapply (wp_step (ph_rsSend m K c 2 2 rfl 2 3 rfl rfl)) $$ [A2 T2 D2 S]
  · isplitl [A2]; · iexact A2
    isplitl [T2]; · iexact T2
    isplitl [D2]; · iexact D2
    iexact S
  iintro ⟨A2, C2, S⟩
  iapply (wp_step (ph_rsWait m K c 0 3 (by decide))) $$ [C0 W0 S]
  · isplitl [C0]; · iexact C0
    isplitl [W0]; · iexact W0
    iexact S
  iintro ⟨F0, B0, Z0, S⟩
  iapply (wp_step (ph_red m c 0)) $$ [A0 F0]
  · isplitl [A0]; · iexact A0
    iexact F0
  iintro ⟨A0, F0⟩
  iapply (wp_step (ph_agSend m K c 0 3 rfl 3 4 rfl rfl)) $$ [A0 B0 E0 S]
  · isplitl [A0]; · iexact A0
    isplitl [B0]; · iexact B0
    isplitl [E0]; · iexact E0
    iexact S
  iintro ⟨A0, C0, S⟩
  iapply (wp_step (ph_rsWait m K c 1 4 (by decide))) $$ [C1 W1 S]
  · isplitl [C1]; · iexact C1
    isplitl [W1]; · iexact W1
    iexact S
  iintro ⟨F1, B1, Z1, S⟩
  iapply (wp_step (ph_red m c 1)) $$ [A1 F1]
  · isplitl [A1]; · iexact A1
    iexact F1
  iintro ⟨A1, F1⟩
  iapply (wp_step (ph_agSend m K c 1 4 rfl 4 5 rfl rfl)) $$ [A1 B1 E1 S]
  · isplitl [A1]; · iexact A1
    isplitl [B1]; · iexact B1
    isplitl [E1]; · iexact E1
    iexact S
  iintro ⟨A1, C1, S⟩
  iapply (wp_step (step_chunk m c 3 f)) $$ [A3 X]
  · isplitl [A3]; · iexact A3
    iexact X
  iintro ⟨A3, X⟩
  iapply (wp_step (ph_rsSend m K c 3 5 rfl 5 6 rfl rfl)) $$ [A3 T3 D3 S]
  · isplitl [A3]; · iexact A3
    isplitl [T3]; · iexact T3
    isplitl [D3]; · iexact D3
    iexact S
  iintro ⟨A3, C3, S⟩
  iapply (wp_step (ph_agWait m K c 0 6 (by decide))) $$ [A0 C0 V0 S]
  · isplitl [A0]; · iexact A0
    isplitl [C0]; · iexact C0
    isplitl [V0]; · iexact V0
    iexact S
  iintro ⟨A0, Y0, S⟩
  iapply (wp_step (step_out m c 0 fo)) $$ [A0 O0]
  · isplitl [A0]; · iexact A0
    iexact O0
  iintro ⟨A0, O0⟩
  iapply (wp_step (ph_rsWait m K c 2 6 (by decide))) $$ [C2 W2 S]
  · isplitl [C2]; · iexact C2
    isplitl [W2]; · iexact W2
    iexact S
  iintro ⟨F2, B2, Z2, S⟩
  iapply (wp_step (ph_red m c 2)) $$ [A2 F2]
  · isplitl [A2]; · iexact A2
    iexact F2
  iintro ⟨A2, F2⟩
  iapply (wp_step (ph_agSend m K c 2 6 rfl 6 7 rfl rfl)) $$ [A2 B2 E2 S]
  · isplitl [A2]; · iexact A2
    isplitl [B2]; · iexact B2
    isplitl [E2]; · iexact E2
    iexact S
  iintro ⟨A2, C2, S⟩
  iapply (wp_step (ph_agWait m K c 1 7 (by decide))) $$ [A1 C1 V1 S]
  · isplitl [A1]; · iexact A1
    isplitl [C1]; · iexact C1
    isplitl [V1]; · iexact V1
    iexact S
  iintro ⟨A1, Y1, S⟩
  iapply (wp_step (step_out m c 1 fo)) $$ [A1 O1]
  · isplitl [A1]; · iexact A1
    iexact O1
  iintro ⟨A1, O1⟩
  iapply (wp_step (ph_rsWait m K c 3 7 (by decide))) $$ [C3 W3 S]
  · isplitl [C3]; · iexact C3
    isplitl [W3]; · iexact W3
    iexact S
  iintro ⟨F3, B3, Z3, S⟩
  iapply (wp_step (ph_red m c 3)) $$ [A3 F3]
  · isplitl [A3]; · iexact A3
    iexact F3
  iintro ⟨A3, F3⟩
  iapply (wp_step (ph_agSend m K c 3 7 rfl 7 8 rfl rfl)) $$ [A3 B3 E3 S]
  · isplitl [A3]; · iexact A3
    isplitl [B3]; · iexact B3
    isplitl [E3]; · iexact E3
    iexact S
  iintro ⟨A3, C3, S⟩
  iapply (wp_step (ph_agWait m K c 2 8 (by decide))) $$ [A2 C2 V2 S]
  · isplitl [A2]; · iexact A2
    isplitl [C2]; · iexact C2
    isplitl [V2]; · iexact V2
    iexact S
  iintro ⟨A2, Y2, S⟩
  iapply (wp_step (step_out m c 2 fo)) $$ [A2 O2]
  · isplitl [A2]; · iexact A2
    iexact O2
  iintro ⟨A2, O2⟩
  iapply (wp_step (ph_agWait m K c 3 8 (by decide))) $$ [A3 C3 V3 S]
  · isplitl [A3]; · iexact A3
    isplitl [C3]; · iexact C3
    isplitl [V3]; · iexact V3
    iexact S
  iintro ⟨A3, Y3, S⟩
  iapply (wp_last (step_out m c 3 fo)) $$ [A3 O3]
  · isplitl [A3]; · iexact A3
    iexact O3
  iintro ⟨A3, O3⟩
  isplitl [A0 A1 A2 A3]
  · isplitl [A0]; · iexact A0
    isplitl [A1]; · iexact A1
    isplitl [A2]; · iexact A2
    iexact A3
  isplitl [F0 F1 F2 F3]
  · isplitl [F0]; · iexact F0
    isplitl [F1]; · iexact F1
    isplitl [F2]; · iexact F2
    iexact F3
  isplitl [Z0 Z1 Z2 Z3]
  · isplitl [Z0]; · iexact Z0
    isplitl [Z1]; · iexact Z1
    isplitl [Z2]; · iexact Z2
    iexact Z3
  isplitl [Y0 Y1 Y2 Y3]
  · isplitl [Y0]; · iexact Y0
    isplitl [Y1]; · iexact Y1
    isplitl [Y2]; · iexact Y2
    iexact Y3
  isplitl [O0 O1 O2 O3]
  · isplitl [O0]; · iexact O0
    isplitl [O1]; · iexact O1
    isplitl [O2]; · iexact O2
    iexact O3
  isplitl [X]; · iexact X
  iexact S

end Cert.KernelIdeal.Coll

end
-- ==== Proof.Body.lean ====
/- The whole body, run once for any device: the local copies, the barrier, then the main part. -/
module

public import proofs.«01_k».proof.Proof.RunPhases

@[expose] public section

noncomputable section

namespace Cert.KernelIdeal.Coll

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : Dev nD × CI → ℕ)

/-- A buffer of device `c` whole, holding `f`. -/
abbrev whole (c : Dev nD) (b : Ref sig .tc) (f : Buf (Elt F) ((c : Thread nD τ).loc b)) : sProp 𝕄 := ((c : Thread nD τ).loc b) ↦{fullShare} f

omit [FloatOps F] in
/-- What a finished copy leaves: the destination read as the source was. -/
theorem copy_lands (c : Dev nD) (src : Memref sig .tc .hbm S1024x8x128 .f32) (dst : Memref sig .tc .vmem S1024x8x128 .f32)
    (fs : Buf (Elt F) (src.view.loc (c : Thread nD τ))) (fd : Buf (Elt F) (dst.view.loc (c : Thread nD τ))) :
    (dst.view.loc (c : Thread nD τ) ↦[dst.view.set]{fullShare} (dst.view.write (Elt F) fd (src.view.read (Elt F) fs) Finset.univ) : sProp 𝕄)
      ⊢ owns (c : Thread nD τ) dst fullShare (src.view.read (Elt F) fs) := by
  unfold owns
  iintro H
  iexists dst.view.write (Elt F) fd (src.view.read (Elt F) fs) Finset.univ
  isplitr
  · ipureintro; exact View.read_write_univ _ _
  · iexact H

/-- The keys' copy set going. -/
theorem ph_kStart (c : Dev nD) (f0 : Buf (Elt F) ((c : Thread nD τ).loc cc0_scratch0)) :
    iprop(((kSrc c).view.loc (c : Thread nD τ) ↦[(kSrc c).view.set]{fullShare} m ((c : Thread nD τ).loc main_arg2)) ∗ whole c cc0_scratch0 f0
        ∗ dutyTok ER (copyCell c 0) 0 0 ∗ Ctx m K)
      ⊢ WP c (kStart c) (fun _ => cred (tallyAt (copyCell c 0) () NK)) := by
  have hset : (kM : Memref sig .tc .vmem S1024x8x128 .f32).view.set = Finset.univ := View.set_whole _
  have t := ph_copy m K c 0 kSem rfl (kSrc c) kM (h1 := (View.wordExact_bits rfl).reshape _ _) (h2 := (Memref.isWhole_whole _).wordExact)
    (h3 := ⟨Or.inl rfl, trivial⟩) (m ((c : Thread nD τ).loc main_arg2)) f0 rfl (by
      rw [payload_k]; unfold kPay
      exact sep_mono_left (copy_lands c (kSrc c) kM _ _))
  rw [hset] at t
  exact t

/-- The values' copy set going. -/
theorem ph_vStart (c : Dev nD) (f1 : Buf (Elt F) ((c : Thread nD τ).loc cc0_scratch1)) :
    iprop(((vSrc c).view.loc (c : Thread nD τ) ↦[(vSrc c).view.set]{fullShare} m ((c : Thread nD τ).loc main_arg3)) ∗ whole c cc0_scratch1 f1
        ∗ dutyTok ER (copyCell c 1) 0 0 ∗ Ctx m K)
      ⊢ WP c (vStart c) (fun _ => cred (tallyAt (copyCell c 1) () NK)) := by
  have hset : (vM : Memref sig .tc .vmem S1024x8x128 .f32).view.set = Finset.univ := View.set_whole _
  have t := ph_copy m K c 1 vSem rfl (vSrc c) vM (h1 := (View.wordExact_bits rfl).reshape _ _) (h2 := (Memref.isWhole_whole _).wordExact)
    (h3 := ⟨Or.inl rfl, trivial⟩) (m ((c : Thread nD τ).loc main_arg3)) f1 rfl (by
      rw [payload_v]; unfold vPay
      exact sep_mono_left (copy_lands c (vSrc c) vM _ _))
  rw [hset] at t
  exact t

theorem lvA_pos (b : Fin 2) (u : ℕ) : lvS (osem (.inl b)) < lvA (seqA (aOf u)) := by
  rw [lvS_copy]; exact (by decide : ∀ a, 0 < lvA (seqA a)) _

/-- The keys' arrival. -/
theorem ph_kWait (c : Dev nD) :
    iprop((cred (tallyAt (copyCell c 0) () NK) ∗ atPos ER (copyCell c 0) 0 ∅ 0) ∗ St m K c 0)
      ⊢ WP c (kWait c) (fun _ => iprop((kPay m c ∗ semVal (copyCell c 0) 0) ∗ St m K c 0)) := by
  have t := step_wait m K c (.inl 0) kSem rfl 0 (src := kSrc c) (dst := kM) (h1 := (View.wordExact_bits rfl).reshape _ _) (h2 := (Memref.isWhole_whole _).wordExact)
    (expect_copy m c 0).symm (fun u _ => lvA_pos 0 u)
  rw [show (Rd m).payload ((c : Thread nD τ), osem (.inl 0)) 0 0 = kPay m c from payload_k m c 0] at t
  exact t

/-- The values' arrival. -/
theorem ph_vWait (c : Dev nD) :
    iprop((cred (tallyAt (copyCell c 1) () NK) ∗ atPos ER (copyCell c 1) 0 ∅ 0) ∗ St m K c 0)
      ⊢ WP c (vWait c) (fun _ => iprop((vPay m c ∗ semVal (copyCell c 1) 0) ∗ St m K c 0)) := by
  have t := step_wait m K c (.inl 1) vSem rfl 0 (src := vSrc c) (dst := vM) (h1 := (View.wordExact_bits rfl).reshape _ _) (h2 := (Memref.isWhole_whole _).wordExact)
    (expect_copy m c 1).symm (fun u _ => lvA_pos 1 u)
  rw [show (Rd m).payload ((c : Thread nD τ), osem (.inl 1)) 0 0 = vPay m c from payload_v m c 0] at t
  exact t

omit [FloatOps F] in
/-- A whole array, split at the block a copy reads. -/
theorem arg_split (c : Dev nD) (b : Ref sig .tc) (I : Finset (Idx ((c : Thread nD τ).loc b))) (f : Buf (Elt F) ((c : Thread nD τ).loc b)) :
    whole (F := F) c b f = iprop((((c : Thread nD τ).loc b) ↦[I]{fullShare} f) ∗ (((c : Thread nD τ).loc b) ↦[Finset.univ \ I]{fullShare} f)) := by
  have h := pointsTo_split_subset (Ix := Unit) (Name := ℕ) (U := UU) (Lvl := ℕ) (ℓ := (c : Thread nD τ).loc b) (q := fullShare) (f := f) (Finset.subset_univ I)
  exact BI.equiv_iff.mp ⟨h.1, h.2⟩

/-- The staged inputs. -/
def stIn (c : Dev nD) : sProp 𝕄 := iprop(xSt m c ∗ whole c cc0_stg1_0 (wqIn m c) ∗ whole c cc0_stg2_0 (woIn m c))
/-- The keys and values, every head's. -/
def hbmIn (c : Dev nD) : sProp 𝕄 :=
  iprop(whole c main_arg2 (m ((c : Thread nD τ).loc main_arg2)) ∗ whole c main_arg3 (m ((c : Thread nD τ).loc main_arg3)))
/-- The device's duties, places and credits: the copies', the barrier's, the transfers'. -/
def duties (c : Dev nD) : sProp 𝕄 :=
  iprop((dutyTok ER (copyCell c 0) 0 0 ∗ dutyTok ER (copyCell c 1) 0 0 ∗ atPos ER (copyCell c 0) 0 ∅ 0 ∗ atPos ER (copyCell c 1) 0 ∅ 0)
    ∗ ((bigSep Finset.univ fun j : Fin 7 => dutyTok ER (barCell (peer j c)) 0 j) ∗ cred (tallyAt (barCell c) () 7) ∗ atPos ER (barCell c) 0 ∅ 0)
    ∗ (four fun g => Tk (F := F) c (rsA g)) ∗ (four fun g => Tk (F := F) c (agA g)) ∗ (four fun g => Wt (F := F) c (rsA g)) ∗ (four fun g => Wt (F := F) c (agA g)))
/-- Every semaphore of the protocol on the device, at zero. -/
def zeros (c : Dev nD) : sProp 𝕄 :=
  iprop(semVal (barCell c) 0 ∗ (semVal (copyCell c 0) 0 ∗ semVal (copyCell c 1) 0) ∗ (four fun g => Zr (F := F) c (rsA g)) ∗ (four fun g => Zr (F := F) c (agA g)))
/-- The scratch at any contents, in the pieces the body works on. -/
def scr (c : Dev nD) : sProp 𝕄 :=
  iprop((∃ f, whole (F := F) c cc0_scratch0 f) ∗ (∃ f, whole (F := F) c cc0_scratch1 f)
    ∗ (∃ f : S1024x1024.Idx → Elt F .bf16, four fun g => accPt c (chunkSet g) fullShare f) ∗ (four fun g => mine (F := F) c g))

theorem hz2 : (![0, 0] : Fin 2 → Nat) = fun _ => 0 := funext fun a => by fin_cases a <;> rfl
theorem hz3 : (![0, 0, 0] : Fin 3 → Nat) = fun _ => 0 := funext fun a => by fin_cases a <;> rfl

theorem filled_mine (c : Dev nD) (g : Fin 4) : filled m c g ⊢ mine (F := F) c g := by
  unfold filled mine
  refine bigSep_mono fun k _ => ?_
  refine (show slotOwn c g k (slotX (PP m) c g k) ⊢ (iprop(∃ X, slotOwn (F := F) c g k X) : sProp 𝕄) from ?_)
  iintro H; iexists _; iexact H

/-- A load of a whole buffer yields its contents. -/
theorem ld_whole {c : Dev nD} {α : Type} {Q : α → sProp 𝕄} {s : Shape} (mm : Memref sig .tc .vmem s .f32) (r : Rect s)
    {hl : mm.view.LoadsAt r} {k : (r.shape.Idx → Elt F .f32) → PG F α} (f : Buf (Elt F) ((mm.access r).loc (c : Thread nD τ))) (X : r.shape.Idx → Elt F .f32)
    (hX : (mm.access r).read (Elt F) f = X) :
    ((mm.access r).loc (c : Thread nD τ) ↦{fullShare} f : sProp 𝕄)
      ⊢ iprop((((mm.access r).loc (c : Thread nD τ) ↦{fullShare} f) -∗ WP c (k X) Q) -∗ WP c (Prog.lift (.load mm r.toLoadRect hl) >>= k) Q) := by
  subst hX
  exact wp_ld (c := c) (k := k) (Q := Q) mm r (S := Finset.univ) (q := fullShare) (f := f) (Finset.subset_univ _)

/-- The body's run on device `c`: from its duties and buffers to every semaphore at zero and the result written. -/
theorem run_prog (c : Dev nD) (fo : S1x1024x1024.Idx → Elt F .f32) :
    iprop(Ctx m K ∗ owesE c (O₀ c) ∗ duties (F := F) c ∗ scr (F := F) c ∗ hbmIn m c ∗ stIn m c ∗ (four fun g => outPt c g fo))
      ⊢ WP c (prog c) (fun _ => iprop(owesE (F := F) c 0 ∗ zeros (F := F) c ∗ scr (F := F) c ∗ hbmIn m c ∗ stIn m c ∗ (four fun g => outPt c g (outOf (RR m))))) := by
  unfold prog duties scr hbmIn stIn four
  rw [arg_split c main_arg2 (kSrc c).view.set, arg_split c main_arg3 (vSrc c).view.set]
  iintro ⟨#HC, HO, ⟨⟨Dk, Dv, Ak, Av⟩, ⟨Db, Cb, Ab⟩, HT1, HT2, HW1, HW2⟩, ⟨⟨%f0, S0⟩, ⟨%f1, S1⟩, ⟨%f, HA⟩, HM⟩, ⟨⟨Hk, Hk'⟩, ⟨Hv, Hv'⟩⟩, ⟨HX, Hq, Ho⟩, Hout⟩
  iapply (wp_step (ph_kStart m K c f0)) $$ [Hk S0 Dk]
  · isplitl [Hk]; · iexact Hk
    isplitl [S0]; · iexact S0
    isplitl [Dk]; · iexact Dk
    iexact HC
  iintro Ck
  iapply (wp_step (ph_vStart m K c f1)) $$ [Hv S1 Dv]
  · isplitl [Hv]; · iexact Hv
    isplitl [S1]; · iexact S1
    isplitl [Dv]; · iexact Dv
    iexact HC
  iintro Cv
  iapply (wp_step (ph_sig m K c)) $$ [Db HM HO]
  · isplitl [Db]; · iexact Db
    isplitl [HM]
    · rw [bigSep_fin4]; iexact HM
    isplitr; · iexact HC
    iexact HO
  iintro HS
  iapply (ld_whole (c := c) wqM (Rect.unit (s := S1024x1024) ![0, 0] S1024x1024.size inb_S1024x1024_S1024x1024_0_0) (hl := View.loadsAt_vmem h_S1024x1024)
    (wqIn m c) (wqIn m c) (Memref.readAt_unit_zero (Elt F) cc0_stg1_0 hz2 _ _)) $$ Hq
  iintro Hq
  iapply (ld_whole (c := c) woM (Rect.unit (s := S1024x1024) ![0, 0] S1024x1024.size inb_S1024x1024_S1024x1024_0_0) (hl := View.loadsAt_vmem h_S1024x1024)
    (woIn m c) (woIn m c) (Memref.readAt_unit_zero (Elt F) cc0_stg2_0 hz2 _ _)) $$ Ho
  iintro Ho
  iapply (wp_step (ph_bar m K c)) $$ [Cb Ab HS]
  · isplitl [Cb]; · iexact Cb
    isplitl [Ab] <;> iassumption
  iintro ⟨HTh, Zb, HS⟩
  iapply (wp_step (ph_kWait m K c)) $$ [Ck Ak HS]
  · isplitl [Ck Ak]
    · isplitl [Ck] <;> iassumption
    iexact HS
  iintro ⟨⟨Pk, Zk⟩, HS⟩
  iapply (wp_step (ph_vWait m K c)) $$ [Cv Av HS]
  · isplitl [Cv Av]
    · isplitl [Cv] <;> iassumption
    iexact HS
  iintro ⟨⟨Pv, Zv⟩, HS⟩
  unfold kPay vPay
  simp only [owns_whole_eq]
  icases Pk with ⟨⟨%g0, %h0, S0⟩, Hk⟩
  icases Pv with ⟨⟨%g1, %h1, S1⟩, Hv⟩
  subst h0 h1
  iapply (ld_whole (c := c) kM (Rect.unit (s := S1024x8x128) ![0, 0, 0] S1024x8x128.size inb_S1024x8x128_S1024x8x128_0_0_0) (hl := View.loadsAt_vmem h_S1024x8x128)
    (kIn m c) (kIn m c) (Memref.readAt_unit_zero (Elt F) cc0_scratch0 hz3 _ _)) $$ S0
  iintro S0
  iapply (ld_whole (c := c) vM (Rect.unit (s := S1024x8x128) ![0, 0, 0] S1024x8x128.size inb_S1024x8x128_S1024x8x128_0_0_0) (hl := View.loadsAt_vmem h_S1024x8x128)
    (vIn m c) (vIn m c) (Memref.readAt_unit_zero (Elt F) cc0_scratch1 hz3 _ _)) $$ S1
  iintro S1
  iapply (wp_last (run_phases m K c f fo)) $$ [HA HTh HT1 HT2 HW1 HW2 Hout HX HS]
  · unfold four
    isplitl [HA]; · iexact HA
    isplitl [HTh]
    · iapply (Entails.of_eq (bigSep_fin4 (fun g => theirs (F := F) c g))); iexact HTh
    isplitl [HT1]; · iexact HT1
    isplitl [HT2]; · iexact HT2
    isplitl [HW1]; · iexact HW1
    isplitl [HW2]; · iexact HW2
    isplitl [Hout]; · iexact Hout
    isplitl [HX]; · iexact HX
    iexact HS
  unfold four
  iintro ⟨HA, ⟨F0, F1, F2, F3⟩, HZ1, HZ2, Hout, HX, HS⟩
  unfold St
  icases HS with ⟨-, HO⟩
  unfold zeros four
  isplitl [HO]
  · ihave HO' := (Entails.of_eq (congrArg (owesE (F := F) c) (owed_end c))) $$ HO
    iexact HO'
  isplitl [Zb Zk Zv HZ1 HZ2]
  · isplitl [Zb]; · iexact Zb
    isplitl [Zk Zv]
    · isplitl [Zk] <;> iassumption
    isplitl [HZ1] <;> iassumption
  isplitl [S0 S1 HA F0 F1 F2 F3]
  · isplitl [S0]; · iexists _; iexact S0
    isplitl [S1]; · iexists _; iexact S1
    isplitl [HA]; · iexists _; iexact HA
    isplitl [F0]; · iapply (filled_mine m c 0); iexact F0
    isplitl [F1]; · iapply (filled_mine m c 1); iexact F1
    isplitl [F2]; · iapply (filled_mine m c 2); iexact F2
    iapply (filled_mine m c 3); iexact F3
  isplitl [Hk Hk' Hv Hv']
  · isplitl [Hk Hk']
    · isplitl [Hk] <;> iassumption
    · isplitl [Hv] <;> iassumption
  isplitl [HX Hq Ho]
  · isplitl [HX]; · iexact HX
    isplitl [Hq] <;> iassumption
  iexact Hout

end Cert.KernelIdeal.Coll

end
-- ==== Proof.Deal.lean ====
/- The launch's ghost state: what is minted, the semaphores' invariants, the duties and credits dealt to the devices. -/
module

public import proofs.«01_k».proof.Proof.Body

@[expose] public section

noncomputable section

namespace Cert.KernelIdeal.Coll

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## Families over the protocol's semaphores -/

omit [FloatOps F] in
/-- Over the kernel's own semaphores: the two copies', the sends', the receives'. -/
theorem own_split (Φ : OI → sProp 𝕄) :
    bigSep Finset.univ Φ = iprop((Φ (.inl 0) ∗ Φ (.inl 1)) ∗ (bigSep Finset.univ fun a : Fin 8 => bigSep Finset.univ fun j : Fin 7 => Φ (.inr (.inl (a, j))))
      ∗ (bigSep Finset.univ fun a : Fin 8 => bigSep Finset.univ fun j : Fin 7 => Φ (.inr (.inr (a, j))))) := by
  rw [bigSep_univ_sum, bigSep_fin_two, bigSep_univ_sum, bigSep_univ_prod, bigSep_univ_prod]
  rfl

omit [FloatOps F] in
/-- Over all of them: the barrier besides. -/
theorem cells_split (Φ : CI → sProp 𝕄) : bigSep Finset.univ Φ = iprop((bigSep Finset.univ fun o : OI => Φ (some o)) ∗ Φ none) := by
  rw [bigSep_univ_equiv (Equiv.optionEquivSumPUnit.{0, 0} OI).symm, bigSep_univ_sum, bigSep_univ_of_subsingleton PUnit.unit]
  rfl

omit [FloatOps F] in
/-- Over the eight transfer groups: the scatters and the gathers. -/
theorem eight (Φ : Fin 8 → sProp 𝕄) : bigSep Finset.univ Φ = iprop((four fun g => Φ (rsA g)) ∗ (four fun g => Φ (agA g))) := by
  have h (A B C D E G H I : sProp 𝕄) : iprop(A ∗ B ∗ C ∗ D ∗ E ∗ G ∗ H ∗ I) = iprop((A ∗ C ∗ E ∗ H) ∗ (B ∗ D ∗ G ∗ I)) := by
    refine BI.equiv_iff.mp ⟨(show iprop(A ∗ B ∗ C ∗ D ∗ E ∗ G ∗ H ∗ I) ⊢ (iprop((A ∗ C ∗ E ∗ H) ∗ (B ∗ D ∗ G ∗ I)) : sProp 𝕄) from ?_),
      (show iprop((A ∗ C ∗ E ∗ H) ∗ (B ∗ D ∗ G ∗ I)) ⊢ (iprop(A ∗ B ∗ C ∗ D ∗ E ∗ G ∗ H ∗ I) : sProp 𝕄) from ?_)⟩
    · iintro ⟨H1, H2, H3, H4, H5, H6, H7, H8⟩
      isplitl [H1 H3 H5 H7]
      · isplitl [H1]; · iexact H1
        isplitl [H3]; · iexact H3
        isplitl [H5]; · iexact H5
        iexact H7
      · isplitl [H2]; · iexact H2
        isplitl [H4]; · iexact H4
        isplitl [H6]; · iexact H6
        iexact H8
    · iintro ⟨⟨H1, H3, H5, H7⟩, H2, H4, H6, H8⟩
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
  rw [bigSep_fin8]
  exact h _ _ _ _ _ _ _ _

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-! ## What the launch mints -/

/-- The protocol's semaphores, all devices'. -/
def collCells : Finset (GSem nD τ sig) := Finset.univ.map ⟨kcell, kcell_inj⟩

/-- A device's duties as minted: its barrier's seven, one of each other semaphore. -/
abbrev TI : Type := Fin 7 ⊕ OI
abbrev tokOf (ct : Dev nD × TI) : GSem nD τ sig × ℕ × Fin 7 := match ct.2 with
  | .inl j => (barCell ct.1, 0, j)
  | .inr o => (((ct.1 : Thread nD τ), osem o), 0, 0)

theorem tokOf_inj : Function.Injective (tokOf : Dev nD × TI → GSem nD τ sig × ℕ × Fin 7) := by
  rintro ⟨c, t⟩ ⟨c', t'⟩ h
  have h1 : c = c' := by
    have := congrArg (fun x : GSem nD τ sig × ℕ × Fin 7 => x.1.1.1) h
    rcases t with j | o <;> rcases t' with j' | o' <;> exact this
  subst h1
  rcases t with j | o <;> rcases t' with j' | o'
  · exact congrArg (fun j => (c, (Sum.inl j : TI))) (congrArg (fun x : GSem nD τ sig × ℕ × Fin 7 => x.2.2) h)
  · exact absurd (congrArg (fun x : GSem nD τ sig × ℕ × Fin 7 => x.1.2) h).symm (osem_ne_bar o')
  · exact absurd (congrArg (fun x : GSem nD τ sig × ℕ × Fin 7 => x.1.2) h) (osem_ne_bar o)
  · exact congrArg (fun o => (c, (Sum.inr o : TI))) (osem_inj (congrArg (fun x : GSem nD τ sig × ℕ × Fin 7 => x.1.2) h))

def collToks : Finset (GSem nD τ sig × ℕ × Fin 7) := Finset.univ.map ⟨tokOf, tokOf_inj⟩

def u₀ : UU := (initOf (Pipeline.cells cfgs cellOf_inj) (Pipeline.launchToks cfgs cellOf_inj), initOf collCells collToks)

/-- The duties of device `c`'s own semaphores. -/
def ownToks (c : Dev nD) : sProp 𝕄 := bigSep Finset.univ fun t : TI => dutyTok ER (tokOf (c, t)).1 (tokOf (c, t)).2.1 (tokOf (c, t)).2.2

/-- A device's share of what is minted, before the invariants are made. -/
def G (c : Dev nD) : sProp 𝕄 :=
  iprop((bigSep Finset.univ fun k : CI => roundState ER (Rd m) (kcell (c, k)) 0)
    ∗ (bigSep Finset.univ fun k : CI => iprop(atPos ER (kcell (c, k)) 0 ∅ 0 ∗ reached ER (kcell (c, k)) 0)) ∗ ownToks c)

theorem fund_coll : BI.own (ER (initOf collCells collToks)) ⊢ (|==> bigSep Finset.univ (G m) : sProp 𝕄) := by
  have hX (Φ : GSem nD τ sig → sProp 𝕄) : bigSep collCells Φ = bigSep Finset.univ fun c : Dev nD => bigSep Finset.univ fun k : CI => Φ (kcell (c, k)) := by
    unfold collCells; rw [bigSep_map, bigSep_univ_prod]; rfl
  have hT : bigSep collToks (fun x => (dutyTok ER x.1 x.2.1 x.2.2 : sProp 𝕄)) = bigSep Finset.univ fun c : Dev nD => ownToks c := by
    unfold collToks; rw [bigSep_map, bigSep_univ_prod]; rfl
  iintro HX
  imod (Rounds.fund ER (Rd m) collCells collToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The invariants made -/

omit [FloatOps F] in
theorem unscoped_bar (c : Dev nD) : (unscopedSems0 c : sProp 𝕄) = semVal (barCell c) 0 := by
  unfold unscopedSems0; rw [bigSep_eq_bigSepL_of_eq [SemLoc.reg barS] (by decide) (by decide)]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CI => iprop(∃ κ : ℕ, cellInv ER (Rd m) κ (kcell (c, k))))
          ∗ (bigSep Finset.univ fun k : CI => iprop(atPos ER (kcell (c, k)) 0 ∅ 0 ∗ reached ER (kcell (c, k)) 0)) ∗ ownToks c) := by
  unfold G
  iintro ⟨Hos, Hus, Hst, Hat, Htok⟩
  ihave Hv := (show iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) from by
        rw [unscoped_bar, cells_split]; exact BI.Entails.refl _) $$ [Hos Hus]
  · isplitl [Hos] <;> iassumption
  imod (show iprop((bigSep Finset.univ fun k : CI => semVal (kcell (c, k)) 0) ∗ bigSep Finset.univ fun k : CI => roundState ER (Rd m) (kcell (c, k)) 0)
      ⊢ (|={Set.univ}=> bigSep Finset.univ fun k : CI => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The duties dealt to the devices that pay them -/

/-- The duties device `c` pays: its own copies', its signals', its transfers'. -/
def payToks (c : Dev nD) : sProp 𝕄 :=
  iprop((dutyTok ER (copyCell c 0) 0 0 ∗ dutyTok ER (copyCell c 1) 0 0) ∗ (bigSep Finset.univ fun j : Fin 7 => dutyTok ER (barCell (peer j c)) 0 j)
    ∗ bigSep Finset.univ fun a : Fin 8 => Tk (F := F) c a)

omit [FloatOps F] in
/-- A family over the devices and the peers, each entry moved to the peer. -/
theorem deal (Φ : Dev nD → Fin 7 → sProp 𝕄) :
    (bigSep Finset.univ fun c : Dev nD => bigSep Finset.univ fun j : Fin 7 => Φ c j)
      = bigSep Finset.univ fun c : Dev nD => bigSep Finset.univ fun j : Fin 7 => Φ (peer j c) j := by
  rw [bigSep_univ_comm, bigSep_univ_comm (fun (c : Dev nD) (j : Fin 7) => Φ (peer j c) j)]
  exact bigSep_congr fun j _ => bigSep_univ_equiv (shift j) (fun c => Φ c j)

omit [FloatOps F] in
theorem toks_dealt : (bigSep Finset.univ fun c : Dev nD => (ownToks c : sProp 𝕄)) ⊢ bigSep Finset.univ fun c : Dev nD => payToks (F := F) c := by
  have h1 (c : Dev nD) : (ownToks c : sProp 𝕄) = iprop((bigSep Finset.univ fun j : Fin 7 => dutyTok ER (barCell c) 0 j)
      ∗ (dutyTok ER (copyCell c 0) 0 0 ∗ dutyTok ER (copyCell c 1) 0 0)
      ∗ (bigSep Finset.univ fun a : Fin 8 => bigSep Finset.univ fun j : Fin 7 => dutyTok ER (sendCell c a j) 0 0)
      ∗ (bigSep Finset.univ fun j : Fin 7 => bigSep Finset.univ fun a : Fin 8 => dutyTok ER (recvCell c a (rev j)) 0 0)) := by
    unfold ownToks
    rw [bigSep_univ_sum, own_split, bigSep_univ_comm (fun (j : Fin 7) (a : Fin 8) => dutyTok ER (recvCell c a (rev j)) 0 0),
      bigSep_congr (s := Finset.univ) (fun (a : Fin 8) _ => (bigSep_rev (fun j : Fin 7 => (dutyTok ER (recvCell c a j) 0 0 : sProp 𝕄))).symm)]
    rfl
  have h2 (c : Dev nD) : (bigSep Finset.univ fun a : Fin 8 => Tk (F := F) c a) = iprop((bigSep Finset.univ fun a : Fin 8 => bigSep Finset.univ fun j : Fin 7 => dutyTok ER (sendCell c a j) 0 0)
      ∗ (bigSep Finset.univ fun j : Fin 7 => bigSep Finset.univ fun a : Fin 8 => dutyTok ER (recvCell (peer j c) a (rev j)) 0 0)) := by
    unfold Tk toks
    rw [bigSep_univ_comm (fun (j : Fin 7) (a : Fin 8) => dutyTok ER (recvCell (peer j c) a (rev j)) 0 0), ← bigSep_sep']
    exact bigSep_congr fun a _ => bigSep_sep' _ _ _
  rw [bigSep_congr (fun c _ => h1 c)]
  unfold payToks
  simp only [h2]
  simp only [bigSep_sep']
  rw [deal (fun c j => dutyTok ER (barCell c) 0 j), deal (fun c j => bigSep Finset.univ fun a : Fin 8 => dutyTok ER (recvCell c a (rev j)) 0 0)]
  iintro ⟨H1, H2, H3, H4⟩
  isplitl [H2]; · iexact H2
  isplitl [H1]; · iexact H1
  isplitl [H3] <;> iassumption

/-- What stays with device `c`: its places and the duties it pays. -/
def linear (c : Dev nD) : sProp 𝕄 := iprop((bigSep Finset.univ fun k : CI => atPos ER (kcell (c, k)) 0 ∅ 0) ∗ payToks (F := F) c)
/-- What the deal makes of it. -/
def G' (c : Dev nD) : sProp 𝕄 := iprop(∃ K, records m K ∗ linear (F := F) c)

theorem regroup :
    (bigSep Finset.univ fun c : Dev nD => iprop((bigSep Finset.univ fun k : CI => iprop(∃ κ : ℕ, cellInv ER (Rd m) κ (kcell (c, k))))
          ∗ (bigSep Finset.univ fun k : CI => iprop(atPos ER (kcell (c, k)) 0 ∅ 0 ∗ reached ER (kcell (c, k)) 0)) ∗ ownToks c) : sProp 𝕄)
      ⊢ bigSep Finset.univ (G' m) := by
  haveI : DecidableEq (Dev nD × CI) := Classical.decEq _
  rw [bigSep_sep', bigSep_sep', ← bigSep_univ_prod (fun ck : Dev nD × CI => iprop(∃ κ : ℕ, cellInv ER (Rd m) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (Rd m) κ (kcell ck) : sProp 𝕄))) $$ HI
  icases HK with ⟨%K, #HI⟩
  ihave Htk := (toks_dealt (F := F)) $$ Htok
  iapply (with_persistent (R := records m K) (Φ := fun c : Dev nD => linear (F := F) c) (Ψ := G' m) fun c _ => (show iprop(records m K ∗ linear (F := F) c) ⊢ G' m c from by
    unfold G'; iintro H; iexists K; iexact H))
  isplitr
  · unfold records; isplitl; · iexact HI
    iexact HR
  · unfold linear
    iapply (Entails.of_eq (bigSep_sep' Finset.univ (fun c : Dev nD => bigSep Finset.univ fun k : CI => (atPos ER (kcell (c, k)) 0 ∅ 0 : sProp 𝕄)) (payToks (F := F))).symm)
    isplitl [Hat] <;> iassumption

/-- All devices' semaphores made invariants at once and the duties dealt. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at launch -/

/-- The credit for what device `c` receives. -/
def crP (c : Dev nD) : sProp 𝕄 :=
  iprop((bigSep Finset.univ fun a : Fin 8 => bigSep Finset.univ fun j : Fin 7 => cred (tallyAt (recvCell c a (rev j)) () N)) ∗ cred (tallyAt (barCell c) () 7))

/-- The transfers counted by group and peer. -/
def count56 : Fin 8 × Fin 7 ↪ ℕ := ⟨fun x => 7 * x.1.val + x.2.val, by
  rintro ⟨a, j⟩ ⟨a', j'⟩ h
  simp only at h
  have h1 : a = a' := Fin.ext (by omega)
  have h2 : j = j' := Fin.ext (by omega)
  rw [h1, h2]⟩

theorem univ56 : Finset.Ico 0 56 = (Finset.univ : Finset (Fin 8 × Fin 7)).map count56 := by
  ext n
  simp only [Finset.mem_Ico, Finset.mem_map, Finset.mem_univ, true_and]
  refine ⟨fun h => ⟨(⟨n / 7, by omega⟩, ⟨n % 7, by omega⟩), ?_⟩, ?_⟩
  · show 7 * (n / 7) + n % 7 = n
    omega
  · rintro ⟨⟨a, j⟩, rfl⟩
    show 0 ≤ 7 * a.val + j.val ∧ 7 * a.val + j.val < 56
    omega

/-- The order of the groups, as a permutation. -/
def seqE : Fin 8 ≃ Fin 8 := Equiv.ofBijective seqA (by decide)

theorem bar_seven (c : Dev nD) : ∑ _u ∈ Finset.Ico 0 7, tallyAt (barCell c) () 1 = (tallyAt (barCell c) () 7 : CellTallies nD τ sig Unit) := by
  have h : ∀ n : ℕ, ∑ _u ∈ Finset.range n, tallyAt (barCell c) () 1 = (tallyAt (barCell c) () n : CellTallies nD τ sig Unit) := fun n => by
    induction n with
    | zero => rw [Finset.range_zero, Finset.sum_empty, tallyAt_zero]
    | succ n ih => rw [Finset.sum_range_succ, ih, tallyAt_add]
  exact (Finset.sum_congr (Finset.ext fun x => by rw [Finset.mem_Ico, Finset.mem_range]; omega) fun _ _ => rfl).trans (h 7)

omit [FloatOps F] in
theorem creds (c : Dev nD) : (Pipeline.launchCred O₀ c : sProp 𝕄) ⊢ crP (F := F) c := by
  unfold crP
  have e0 : O₀ = fun d => owed d 0 + owedBar d 0 := rfl
  have e1 : (bigSep Finset.univ fun a : Fin 8 => bigSep Finset.univ fun j : Fin 7 => (cred (tallyAt (recvCell c a (rev j)) () N) : sProp 𝕄))
      = bigSep (Finset.Ico 0 56) fun u => cred (tallyAt (recvCell c (seqA (aOf u)) (rev (kOf u))) () N) := by
    rw [univ56, bigSep_map, bigSep_univ_prod, bigSep_univ_equiv seqE]
    refine bigSep_congr fun a _ => bigSep_congr fun j _ => ?_
    show cred (tallyAt (recvCell c (seqA a) (rev j)) () N) = (cred (tallyAt (recvCell c (seqA (aOf (7 * a.val + j.val))) (rev (kOf (7 * a.val + j.val)))) () N) : sProp 𝕄)
    rw [aOf_ix, kOf_ix]
  rw [e0, Pipeline.launchCred_add, e1, ← bar_seven, Pipeline.cred_finsetSum]
  unfold owed owedBar
  rw [Pipeline.launchCred_sum, Pipeline.launchCred_sum]
  refine BI.sep_mono (bigSep_mono fun u _ => ?_) (bigSep_mono fun u _ => ?_)
  · exact Pipeline.launchCred_tallyAt (osem (.inr (.inr (seqA (aOf u), rev (kOf u))))) (peer (kOf u)) (peer (rev (kOf u))) (peer_rev' _) (peer_rev _) () N c
  · exact Pipeline.launchCred_tallyAt (.reg barS) (peer (kOf u)) (peer (rev (kOf u))) (peer_rev' _) (peer_rev _) () 1 c

/-! ## What the body starts from and ends with -/

omit [FloatOps F] in
/-- The places, duties and credits of device `c`, in the order the body uses them. -/
theorem duties_intro (c : Dev nD) : iprop(linear (F := F) c ∗ crP (F := F) c) ⊢ duties (F := F) c := by
  have hW : (bigSep Finset.univ fun a : Fin 8 => Wt (F := F) c a) = iprop((bigSep Finset.univ fun a : Fin 8 => bigSep Finset.univ fun j : Fin 7 => atPos ER (sendCell c a j) 0 ∅ 0)
      ∗ (bigSep Finset.univ fun a : Fin 8 => bigSep Finset.univ fun j : Fin 7 => cred (tallyAt (recvCell c a (rev j)) () N))
      ∗ (bigSep Finset.univ fun a : Fin 8 => bigSep Finset.univ fun j : Fin 7 => atPos ER (recvCell c a j) 0 ∅ 0)) := by
    unfold Wt
    rw [bigSep_congr (s := Finset.univ) (fun (a : Fin 8) _ => (bigSep_rev (fun j : Fin 7 => (atPos ER (recvCell c a j) 0 ∅ 0 : sProp 𝕄)))), ← bigSep_sep', ← bigSep_sep']
    exact bigSep_congr fun a _ => (bigSep_sep' _ _ _).trans (congrArg _ (bigSep_sep' _ _ _))
  have hA : (bigSep Finset.univ fun k : CI => (atPos ER (kcell (c, k)) 0 ∅ 0 : sProp 𝕄)) = iprop(((atPos ER (copyCell c 0) 0 ∅ 0 ∗ atPos ER (copyCell c 1) 0 ∅ 0)
      ∗ (bigSep Finset.univ fun a : Fin 8 => bigSep Finset.univ fun j : Fin 7 => atPos ER (sendCell c a j) 0 ∅ 0)
      ∗ (bigSep Finset.univ fun a : Fin 8 => bigSep Finset.univ fun j : Fin 7 => atPos ER (recvCell c a j) 0 ∅ 0)) ∗ atPos ER (barCell c) 0 ∅ 0) := by
    rw [cells_split, own_split]; rfl
  unfold linear payToks crP duties
  rw [hA]
  iintro ⟨⟨⟨⟨⟨A1, A2⟩, AS, AR⟩, AB⟩, ⟨D1, D2⟩, DB, DT⟩, CR, CB⟩
  ihave HW := (Entails.of_eq (hW.symm.trans (eight (fun a => Wt (F := F) c a)))) $$ [AS AR CR]
  · isplitl [AS]; · iexact AS
    isplitl [CR] <;> iassumption
  ihave HT := (Entails.of_eq (eight (fun a => Tk (F := F) c a))) $$ DT
  icases HW with ⟨W1, W2⟩
  icases HT with ⟨T1, T2⟩
  isplitl [D1 D2 A1 A2]
  · isplitl [D1]; · iexact D1
    isplitl [D2]; · iexact D2
    isplitl [A1] <;> iassumption
  isplitl [DB CB AB]
  · isplitl [DB]; · iexact DB
    isplitl [CB] <;> iassumption
  isplitl [T1]; · iexact T1
  isplitl [T2]; · iexact T2
  isplitl [W1] <;> iassumption

omit [FloatOps F] in
/-- Every semaphore at zero, as the launch gave them. -/
theorem zeros_sems (c : Dev nD) : zeros (F := F) c ⊢ iprop(unscopedSems0 c ∗ Pipeline.ownSems0 (Ix := Unit) (Name := ℕ) (U := UU) (Lvl := ℕ) (Val := Elt F) (τ := τ) osem c) := by
  have hZ : (bigSep Finset.univ fun a : Fin 8 => Zr (F := F) c a) = iprop((bigSep Finset.univ fun a : Fin 8 => bigSep Finset.univ fun j : Fin 7 => semVal (sendCell c a j) 0)
      ∗ (bigSep Finset.univ fun a : Fin 8 => bigSep Finset.univ fun j : Fin 7 => semVal (recvCell c a j) 0)) := by
    unfold Zr
    rw [bigSep_congr (s := Finset.univ) (fun (a : Fin 8) _ => (bigSep_rev (fun j : Fin 7 => (semVal (recvCell c a j) 0 : sProp 𝕄)))), ← bigSep_sep']
    exact bigSep_congr fun a _ => bigSep_sep' _ _ _
  rw [unscoped_bar]
  unfold zeros Pipeline.ownSems0
  rw [own_split]
  iintro ⟨HB, HC, Z1, Z2⟩
  ihave HZ := (Entails.of_eq ((eight (fun a => Zr (F := F) c a)).symm.trans hZ)) $$ [Z1 Z2]
  · isplitl [Z1] <;> iassumption
  isplitl [HB]; · iexact HB
  isplitl [HC]; · iexact HC
  iexact HZ

end Cert.KernelIdeal.Coll

end
-- ==== Proof.Launch.lean ====
/- The body's obligation to the pipeline and the side conditions of the launch. -/
module

public import proofs.«01_k».proof.Proof.Deal
public import Idealize.ShloMosaic.Lib.Pipeline.CollectiveSegs

@[expose] public section

noncomputable section

namespace Cert.KernelIdeal.Coll

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The scratch -/

theorem mine_intro (c : Dev nD) :
    iprop((∃ f, whole (F := F) c cc0_scratch3 f) ∗ (∃ f, whole (F := F) c cc0_scratch4 f) ∗ (∃ f, whole (F := F) c cc0_scratch5 f) ∗ (∃ f, whole (F := F) c cc0_scratch6 f))
      ⊢ four fun g => mine (F := F) c g := by
  have h0 (f) : whole (F := F) c cc0_scratch3 f ⊢ mine (F := F) c 0 := by
    have h := recv_split (F := F) c 0 f; rw [show (recvM 0).view.set = Finset.univ from View.set_whole _] at h; exact h
  have h1 (f) : whole (F := F) c cc0_scratch4 f ⊢ mine (F := F) c 1 := by
    have h := recv_split (F := F) c 1 f; rw [show (recvM 1).view.set = Finset.univ from View.set_whole _] at h; exact h
  have h2 (f) : whole (F := F) c cc0_scratch5 f ⊢ mine (F := F) c 2 := by
    have h := recv_split (F := F) c 2 f; rw [show (recvM 2).view.set = Finset.univ from View.set_whole _] at h; exact h
  have h3 (f) : whole (F := F) c cc0_scratch6 f ⊢ mine (F := F) c 3 := by
    have h := recv_split (F := F) c 3 f; rw [show (recvM 3).view.set = Finset.univ from View.set_whole _] at h; exact h
  unfold four
  iintro ⟨⟨%f3, H3⟩, ⟨%f4, H4⟩, ⟨%f5, H5⟩, ⟨%f6, H6⟩⟩
  isplitl [H3]; · iapply (h0 f3); iexact H3
  isplitl [H4]; · iapply (h1 f4); iexact H4
  isplitl [H5]; · iapply (h2 f5); iexact H5
  iapply (h3 f6); iexact H6

theorem mine_elim (c : Dev nD) : (four fun g => mine (F := F) c g)
    ⊢ iprop((∃ f, whole (F := F) c cc0_scratch3 f) ∗ (∃ f, whole (F := F) c cc0_scratch4 f) ∗ (∃ f, whole (F := F) c cc0_scratch5 f) ∗ (∃ f, whole (F := F) c cc0_scratch6 f)) := by
  have h0 : mine (F := F) c 0 ⊢ iprop(∃ f, whole (F := F) c cc0_scratch3 f) := by
    have h := recv_join (F := F) c 0; rw [show (recvM 0).view.set = Finset.univ from View.set_whole _] at h; exact h
  have h1 : mine (F := F) c 1 ⊢ iprop(∃ f, whole (F := F) c cc0_scratch4 f) := by
    have h := recv_join (F := F) c 1; rw [show (recvM 1).view.set = Finset.univ from View.set_whole _] at h; exact h
  have h2 : mine (F := F) c 2 ⊢ iprop(∃ f, whole (F := F) c cc0_scratch5 f) := by
    have h := recv_join (F := F) c 2; rw [show (recvM 2).view.set = Finset.univ from View.set_whole _] at h; exact h
  have h3 : mine (F := F) c 3 ⊢ iprop(∃ f, whole (F := F) c cc0_scratch6 f) := by
    have h := recv_join (F := F) c 3; rw [show (recvM 3).view.set = Finset.univ from View.set_whole _] at h; exact h
  unfold four
  iintro ⟨H0, H1, H2, H3⟩
  isplitl [H0]; · iapply h0; iexact H0
  isplitl [H1]; · iapply h1; iexact H1
  isplitl [H2]; · iapply h2; iexact H2
  iapply h3; iexact H3

theorem scr_intro (c : Dev nD) : (Pipeline.scopedRest (Ix := Unit) (Name := ℕ) (U := UU) (Lvl := ℕ) (Val := Elt F) spec0 c : sProp 𝕄) ⊢ scr (F := F) c := by
  rw [scopedRest0_eq]
  unfold scr
  iintro ⟨H0, H1, ⟨%f, H2⟩, H3⟩
  isplitl [H0]; · iexact H0
  isplitl [H1]; · iexact H1
  isplitl [H2]
  · iexists f
    iapply (Entails.of_eq ((acc_chunks c fullShare f).trans (bigSep_fin4 _))); iexact H2
  iapply (mine_intro (F := F) c); iexact H3

theorem scr_elim (c : Dev nD) : scr (F := F) c ⊢ (Pipeline.scopedRest (Ix := Unit) (Name := ℕ) (U := UU) (Lvl := ℕ) (Val := Elt F) spec0 c : sProp 𝕄) := by
  rw [scopedRest0_eq]
  unfold scr
  iintro ⟨H0, H1, ⟨%f, H2⟩, H3⟩
  isplitl [H0]; · iexact H0
  isplitl [H1]; · iexact H1
  isplitl [H2]
  · iexists f
    iapply (Entails.of_eq ((acc_chunks c fullShare f).trans (bigSep_fin4 _)).symm); iexact H2
  iapply (mine_elim (F := F) c); iexact H3

/-! ## The body's obligation -/

/-- What device `c` holds at launch beside the scratch. -/
def start (c : Dev nD) : sProp 𝕄 := iprop(G' m c ∗ crP (F := F) c ∗ levAts L lv ∗ hbmIn m c)
/-- Before the body, and after. -/
def Φ₀ (c : Dev nD) : sProp 𝕄 := iprop(start m c ∗ scr (F := F) c)
def Φ₁ (c : Dev nD) : sProp 𝕄 := iprop(zeros (F := F) c ∗ scr (F := F) c ∗ hbmIn m c)

/-- The pipeline's data: the arrays as launched, the staged inputs, the result, what the body owes. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xIn m c
    | ⟨1, _⟩ => wqIn m c
    | ⟨2, _⟩ => woIn m c
    | ⟨3, _⟩ => outOf (RR m)
  Φ t := match t with
    | ⟨0, _⟩ => Φ₀ m c
    | ⟨_ + 1, _⟩ => Φ₁ m c
  q _ := fullShare
  owed t := match t with
    | ⟨0, _⟩ => O₀ c
    | ⟨_ + 1, _⟩ => 0

/-- A staging buffer read as `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))
def bodyPost (c : Dev nD) : sProp 𝕄 :=
  iprop(Φ₁ m c ∗ (dats m ρ 0 c).owesAt () t0_0.succ ∗ stg c cc0_stg0_0 (xIn m c) ∗ stg c cc0_stg1_0 (wqIn m c) ∗ stg c cc0_stg2_0 (woIn m c)
    ∗ stg c cc0_stg3_0 (outOf (RR m)))

/-- The body from what the pipeline gives it to what it gives back. -/
theorem run_body (c : Dev nD) : bodyPre m ρ c ⊢ WP c (.op .deviceId (fun c => prog c)) (fun _ => bodyPost m ρ c) := by
  unfold bodyPre Φ₀ start G' WP
  rw [wp_deviceId]
  iintro ⟨⟨⟨⟨%K, Hrec, Hlin⟩, Hcr, Hlev, Hhbm⟩, Hscr⟩, Ho, ⟨%d0, %g0, %hg0, Hx⟩, ⟨%d1, %g1, %hg1, Hq⟩, ⟨%d2, %g2, %hg2, Hw⟩, ⟨%d3, %g3, %hg3, Hout⟩⟩
  have hx : g0 = xIn m c := by rw [hg0]; unfold Dat.before; rw [if_pos (fetch0_0 t0_0)]; rfl
  have hq : g1 = wqIn m c := by rw [hg1]; unfold Dat.before; rw [if_pos (fetch0_1 t0_0)]; rfl
  have hw : g2 = woIn m c := by rw [hg2]; unfold Dat.before; rw [if_pos (fetch0_2 t0_0)]; rfl
  subst hx hq hw
  unfold Dat.owesAt Pipeline.owesWithin
  icases Ho with ⟨%W, %hW, HO⟩
  ihave HD := (duties_intro (F := F) c) $$ [Hlin Hcr]
  · isplitl [Hlin] <;> iassumption
  ihave Hout' := (Entails.of_eq ((out_chunks c g3).trans (bigSep_fin4 _))) $$ Hout
  ihave Hrun := (run_prog m K c g3) $$ [Hrec Hlev HO HD Hscr Hhbm Hx Hq Hw Hout']
  · isplitl [Hrec Hlev]
    · unfold Ctx; isplitl [Hrec] <;> iassumption
    isplitl [HO]
    · unfold owesE; iexists W; iexact HO
    isplitl [HD]; · iexact HD
    isplitl [Hscr]; · iexact Hscr
    isplitl [Hhbm]; · iexact Hhbm
    isplitl [Hx Hq Hw]
    · unfold stIn xSt
      isplitl [Hx]; · iexact Hx
      isplitl [Hq] <;> iassumption
    iexact Hout'
  iapply (Sem.wp_wand frame (wpE (defs₀ (F := F)) 𝒱₀ (c : Thread nD τ) none) Set.univ) $$ Hrun
  iintro %_ ⟨HO, HZ, Hscr, Hhbm, Hst, Hout⟩
  unfold stIn xSt owesE
  icases Hst with ⟨Hx, Hq, Hw⟩
  icases HO with ⟨%W', HO⟩
  ihave Hout' := (Entails.of_eq ((out_chunks c (outOf (RR m))).trans (bigSep_fin4 _)).symm) $$ Hout
  unfold bodyPost Φ₁ Dat.owesAt Pipeline.owesWithin
  isplitl [HZ Hscr Hhbm]
  · isplitl [HZ]; · iexact HZ
    isplitl [Hscr] <;> iassumption
  isplitl [HO]
  · iexists W'
    isplitr; · ipureintro; exact fun _ _ => Or.inl trivial
    iexact HO
  isplitl [Hx]
  · iexists _; isplitr; · (ipureintro; rfl)
    iexact Hx
  isplitl [Hq]
  · iexists _; isplitr; · (ipureintro; rfl)
    iexact Hq
  isplitl [Hw]
  · iexists _; isplitr; · (ipureintro; rfl)
    iexact Hw
  iexists _; isplitr; · (ipureintro; rfl)
  iexact Hout'

set_option maxRecDepth 65536 in
/-- The pipeline's obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ
    (cc0_body (F := F) xM (Memref.isWhole_whole _) wqM (Memref.isWhole_whole _) kArr (Memref.isWhole_whole _) vArr (Memref.isWhole_whole _)
      woM (Memref.isWhole_whole _) outM (Memref.isWhole_whole _) kM (Memref.isWhole_whole _) vM (Memref.isWhole_whole _) accM (Memref.isWhole_whole _)
      (Memref.whole cc0_scratch3) (Memref.isWhole_whole _) (Memref.whole cc0_scratch4) (Memref.isWhole_whole _)
      (Memref.whole cc0_scratch5) (Memref.isWhole_whole _) (Memref.whole cc0_scratch6) (Memref.isWhole_whole _) cc0_scratch7 cc0_scratch8 cc0_scratch9)
    (fun _ => bodyPost m ρ c)
  rw [body_eq]
  exact run_body m ρ c

/-! ## The launch -/

theorem ownSemFacts : Pipeline.OwnSemFacts cfg0.spec osem := by decide +kernel

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hb, Hlev, Hcr, -, HG⟩
  ihave Hc := (creds (F := F) c) $$ Hcr
  imodintro
  unfold start hbmIn
  isplitl
  · isplitl [HG]; · iexact HG
    isplitl [Hc]; · iexact Hc
    isplitl [Hlev]; · iexact Hlev
    iexact Hb
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iapply (scr_intro (F := F) c); iexact Hr

theorem phi1_exit (c : Dev nD) :
    (dats m ρ 0 c).Φ (Fin.last cfg0.N) ⊢ iprop((unscopedSems0 c ∗ hbmIn m c) ∗ Pipeline.ownSems0 osem c ∗ Pipeline.scopedRest cfg0.spec c) := by
  rw [show (dats m ρ 0 c).Φ (Fin.last cfg0.N) = Φ₁ m c from rfl]
  unfold Φ₁
  iintro ⟨Hz, Hr, Hh⟩
  ihave Hz' := (zeros_sems (F := F) c) $$ Hz
  icases Hz' with ⟨Hu, Ho⟩
  isplitl [Hu Hh]
  · isplitl [Hu] <;> iassumption
  isplitl [Ho]; · iexact Ho
  iapply (scr_elim (F := F) c); iexact Hr

theorem waits (c : Dev nD) : (levAts L lv : sProp 𝕄) ⊢ Pipeline.cellsWaits cfgs (dats m ρ) () 0 c := by
  have hstage : ∀ (w : Fin cfg0.W) (s : Fin (cfg0.spec w).nbuf), lvS (.dma ((cfg0.spec w).sem s)) = 0 := by
    intro w s; fin_cases w <;> fin_cases s <;> decide +kernel
  refine Pipeline.cellsWaits_intro cfgs (dats m ρ) () 0 c fun w s t => ?_
  rcases t with ⟨_ | _, ht⟩
  · exact mayWait_start (F := F) c _ (hstage w s)
  · show (levAts L lv : sProp 𝕄) ⊢ MayWait (c : Thread nD τ) _ () 0
    rw [MayWait_zero]; iintro -; iempintro

/-! ## The run -/

def finalA (c : Dev nD) (w : Fin cfg0.W) : Buf (Elt F) ((cfg0.win w).arr.view.loc (c : Thread nD τ)) := (dats m ρ 0 c).arrAt w cfg0.N

/-- Every device's arrays at the end: the pipeline's as it leaves them, the keys and values as they were. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg2) = m ((c : Thread nD τ).loc main_arg2)
    ∧ r.2.mem ((c : Thread nD τ).loc main_arg3) = m ((c : Thread nD τ).loc main_arg3)

/-- Of a run's end, a device's semaphores at zero and its keys and values in place. -/
theorem end_read (c : Dev nD) (s' : Phys nD τ sig (Elt F)) :
    iprop((unscopedSems0 c ∗ hbmIn m c) ∗ emp ∗ SI s')
      ⊢ (|={Set.univ}=> iprop(⌜(∀ sm : SemLoc sig, sm.isScoped .tc = false → s'.mem.sem ((c.tc : Thread nD τ), sm) = 0)
          ∧ s'.mem.mem ((c : Thread nD τ).loc main_arg2) = m ((c : Thread nD τ).loc main_arg2)
          ∧ s'.mem.mem ((c : Thread nD τ).loc main_arg3) = m ((c : Thread nD τ).loc main_arg3)⌝ ∗ SI s') : sProp 𝕄) := by
  unfold hbmIn
  iintro ⟨⟨Hu, H2, H3⟩, -, HSI⟩
  icombine HSI H2 gives %h2
  icombine HSI H3 gives %h3
  imod (Pipeline.unscopedSems0_read (X := unscopedSems0 c) (c := c) fupd_intro s') $$ [Hu HSI] with ⟨%h, HSI⟩
  · isplitl [Hu] <;> iassumption
  imodintro
  isplitr
  · ipureintro
    exact ⟨h, Buf.eq_of_forall_mem_univ h2, Buf.eq_of_forall_mem_univ h3⟩
  · iexact HSI

set_option maxRecDepth 65536 in
/-- On eight devices, for any float values and any memory with zero counters: every weakly fair execution of @main ends,
    every array as the proof data says and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_coll m) $$ HX with HG
      imodintro
      isplitl [HP] <;> iassumption)
    (hglob := glob m)
    (hA := fun _ _ => rfl) (hpf := fun _ k => k.elim0)
    (X := start m) (Y := fun c => iprop(unscopedSems0 c ∗ hbmIn m c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg2) = m ((c : Thread nD τ).loc main_arg2)
      ∧ s.mem ((c : Thread nD τ).loc main_arg3) = m ((c : Thread nD τ).loc main_arg3))
    (hY := fun c s' => end_read m c s')
    (hQ := fun _ h hs => ⟨fun c => ⟨(h c).1, (h c).2.2.2⟩, sem_eq_zero hs fun c => (h c).2.2.1⟩)

end Cert.KernelIdeal.Coll

end
-- ==== Proof.Ends.lean ====
/- The launch's windows are whole arrays: so the run ends with the result array at the gathered rows of
   the reduced partial products and the arguments as they were, for any float values. -/
module

public import proofs.«01_k».proof.Proof.Launch

@[expose] public section

noncomputable section

namespace Cert.KernelIdeal.Coll

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The windows' blocks are their whole arrays -/

omit [FloatOps F] in
theorem read_x (f : S1x1024x1024.Idx → Elt F .f32) : (win0_0.blk (0 : Fin 1)).view.read (Elt F) f = f :=
  Memref.read_access_unit_zero (Elt F) main_arg0 (funext fun a => by fin_cases a <;> decide) (fun a => by fin_cases a <;> decide) f
omit [FloatOps F] in
theorem read_wq (f : S1024x1024.Idx → Elt F .f32) : (win0_1.blk (0 : Fin 1)).view.read (Elt F) f = f :=
  Memref.read_access_unit_zero (Elt F) main_arg1 (funext fun a => by fin_cases a <;> decide) (fun a => by fin_cases a <;> decide) f
omit [FloatOps F] in
theorem read_wo (f : S1024x1024.Idx → Elt F .f32) : (win0_2.blk (0 : Fin 1)).view.read (Elt F) f = f :=
  Memref.read_access_unit_zero (Elt F) main_arg4 (funext fun a => by fin_cases a <;> decide) (fun a => by fin_cases a <;> decide) f
omit [FloatOps F] in
theorem read_out (f : S1x1024x1024.Idx → Elt F .f32) : (win0_3.blk (0 : Fin 1)).view.read (Elt F) f = f :=
  Memref.read_access_unit_zero (Elt F) main_v1 (funext fun a => by fin_cases a <;> decide) (fun a => by fin_cases a <;> decide) f

/-- What the staging buffers hold is the arguments themselves. -/
theorem xIn_eq (c : Dev nD) : xIn m c = m ((c : Thread nD τ).loc main_arg0) := read_x _
theorem wqIn_eq (c : Dev nD) : wqIn m c = m ((c : Thread nD τ).loc main_arg1) := read_wq _
theorem woIn_eq (c : Dev nD) : woIn m c = m ((c : Thread nD τ).loc main_arg4) := read_wo _

/-! ## The arrays at the end -/

theorem finalA_x (c : Dev nD) : finalA m ρ c (0 : Fin 4) = m ((c : Thread nD τ).loc main_arg0) :=
  (dats m ρ 0 c).arrAt_in (0 : Fin 4) rfl _
theorem finalA_wq (c : Dev nD) : finalA m ρ c (1 : Fin 4) = m ((c : Thread nD τ).loc main_arg1) :=
  (dats m ρ 0 c).arrAt_in (1 : Fin 4) rfl _
theorem finalA_wo (c : Dev nD) : finalA m ρ c (2 : Fin 4) = m ((c : Thread nD τ).loc main_arg4) :=
  (dats m ρ 0 c).arrAt_in (2 : Fin 4) rfl _

theorem finalA_out (c : Dev nD) : finalA m ρ c (3 : Fin 4) = outOf (RR m) := by
  have h : (win0_3.blk (0 : Fin 1)).view.read (Elt F) (finalA m ρ c (3 : Fin 4)) = outOf (RR m) := by
    unfold finalA
    rw [show cfg0.N = ((0 : Fin 1) : Fin cfg0.N).val + 1 from rfl, (dats m ρ 0 c).arrAt_succ (3 : Fin 4) (0 : Fin 1)]
    rw [show (cfg0.win (3 : Fin 4)).flush (0 : Fin 1) = true from flush0_3 _, if_pos rfl]
    exact View.read_write_univ _ _
  rw [read_out] at h
  exact h

/-- **The run.** On eight devices, for any float values, from any memory with zero counters: every weakly fair execution
    of @main ends; on every device the result is the gathered rows of the reduced partial products, the arguments are as
    they were, and every semaphore is at zero. -/
theorem run_all : θ_run defs (onTc (τ := τ) (main (F := F))) ⟨m, fun _ => 0, ρ⟩ (fun r => (∀ c : Dev nD,
      r.2.mem ((c.tc : Thread nD τ).loc main_v1) = outOf (RR m)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c =>
    ⟨((h.1 c).1 (3 : Fin 4)).trans (finalA_out m ρ c), ((h.1 c).1 (0 : Fin 4)).trans (finalA_x m ρ c),
      ((h.1 c).1 (1 : Fin 4)).trans (finalA_wq m ρ c), (h.1 c).2.1, (h.1 c).2.2, ((h.1 c).1 (2 : Fin 4)).trans (finalA_wo m ρ c)⟩, h.2⟩)
    (run_main m ρ)

/-- The run with the result dropped: the frame, for any float values. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => (h.1 c).2, h.2⟩) (run_all m ρ)

end Cert.KernelIdeal.Coll

end
-- ==== Proof.Same.lean ====
/-
  The kernel as printed and the kernel printed for the reals have the same text: their body
  tables are equal over any float values, so a run of the one is a run of the other.
-/
module
public import proofs.«01_k».proof.Proof.Gen.Kernel
public import proofs.«01_k».proof.Proof.Gen.KernelIdeal
@[expose] public section
noncomputable section
namespace Cert.KernelIdeal.Coll
open Idealize.ShloMosaic Idealize.SL.Sem
variable {F : FTy → Type} [FloatOps F]

/-- The two programs' kernel bodies are the same function of their label and arguments. -/
theorem same_bodies : Cert.Kernel.defs₀ (F := F) = Cert.KernelIdeal.defs₀ (F := F) := by
  unfold Cert.Kernel.defs₀ Cert.KernelIdeal.defs₀
  refine congrArg Defs.onTc ?_
  funext l a
  match l, a with
  | 0, (t, s) => rfl

/-- The two programs' body tables, pipelines included, are equal. -/
theorem same_defs : Cert.Kernel.defs (F := F) = Cert.KernelIdeal.defs (F := F) :=
  congrArg (Pipeline.defs (Cert.KernelIdeal.pcfgs (F := F))) same_bodies

end Cert.KernelIdeal.Coll
end
-- ==== Proof.Heads.lean ====
/- The chunks of attention written once: one head's weighted values over the diagonal block of columns alone, or over the
   diagonal block and the `n` columns before it, and the joined heads times the output weights. Each chunk the kernel
   computes is this text at its own extent, for any float values. -/
module

public import proofs.«01_k».proof.Proof.Vals

@[expose] public section

noncomputable section

namespace Cert.KernelIdeal.Coll

open Idealize.ShloMosaic Idealize.SL.Sem
open Cert.KernelIdeal Cert.KernelIdeal.Gen

variable {F : FTy → Type} [FloatOps F]

/-- Head `h`'s 128 columns of the queries are inside them. -/
theorem q_slices (h : Fin 8) : S256x1024.Slices ![0, 128 * h.val] S256x128 :=
  ⟨rfl, fun a => by fin_cases a <;> simp <;> omega⟩

/-- `m` rows of head `h`, from row `o`, are inside the keys and the values. -/
theorem k_slices (o m : ℕ) (hm : o + m ≤ 1024) (h : Fin 8) : S1024x8x128.Slices ![o, h.val, 0] ⟨3, ![m, 1, 128]⟩ :=
  ⟨rfl, fun a => by fin_cases a <;> simp <;> omega⟩

theorem k_casts (m : ℕ) : (⟨3, ![m, 1, 128]⟩ : Shape).ShapeCasts ⟨2, ![m, 128]⟩ := by
  simp [Shape.ShapeCasts, Shape.numel, Fin.prod_univ_succ]

/-- Head `h`'s queries. -/
def qPart (h : Fin 8) (q : FVec F S256x1024 .bf16) : FVec F S256x128 .bf16 :=
  extractStridedSlice S256x128 ![0, 128 * h.val] q (q_slices h)

/-- Rows `o, …, o + m - 1` of head `h`. -/
def kPart (o m : ℕ) (hm : o + m ≤ 1024) (h : Fin 8) (k : FVec F S1024x8x128 .bf16) : FVec F ⟨2, ![m, 128]⟩ .bf16 :=
  shapeCast ⟨2, ![m, 128]⟩ (extractStridedSlice ⟨3, ![m, 1, 128]⟩ ![o, h.val, 0] k (k_slices o m hm h)) (k_casts m)

/-- The exponentials of the scores of head `h`'s queries against its first `m` keys. -/
def expScores (m : ℕ) (hm : 0 + m ≤ 1024) (h : Fin 8) (q : FVec F S256x1024 .bf16) (k : FVec F S1024x8x128 .bf16) :
    FVec F ⟨2, ![256, m]⟩ .bf16 :=
  exp (truncf .bf16 (matmul (DotDims.transposedRhs 256 128 m) none (qPart h q) (kPart 0 m hm h k)
    (constant ⟨2, ![256, m]⟩ .f32 0x00000000#32)) bitsLt_bf16_f32)

/-- Summing a 256×`n` matrix along its rows leaves 256 sums. -/
theorem sum_reduces (n : ℕ) : (⟨2, ![256, n]⟩ : Shape).Reduces [1] S256 :=
  ⟨rfl, by decide, fun b => by fin_cases b; rfl⟩

/-- The sums of the rows of a 256×`n` matrix, as a column. -/
def rowSum (n : ℕ) (w : FVec F ⟨2, ![256, n]⟩ .bf16) : FVec F S256x1 .f32 :=
  shapeCast S256x1 (multiReduction .add [1] S256 (extf .f32 w bitsLt_bf16_f32) 0x00000000#32 (sum_reduces n) (.inl rfl) rfl)
    shapeCasts_S256_S256x1

/-- A 256×`n` matrix of weights times `n` rows of values. -/
def weigh (n : ℕ) (w : FVec F ⟨2, ![256, n]⟩ .bf16) (v : FVec F ⟨2, ![n, 128]⟩ .bf16) : FVec F S256x128 .f32 :=
  matmul (DotDims.plain 256 n 128) none w v (constant S256x128 .f32 0x00000000#32)

/-- The diagonal block's weights: its exponentials times the mask. -/
def diagW (n : ℕ) (hs : (⟨2, ![256, n + 256]⟩ : Shape).Slices ![0, n] S256x256) (w : FVec F ⟨2, ![256, n + 256]⟩ .bf16)
    (mk : FVec F S256x256 .bf16) : FVec F S256x256 .bf16 :=
  mulf (extractStridedSlice S256x256 ![0, n] w hs) mk

theorem diag_slices (n : ℕ) : (⟨2, ![256, n + 256]⟩ : Shape).Slices ![0, n] S256x256 :=
  ⟨rfl, fun a => by fin_cases a <;> simp⟩
theorem past_slices (n : ℕ) : (⟨2, ![256, n + 256]⟩ : Shape).Slices ![0, 0] ⟨2, ![256, n]⟩ :=
  ⟨rfl, fun a => by fin_cases a <;> simp⟩

/-- Head `h` of the first chunk: only the diagonal block. -/
def headA (q : FVec F S256x1024 .bf16) (k v : FVec F S1024x8x128 .bf16) (mk : FVec F S256x256 .bf16) (h : Fin 8) :
    FVec F S256x128 .bf16 :=
  let wd := mulf (expScores 256 (by decide) h q k) mk
  truncf .bf16 (divf (weigh 256 wd (kPart 0 256 (by decide) h v))
    (broadcastTo S256x128 (rowSum 256 wd) broadcasts_S256x1_S256x128)) bitsLt_bf16_f32

/-- Head `h` of a chunk with `n` columns before its diagonal block. -/
def headP (n : ℕ) (hm : n + 256 ≤ 1024) (q : FVec F S256x1024 .bf16) (k v : FVec F S1024x8x128 .bf16)
    (mk : FVec F S256x256 .bf16) (h : Fin 8) : FVec F S256x128 .bf16 :=
  let w := expScores (n + 256) (by omega) h q k
  let wd := diagW n (diag_slices n) w mk
  let wv : FVec F ⟨2, ![256, n]⟩ .bf16 := extractStridedSlice ⟨2, ![256, n]⟩ ![0, 0] w (past_slices n)
  truncf .bf16 (divf (addf (weigh 256 wd (kPart n 256 hm h v)) (weigh n wv (kPart 0 n (by omega) h v)))
    (broadcastTo S256x128 (addf (rowSum 256 wd) (rowSum n wv)) broadcasts_S256x1_S256x128)) bitsLt_bf16_f32

/-- The eight heads side by side, times the output weights. -/
def joinV (wo : FVec F S1024x1024 .bf16) (c : Fin 8 → FVec F S256x128 .bf16) : FVec F S256x1024 .bf16 :=
  shapeCast S256x1024 (truncf .bf16 (matmul (DotDims.plain 256 1024 1024) none
    (concatenate S256x1024 1 [⟨S256x128, c 0⟩, ⟨S256x128, c 1⟩, ⟨S256x128, c 2⟩, ⟨S256x128, c 3⟩, ⟨S256x128, c 4⟩,
      ⟨S256x128, c 5⟩, ⟨S256x128, c 6⟩, ⟨S256x128, c 7⟩]
      concatenates_S256x128_S256x128_S256x128_S256x128_S256x128_S256x128_S256x128_S256x128_S256x1024_d1)
    wo (constant S256x1024 .f32 0x00000000#32)) bitsLt_bf16_f32) shapeCasts_S256x1024_S256x1024

theorem chunkA_eq (wq wo : FVec F S1024x1024 .bf16) (k v : FVec F S1024x8x128 .bf16) (x : Vec F S1x256x1024 .f32) :
    chunkA wq wo k v maskV x = joinV wo (headA (k0_pay10 wq x) k v maskV) := rfl
theorem chunkB_eq (wq wo : FVec F S1024x1024 .bf16) (k v : FVec F S1024x8x128 .bf16) (x : Vec F S1x256x1024 .f32) :
    chunkB wq wo k v maskV x = joinV wo (headP 256 (by decide) (k0_pay10 wq x) k v maskV) := rfl
theorem chunkC_eq (wq wo : FVec F S1024x1024 .bf16) (k v : FVec F S1024x8x128 .bf16) (x : Vec F S1x256x1024 .f32) :
    chunkC wq wo k v maskV x = joinV wo (headP 512 (by decide) (k0_pay10 wq x) k v maskV) := rfl
theorem chunkD_eq (wq wo : FVec F S1024x1024 .bf16) (k v : FVec F S1024x8x128 .bf16) (x : Vec F S1x256x1024 .f32) :
    chunkD wq wo k v maskV x = joinV wo (headP 768 (by decide) (k0_pay10 wq x) k v maskV) := rfl

end Cert.KernelIdeal.Coll

end
-- ==== Proof.HeadVals.lean ====
/- What one head of one chunk is at an index, over the extended reals: sums of exponentials of scores. -/
module

public import proofs.«01_k».proof.Proof.Heads
public import Idealize.ShloMosaic.Lib.MatmulPlain
public import Idealize.ShloMosaic.Lib.ValueLayout
public import Idealize.ShloMosaic.Lib.ValueLayoutCasts

@[expose] public section

noncomputable section

namespace Cert.KernelIdeal.Coll

open Idealize.ShloMosaic Idealize.SL.Sem Idealize.ShloMosaic.ValueIdx
open Cert.KernelIdeal Cert.KernelIdeal.Gen
open scoped BigOperators

/-- Column `128 h + t` of a device's queries: coordinate `t` of its head `h`. -/
def col (h : Fin 8) (t : Fin 128) : Fin 1024 := ⟨128 * h.val + t.val, by omega⟩

theorem qPart_apply (h : Fin 8) (q : FVec Ideal S256x1024 .bf16) (r : Fin 256) (t : Fin 128) :
    qPart h q (ix2 r t) = q (ix2 r (col h t)) :=
  slice2_axis1_apply _ q _ r t (col h t) rfl

theorem kPart_apply (o m : ℕ) (hm : o + m ≤ 1024) (h : Fin 8) (k : FVec Ideal S1024x8x128 .bf16) (j : Fin m) (t : Fin 128) :
    kPart o m hm h k (ix2 j t) = k (ix3 ⟨o + j.val, by omega⟩ h t) := by
  unfold kPart
  rw [shapeCast_apply _ _ (ix2 j t) (ix3 j (0 : Fin 1) t) (by
    rw [Shape.rowMajor_val_three, Shape.rowMajor_val_two]
    show (j.val * 1 + 0) * 128 + t.val = j.val * 128 + t.val
    omega)]
  exact extractStridedSlice_apply _ _ _ _ _ (fun ax => by
    match ax with
    | ⟨0, _⟩ => rfl
    | ⟨1, _⟩ => rfl
    | ⟨2, _⟩ => exact (Nat.zero_add _).symm)

/-- The score of the query in row `r` against key `j`, for head `h`. -/
def score (q : FVec Ideal S256x1024 .bf16) (k : FVec Ideal S1024x8x128 .bf16) (h : Fin 8) (r : Fin 256) (j : Fin 1024) : EReal :=
  ∑ t : Fin 128, q (ix2 r (col h t)) * k (ix3 j h t)

theorem expScores_apply (m : ℕ) (hm : 0 + m ≤ 1024) (h : Fin 8) (q : FVec Ideal S256x1024 .bf16)
    (k : FVec Ideal S1024x8x128 .bf16) (r : Fin 256) (j : Fin m) :
    expScores m hm h q k (ix2 r j) = Ideal.exp (score q k h r ⟨0 + j.val, by omega⟩) := by
  show Ideal.exp (FloatOps.matmul (DotDims.transposedRhs 256 128 m) none (qPart h q) (kPart 0 m hm h k) _ (ix2 r j)) = _
  rw [Ideal.matmul_transposedRhs_apply]
  show Ideal.exp (Ideal.ofBits .f32 0x00000000#32 + _) = _
  rw [Ideal.ofBits_zero_f32, zero_add]
  refine congrArg Ideal.exp (Finset.sum_congr rfl fun t _ => ?_)
  rw [qPart_apply, kPart_apply]

theorem rowSum_apply (n : ℕ) (w : FVec Ideal ⟨2, ![256, n]⟩ .bf16) (r : Fin 256) (u : Fin 1) :
    rowSum n w (ix2 r u) = ∑ j : Fin n, w (ix2 r j) := by
  unfold rowSum
  rw [shapeCast_a_a1_apply]
  refine (Ideal.multiReduction_add_single (extf .f32 w bitsLt_bf16_f32) _ (sum_reduces n) _ _ (ix1 r)).trans ?_
  refine Finset.sum_congr rfl fun j _ => congrArg w ?_
  funext a
  match a with
  | ⟨0, _⟩ => rfl
  | ⟨1, _⟩ => rfl

theorem weigh_apply (n : ℕ) (w : FVec Ideal ⟨2, ![256, n]⟩ .bf16) (v : FVec Ideal ⟨2, ![n, 128]⟩ .bf16) (r : Fin 256) (t : Fin 128) :
    weigh n w v (ix2 r t) = ∑ j : Fin n, w (ix2 r j) * v (ix2 j t) := by
  show FloatOps.matmul (DotDims.plain 256 n 128) none w v _ (ix2 r t) = _
  rw [Ideal.matmul_plain_apply]
  show Ideal.ofBits .f32 0x00000000#32 + _ = _
  rw [Ideal.ofBits_zero_f32, zero_add]

theorem bcast_apply (x : FVec Ideal S256x1 .f32) (r : Fin 256) (t : Fin 128) :
    broadcastTo S256x128 x broadcasts_S256x1_S256x128 (ix2 r t) = x (ix2 r (0 : Fin 1)) := by
  refine broadcastTo_apply _ _ _ _ fun a => ?_
  match a with
  | ⟨0, _⟩ => rfl
  | ⟨1, _⟩ => rfl

theorem diagW_apply (n : ℕ) (hs : (⟨2, ![256, n + 256]⟩ : Shape).Slices ![0, n] S256x256)
    (w : FVec Ideal ⟨2, ![256, n + 256]⟩ .bf16) (mk : FVec Ideal S256x256 .bf16) (r j : Fin 256) :
    diagW n hs w mk (ix2 r j) = w (ix2 r ⟨n + j.val, by omega⟩) * mk (ix2 r j) := by
  show extractStridedSlice S256x256 ![0, n] w hs (ix2 r j) * mk (ix2 r j) = _
  rw [slice2_axis1_apply n w hs r j ⟨n + j.val, by omega⟩ rfl]

theorem pastW_apply (n : ℕ) (hs : (⟨2, ![256, n + 256]⟩ : Shape).Slices ![0, 0] ⟨2, ![256, n]⟩)
    (w : FVec Ideal ⟨2, ![256, n + 256]⟩ .bf16) (r : Fin 256) (j : Fin n) :
    extractStridedSlice ⟨2, ![256, n]⟩ ![0, 0] w hs (ix2 r j) = w (ix2 r ⟨j.val, by omega⟩) :=
  slice2_axis1_apply 0 w hs r j ⟨j.val, by omega⟩ (Nat.zero_add _).symm

/-- A sum over all 1024 columns whose terms from column `n + 256` on are zero is the diagonal block's sum plus the sum over the
    `n` columns before it. -/
theorem sum_cols (n : ℕ) (hn : n + 256 ≤ 1024) (f : Fin 1024 → EReal) (hf : ∀ j : Fin 1024, n + 256 ≤ j.val → f j = 0) :
    ∑ j, f j = (∑ j : Fin 256, f ⟨n + j.val, by omega⟩) + ∑ j : Fin n, f ⟨j.val, by omega⟩ := by
  have key : ∀ g : ℕ → EReal, (∀ j, n + 256 ≤ j → g j = 0) →
      ∑ j : Fin 1024, g j.val = (∑ j : Fin 256, g (n + j.val)) + ∑ j : Fin n, g j.val := by
    intro g hg
    rw [Fin.sum_univ_eq_sum_range g, Fin.sum_univ_eq_sum_range (fun j => g (n + j)), Fin.sum_univ_eq_sum_range g, add_comm,
      ← Finset.sum_range_add]
    exact (Finset.sum_subset (Finset.range_mono hn) fun j _ hj => hg j (by simpa using hj)).symm
  have h := key (fun j => if hj : j < 1024 then f ⟨j, hj⟩ else 0) (fun j hj => by
    by_cases h : j < 1024
    · rw [dif_pos h]; exact hf _ hj
    · rw [dif_neg h])
  have h1 : ∀ j : Fin 1024, (if hj : j.val < 1024 then f ⟨j.val, hj⟩ else 0) = f j := fun j => dif_pos j.isLt
  have h2 : ∀ j : Fin 256, (if hj : n + j.val < 1024 then f ⟨n + j.val, hj⟩ else 0) = f ⟨n + j.val, by omega⟩ :=
    fun j => dif_pos (by omega)
  have h3 : ∀ j : Fin n, (if hj : j.val < 1024 then f ⟨j.val, hj⟩ else 0) = f ⟨j.val, by omega⟩ := fun j => dif_pos (by omega)
  simpa only [h1, h2, h3] using h

/-- Row `r` of a chunk that starts at row `n`: the weight of key `j` before the division, zero after the row's block. -/
def wgt (n : ℕ) (q : FVec Ideal S256x1024 .bf16) (k : FVec Ideal S1024x8x128 .bf16) (h : Fin 8) (r : Fin 256) (j : Fin 1024) : EReal :=
  if j.val / 64 ≤ (n + r.val) / 64 then Ideal.exp (score q k h r j) else 0

/-- The mask's entries: one where the column's block is not after the row's, zero elsewhere. -/
def IsMask (mk : FVec Ideal S256x256 .bf16) : Prop :=
  ∀ r j : Fin 256, mk (ix2 r j) = if j.val / 64 ≤ r.val / 64 then (1 : EReal) else 0

/-- The weights of the diagonal block are its exponentials times the mask. -/
theorem wgt_diag (n : ℕ) (hn : n + 256 ≤ 1024) (h64 : n % 64 = 0) (q : FVec Ideal S256x1024 .bf16) (k : FVec Ideal S1024x8x128 .bf16)
    (mk : FVec Ideal S256x256 .bf16) (hmk : IsMask mk) (h : Fin 8) (r j : Fin 256) :
    wgt n q k h r ⟨n + j.val, by omega⟩ = Ideal.exp (score q k h r ⟨n + j.val, by omega⟩) * mk (ix2 r j) := by
  unfold wgt
  rw [hmk r j, mul_ite, mul_one, mul_zero]
  refine if_congr ?_ rfl rfl
  show (n + j.val) / 64 ≤ (n + r.val) / 64 ↔ j.val / 64 ≤ r.val / 64
  omega

/-- The weights of the columns before the diagonal block are their exponentials. -/
theorem wgt_past (n : ℕ) (hn : n + 256 ≤ 1024) (h64 : n % 64 = 0) (q : FVec Ideal S256x1024 .bf16) (k : FVec Ideal S1024x8x128 .bf16)
    (h : Fin 8) (r : Fin 256) (j : Fin n) :
    wgt n q k h r ⟨j.val, by omega⟩ = Ideal.exp (score q k h r ⟨j.val, by omega⟩) :=
  if_pos (by show j.val / 64 ≤ (n + r.val) / 64; omega)

/-- The weights after the diagonal block are zero. -/
theorem wgt_after (n : ℕ) (hn : n % 256 = 0) (q : FVec Ideal S256x1024 .bf16) (k : FVec Ideal S1024x8x128 .bf16)
    (h : Fin 8) (r : Fin 256) (j : Fin 1024) (hj : n + 256 ≤ j.val) : wgt n q k h r j = 0 :=
  if_neg (by omega)

/-- Row `r`, coordinate `t` of head `h`, of a chunk that starts at row `n`: the weighted values over the sum of the weights. -/
def headE (n : ℕ) (q : FVec Ideal S256x1024 .bf16) (k v : FVec Ideal S1024x8x128 .bf16) (h : Fin 8) (r : Fin 256) (t : Fin 128) : EReal :=
  Ideal.div (∑ j : Fin 1024, wgt n q k h r j * v (ix3 j h t)) (∑ j : Fin 1024, wgt n q k h r j)

theorem headP_apply (n : ℕ) (hm : n + 256 ≤ 1024) (hn : n % 256 = 0) (q : FVec Ideal S256x1024 .bf16) (k v : FVec Ideal S1024x8x128 .bf16)
    (mk : FVec Ideal S256x256 .bf16) (hmk : IsMask mk) (h : Fin 8) (r : Fin 256) (t : Fin 128) :
    headP n hm q k v mk h (ix2 r t) = headE n q k v h r t := by
  unfold headP headE
  rw [sum_cols n hm _ (wgt_after n hn q k h r), sum_cols n hm (fun j => wgt n q k h r j * v (ix3 j h t))
    (fun j hj => by simp only [wgt_after n hn q k h r j hj, zero_mul])]
  show Ideal.div (weigh (F := Ideal) 256 _ _ (ix2 r t) + weigh (F := Ideal) n _ _ (ix2 r t)) (broadcastTo S256x128 _ _ (ix2 r t)) = _
  rw [bcast_apply]
  show Ideal.div _ (rowSum (F := Ideal) 256 _ (ix2 r 0) + rowSum (F := Ideal) n _ (ix2 r 0)) = _
  simp only [rowSum_apply, weigh_apply, kPart_apply, diagW_apply, pastW_apply, expScores_apply, Nat.zero_add,
    wgt_diag n hm (by omega) q k mk hmk, wgt_past n hm (by omega)]

theorem headA_apply (q : FVec Ideal S256x1024 .bf16) (k v : FVec Ideal S1024x8x128 .bf16) (mk : FVec Ideal S256x256 .bf16)
    (hmk : IsMask mk) (h : Fin 8) (r : Fin 256) (t : Fin 128) :
    headA q k v mk h (ix2 r t) = headE 0 q k v h r t := by
  unfold headA headE
  rw [sum_cols 0 (by decide) _ (wgt_after 0 rfl q k h r), sum_cols 0 (by decide) (fun j => wgt 0 q k h r j * v (ix3 j h t))
    (fun j hj => by simp only [wgt_after 0 rfl q k h r j hj, zero_mul])]
  show Ideal.div (weigh (F := Ideal) 256 _ _ (ix2 r t)) (broadcastTo S256x128 _ _ (ix2 r t)) = _
  have e : ∀ j : Fin 256, mulf (expScores 256 (by decide) h q k) mk (ix2 r j) = wgt 0 q k h r ⟨0 + j.val, by omega⟩ := fun j => by
    rw [wgt_diag 0 (by decide) rfl q k mk hmk]
    show expScores 256 _ h q k (ix2 r j) * _ = _
    rw [expScores_apply]
  rw [bcast_apply, rowSum_apply, weigh_apply]
  simp only [kPart_apply, e, Finset.univ_eq_empty, Finset.sum_empty, add_zero]

end Cert.KernelIdeal.Coll

end
-- ==== Proof.MaskVals.lean ====
/- The kernel's mask at an index: one where the column's block of 64 is not after the row's, zero elsewhere. -/
module

public import proofs.«01_k».proof.Proof.HeadVals

@[expose] public section

noncomputable section

namespace Cert.KernelIdeal.Coll

open Idealize.ShloMosaic Idealize.SL.Sem Idealize.ShloMosaic.ValueIdx
open Cert.KernelIdeal Cert.KernelIdeal.Gen

/-- The block of a position, as the kernel computes it from the position's word: the quotient by 64, corrected where the signs
    differ and there is a remainder. -/
def blockW (b : BitVec 32) : BitVec 32 :=
  Scalar.select
    (IntOp.andi
      (IntOp.cmpi .ne
        (IntOp.subi ((IntOp.cmpi .sgt b 0#32).setWidth 32) ((IntOp.cmpi .slt b 0#32).setWidth 32))
        (Scalar.subi (Scalar.extui (Scalar.cmpi .sgt 64#32 0#32)) (Scalar.extui (Scalar.cmpi .slt 64#32 0#32))))
      (IntOp.cmpi .ne (IntOp.remsi .vector b 64#32) 0#32))
    (IntOp.subi (IntOp.divsi .vector b 64#32) 1#32)
    (IntOp.divsi .vector b 64#32)

/-- It is the quotient of the position by 64. -/
theorem blockW_eq : ∀ n : Fin 256, blockW (BitVec.ofNat 32 n.val) = BitVec.ofNat 32 (n.val / 64) := by decide +kernel

/-- The comparison of two blocks, as a number. -/
theorem le_word : ∀ a b : Fin 4,
    ((IntOp.cmpi .sle (BitVec.ofNat 32 a.val) (BitVec.ofNat 32 b.val)).setWidth 32).toInt = if a.val ≤ b.val then 1 else 0 := by
  decide +kernel

/-- The word a row's or a column's count is made of. -/
theorem iota_row (r j : Fin 256) : iota .tc S256x256 32 [0] iota_S256x256_d0_w32 (ix2 r j) = BitVec.ofNat 32 r.val :=
  iota_single_apply ..
theorem iota_column (r j : Fin 256) : iota .tc S256x256 32 [1] iota_S256x256_d1_w32 (ix2 r j) = BitVec.ofNat 32 j.val :=
  iota_single_apply ..

theorem maskV_isMask : IsMask (maskV (F := Ideal)) := by
  intro r j
  have e : maskV (F := Ideal) (ix2 r j) = ((((IntOp.cmpi .sle
      (blockW (iota .tc S256x256 32 [1] iota_S256x256_d1_w32 (ix2 r j)))
      (blockW (iota .tc S256x256 32 [0] iota_S256x256_d0_w32 (ix2 r j)))).setWidth 32).toInt : ℝ) : EReal) := rfl
  rw [e, iota_row, iota_column, blockW_eq, blockW_eq,
    le_word ⟨j.val / 64, by omega⟩ ⟨r.val / 64, by omega⟩]
  split_ifs <;> simp

end Cert.KernelIdeal.Coll

end
-- ==== Proof.ChunkVals.lean ====
/- What a chunk's partial product is at an index: the heads' values times the output weights, summed over the device's columns. -/
module

public import proofs.«01_k».proof.Proof.MaskVals

@[expose] public section

noncomputable section

namespace Cert.KernelIdeal.Coll

open Idealize.ShloMosaic Idealize.SL.Sem Idealize.ShloMosaic.ValueIdx
open Cert.KernelIdeal Cert.KernelIdeal.Gen
open scoped BigOperators

/-- The head a column belongs to, and its coordinate in the head. -/
def headOf (m : Fin 1024) : Fin 8 := ⟨m.val / 128, by omega⟩
def coordOf (m : Fin 1024) : Fin 128 := ⟨m.val % 128, by omega⟩

/-- A product with a zero accumulator. -/
theorem product_apply {M K N : ℕ} {φ₁ φ₂ : FTy} (a : FVec Ideal ⟨2, ![M, K]⟩ φ₁) (b : FVec Ideal ⟨2, ![K, N]⟩ φ₂) (r : Fin M) (n : Fin N) :
    FloatOps.matmul (DotDims.plain M K N) none a b (constant ⟨2, ![M, N]⟩ .f32 0x00000000#32) (ix2 r n)
      = ∑ i : Fin K, a (ix2 r i) * b (ix2 i n) := by
  rw [Ideal.matmul_plain_apply]
  show Ideal.ofBits .f32 0x00000000#32 + _ = _
  rw [Ideal.ofBits_zero_f32, zero_add]

/-- A chunk's queries: the rows of `x` times the query weights. -/
theorem query_apply (wq : FVec Ideal S1024x1024 .bf16) (x : Vec Ideal S1x256x1024 .f32) (r : Fin 256) (m : Fin 1024) :
    k0_pay10 wq x (ix2 r m) = ∑ i : Fin 1024, x (ix3 0 r i) * wq (ix2 i m) := by
  unfold k0_pay10
  refine (product_apply (M := 256) (K := 1024) (N := 1024) _ _ r m).trans ?_
  refine Finset.sum_congr rfl fun i _ => ?_
  exact congrArg (· * _) (shapeCast_1ab_ab_apply _ _ r i)

/-- The eight heads side by side, at an index. -/
theorem heads_apply (c : Fin 8 → FVec Ideal S256x128 .bf16) (h) (r : Fin 256) (m : Fin 1024) :
    concatenate S256x1024 1 [⟨S256x128, c 0⟩, ⟨S256x128, c 1⟩, ⟨S256x128, c 2⟩, ⟨S256x128, c 3⟩, ⟨S256x128, c 4⟩,
      ⟨S256x128, c 5⟩, ⟨S256x128, c 6⟩, ⟨S256x128, c 7⟩] h (ix2 r m) = c (headOf m) (ix2 r (coordOf m)) :=
  concatenate_ofFn_apply (t := S256x1024) (s₁ := S256x128) 1 c h rfl 128 rfl (ix2 r m) (headOf m) rfl (ix2 r (coordOf m)) rfl
    fun b hb => match b with
      | ⟨0, _⟩ => rfl
      | ⟨1, _⟩ => absurd rfl hb

theorem joinV_apply (wo : FVec Ideal S1024x1024 .bf16) (c : Fin 8 → FVec Ideal S256x128 .bf16) (r : Fin 256) (n : Fin 1024) :
    joinV wo c (ix2 r n) = ∑ m : Fin 1024, c (headOf m) (ix2 r (coordOf m)) * wo (ix2 m n) := by
  unfold joinV
  rw [shapeCast_self]
  refine (product_apply (M := 256) (K := 1024) (N := 1024) _ _ r n).trans ?_
  exact Finset.sum_congr rfl fun m _ => congrArg (· * _) (heads_apply c _ r m)

theorem chunkV_apply (g : Fin 4) (wq wo : FVec Ideal S1024x1024 .bf16) (k v : FVec Ideal S1024x8x128 .bf16)
    (x : Vec Ideal S1x256x1024 .f32) (r : Fin 256) (n : Fin 1024) :
    chunkV g wq wo k v x (ix2 r n)
      = ∑ m : Fin 1024, headE (256 * g.val) (k0_pay10 wq x) k v (headOf m) r (coordOf m) * wo (ix2 m n) := by
  match g with
  | 0 => exact (congrFun (chunkA_eq wq wo k v x) _).trans ((joinV_apply ..).trans
      (Finset.sum_congr rfl fun m _ => congrArg (· * _) (headA_apply _ k v _ maskV_isMask _ r _)))
  | 1 => exact (congrFun (chunkB_eq wq wo k v x) _).trans ((joinV_apply ..).trans
      (Finset.sum_congr rfl fun m _ => congrArg (· * _) (headP_apply 256 _ rfl _ k v _ maskV_isMask _ r _)))
  | 2 => exact (congrFun (chunkC_eq wq wo k v x) _).trans ((joinV_apply ..).trans
      (Finset.sum_congr rfl fun m _ => congrArg (· * _) (headP_apply 512 _ rfl _ k v _ maskV_isMask _ r _)))
  | 3 => exact (congrFun (chunkD_eq wq wo k v x) _).trans ((joinV_apply ..).trans
      (Finset.sum_congr rfl fun m _ => congrArg (· * _) (headP_apply 768 _ rfl _ k v _ maskV_isMask _ r _)))

end Cert.KernelIdeal.Coll

end
-- ==== Proof.SumVals.lean ====
/- The result at an index: the sum over the devices of their partial products there. -/
module

public import proofs.«01_k».proof.Proof.ChunkVals
public import proofs.«01_k».proof.Proof.Proto

@[expose] public section

noncomputable section

namespace Cert.KernelIdeal.Coll

open Idealize.ShloMosaic Idealize.ShloMosaic.TcCoe Idealize.SL.Sem Idealize.ShloMosaic.ValueIdx
open Cert.KernelIdeal Cert.KernelIdeal.Gen
open scoped BigOperators

/-- A chunk's rows of the result are the gathered rows. -/
theorem outV_apply (g : Fin 4) (r : Vec Ideal S256x1024 .bf16) (u : Fin 1) (a : Fin 256) (n : Fin 1024) :
    outV g r (ix3 u a n) = r (ix2 a n) := by
  have h := shapeCast_ab_1ab_apply (r : S256x1024.Idx → EReal) shapeCasts_S256x1024_S1x256x1024 u a n
  match g with
  | 0 => exact h
  | 1 => exact h
  | 2 => exact h
  | 3 => exact h

/-- A received slot, widened. -/
def wide (x : Vec Ideal S1x32x1024 .bf16) : FVec Ideal S32x1024 .f32 := extf .f32 (shapeCast S32x1024 x shapeCasts_S1x32x1024_S32x1024) bitsLt_bf16_f32
/-- The device's own rows and the seven received, added in turn. -/
def sumAll (own : Vec Ideal S32x1024 .bf16) (s : Fin 7 → Vec Ideal S1x32x1024 .bf16) : FVec Ideal S32x1024 .bf16 :=
  truncf .bf16 (addf (addf (addf (addf (addf (addf (addf (extf .f32 own bitsLt_bf16_f32) (wide (s 0))) (wide (s 1))) (wide (s 2)))
    (wide (s 3))) (wide (s 4))) (wide (s 5))) (wide (s 6))) bitsLt_bf16_f32

/-- The reduced rows are the device's own rows plus the seven received. -/
theorem redV_apply (g : Fin 4) (own : Vec Ideal S32x1024 .bf16) (s : Fin 7 → Vec Ideal S1x32x1024 .bf16) (a : Fin 32) (n : Fin 1024) :
    redV g own s (ix2 a n) = own (ix2 a n) + ∑ k : Fin 7, s k (ix3 0 a n) := by
  let w : Fin 7 → EReal := fun k => shapeCast S32x1024 (s k) shapeCasts_S1x32x1024_S32x1024 (ix2 a n)
  have hw : ∀ k, w k = s k (ix3 0 a n) := fun k => shapeCast_1ab_ab_apply _ _ a n
  have e : redV g own s = shapeCast S32x1024 (sumAll own s) shapeCasts_S32x1024_S32x1024 := by
    match g with
    | 0 => rfl
    | 1 => rfl
    | 2 => rfl
    | 3 => rfl
  have h : redV g own s (ix2 a n) = own (ix2 a n) + w 0 + w 1 + w 2 + w 3 + w 4 + w 5 + w 6 := by
    rw [e, shapeCast_self]; rfl
  rw [h, Fin.sum_univ_seven, ← hw 0, ← hw 1, ← hw 2, ← hw 3, ← hw 4, ← hw 5, ← hw 6]
  simp only [add_assoc]

/-- A slot as its load yields it. -/
theorem slotL_apply (X : S32x1024.Idx → EReal) (a : Fin 32) (n : Fin 1024) :
    slotL (F := Ideal) X (ix3 0 a n) = X (ix2 a n) :=
  shapeCast_ab_1ab_apply X (by decide) 0 a n

/-- A device and its seven peers are all the devices. -/
theorem sum_peers (f : Dev nD → EReal) (p : Dev nD) : f p + ∑ k : Fin 7, f (peer k p) = ∑ c : Dev nD, f c := by
  have e : ∀ (p : Fin 8) (k : Fin 7), p + k.succ = (⟨(p.val + k.val + 1) % 8, Nat.mod_lt _ (by decide)⟩ : Fin 8) := by decide
  refine Eq.trans ?_ (Equiv.sum_comp (Equiv.addLeft (p : Fin 8)) f)
  refine Eq.trans ?_ (Fin.sum_univ_succ (fun k : Fin 8 => f ((p : Fin 8) + k))).symm
  exact congrArg₂ (· + ·) (congrArg f (add_zero (p : Fin 8)).symm) (Finset.sum_congr rfl fun k _ => congrArg f (e p k).symm)

/-- Row `R` of the accumulator is a row of one device's rows of one chunk. -/
theorem row_split (R n : Fin 1024) (j : S32x1024.Idx) (hj : j = rowI (ix2 R n)) :
    (rowRect (gI (ix2 R n)) (pI (ix2 R n))).emb j = ix2 R n := by
  subst hj
  funext a
  apply Fin.ext
  match a with
  | ⟨0, _⟩ => show 256 * (R.val / 256) + 32 * (R.val % 256 / 32) + 1 * (R.val % 32) = R.val; omega
  | ⟨1, _⟩ => show 0 + 1 * n.val = n.val; omega

/-- The reduced rows, at an index. -/
theorem redOf_apply (P : Dev nD → S1024x1024.Idx → EReal) (R n : Fin 1024) :
    redOf (F := Ideal) P (ix2 R n) = ∑ c : Dev nD, P c (ix2 R n) := by
  have hr : rowI (ix2 R n) = ix2 (⟨R.val % 32, by omega⟩ : Fin 32) n := by
    funext a; match a with | ⟨0, _⟩ => rfl | ⟨1, _⟩ => rfl
  refine (congrArg (redV (F := Ideal) _ _ _) hr).trans ?_
  refine (redV_apply _ _ _ _ _).trans ?_
  refine Eq.trans ?_ (sum_peers (fun c => P c (ix2 R n)) (pI (ix2 R n)))
  refine congrArg₂ (· + ·) (congrArg (P _) (row_split R n _ hr.symm)) (Finset.sum_congr rfl fun k _ => ?_)
  refine (slotL_apply _ _ _).trans ?_
  exact congrArg (P _) (row_split R n _ hr.symm)

/-- The result, at an index. -/
theorem outOf_apply (Q : S1024x1024.Idx → EReal) (u : Fin 1) (R n : Fin 1024) :
    outOf (F := Ideal) Q (ix3 u R n) = Q (ix2 R n) := by
  have hl : locO (ix3 u R n) = ix3 u (⟨R.val % 256, by omega⟩ : Fin 256) n := by
    funext a; match a with | ⟨0, _⟩ => rfl | ⟨1, _⟩ => rfl | ⟨2, _⟩ => rfl
  refine (congrArg (outV (F := Ideal) _ _) hl).trans ((outV_apply _ _ _ _ _).trans (congrArg Q ?_))
  funext a
  apply Fin.ext
  match a with
  | ⟨0, _⟩ => show 256 * (R.val / 256) + 1 * (R.val % 256) = R.val; omega
  | ⟨1, _⟩ => show 0 + 1 * n.val = n.val; omega

/-- The chunk's rows of `x`, at an index. -/
theorem xRows_apply (x : S1x1024x1024.Idx → EReal) (g : Fin 4) (r : Fin 256) (i : Fin 1024) :
    x ((xRect g).emb (ix3 0 r i)) = x (ix3 0 ⟨256 * g.val + r.val, by omega⟩ i) := by
  refine congrArg x (funext fun a => Fin.ext ?_)
  match a with
  | ⟨0, _⟩ => rfl
  | ⟨1, _⟩ => show 256 * g.val + 1 * r.val = _; rw [one_mul]
  | ⟨2, _⟩ => show 0 + 1 * i.val = i.val; omega

end Cert.KernelIdeal.Coll

end
-- ==== Proof.Softmax.lean ====
/- The mathematics of one row of attention over the extended reals: with real scores, dividing after the weighted sum and without
   subtracting the greatest score gives the same as the usual softmax. -/
module

public import Idealize.ShloMosaic.Lib.MatmulPlain

@[expose] public section

noncomputable section

namespace Cert.Rows

open Idealize.ShloMosaic
open scoped BigOperators

/-- A real factor that is not negative goes into a sum of extended reals. -/
theorem sum_mul_real {ι : Type} (s : Finset ι) (f : ι → EReal) (c : ℝ) (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha, ← ih, mul_comm,
      EReal.left_distrib_of_nonneg_of_ne_top (by exact_mod_cast hc) (EReal.coe_ne_top c), mul_comm _ (f a), mul_comm (c : EReal)]

/-- A sum of real numbers is the real sum. -/
theorem sum_real {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

variable {N : ℕ} (A : Fin N → Prop) [DecidablePred A] (σ : Fin N → ℝ)

/-- The masked scores: a forbidden position has the score minus infinity. -/
def masked (j : Fin N) : EReal := if A j then (σ j : EReal) else ⊥
/-- The weight of a position once a shift is taken off its score. -/
def shifted (μ : ℝ) (j : Fin N) : ℝ := if A j then Real.exp (σ j - μ) else 0

/-- The greatest masked score is a real number when some position is allowed. -/
theorem max_real (h : ∃ j, A j) : ∃ μ : ℝ, (Finset.univ : Finset (Fin N)).sup (masked A σ) = (μ : EReal) := by
  obtain ⟨j, hj⟩ := h
  obtain ⟨i, _, hi⟩ := Finset.exists_mem_eq_sup (Finset.univ : Finset (Fin N)) ⟨j, Finset.mem_univ j⟩ (masked A σ)
  by_cases ha : A i
  · exact ⟨σ i, hi.trans (if_pos ha)⟩
  · have hle : masked A σ j ≤ ⊥ := (Finset.le_sup (f := masked A σ) (Finset.mem_univ j)).trans (hi.trans (if_neg ha)).le
    rw [masked, if_pos hj] at hle
    exact absurd (le_bot_iff.mp hle) (EReal.coe_ne_bot _)

theorem exp_shifted (μ : ℝ) (j : Fin N) : Ideal.exp (masked A σ j - (μ : EReal)) = (shifted A σ μ j : EReal) := by
  unfold masked shifted
  by_cases h : A j
  · rw [if_pos h, if_pos h, ← EReal.coe_sub]; rfl
  · rw [if_neg h, if_neg h, EReal.bot_sub]; rfl

theorem exp_plain (j : Fin N) : (if A j then Ideal.exp (σ j : EReal) else 0) = (shifted A σ 0 j : EReal) := by
  unfold shifted
  by_cases h : A j
  · rw [if_pos h, if_pos h, sub_zero]; rfl
  · rw [if_neg h, if_neg h]; rfl

theorem shifted_eq (μ : ℝ) (j : Fin N) : shifted A σ μ j = shifted A σ 0 j * Real.exp (-μ) := by
  unfold shifted
  by_cases h : A j
  · rw [if_pos h, if_pos h, sub_zero, ← Real.exp_add, sub_eq_add_neg]
  · rw [if_neg h, if_neg h, zero_mul]

theorem shifted_sum_pos (h : ∃ j, A j) (μ : ℝ) : 0 < ∑ j, shifted A σ μ j := by
  obtain ⟨j, hj⟩ := h
  refine Finset.sum_pos' (fun i _ => ?_) ⟨j, Finset.mem_univ j, ?_⟩
  · unfold shifted; split_ifs
    · exact (Real.exp_pos _).le
    · exact le_rfl
  · unfold shifted; rw [if_pos hj]; exact Real.exp_pos _

/-- **One row.** The values weighted by the softmax of the masked scores, the greatest score taken off and each weight divided by
    the weights' sum, are the values weighted by the allowed positions' exponentials, divided by the sum of those. -/
theorem softmax_row (h : ∃ j, A j) (v : Fin N → EReal) :
    ∑ j, v j * Ideal.div (Ideal.exp (masked A σ j - (Finset.univ : Finset (Fin N)).sup (masked A σ)))
        (∑ i, Ideal.exp (masked A σ i - (Finset.univ : Finset (Fin N)).sup (masked A σ)))
      = Ideal.div (∑ j, (if A j then Ideal.exp (σ j : EReal) else 0) * v j) (∑ j, if A j then Ideal.exp (σ j : EReal) else 0) := by
  obtain ⟨μ, hμ⟩ := max_real A σ h
  have hD := shifted_sum_pos A σ h μ
  have hE := shifted_sum_pos A σ h 0
  simp only [hμ, exp_shifted, exp_plain, sum_real]
  rw [Ideal.div_coe hE.ne', sum_mul_real _ _ _ (one_div_pos.mpr hE).le]
  refine Finset.sum_congr rfl fun j _ => ?_
  rw [Ideal.div_coe hD.ne', mul_comm _ (v j), mul_assoc, ← EReal.coe_mul, ← EReal.coe_mul]
  refine congrArg (fun r : ℝ => v j * (r : EReal)) ?_
  have e : ∑ j, shifted A σ μ j = (∑ j, shifted A σ 0 j) * Real.exp (-μ) := by
    rw [Finset.sum_mul]; exact Finset.sum_congr rfl fun i _ => shifted_eq A σ μ i
  rw [e, shifted_eq A σ μ j]
  have := (Real.exp_pos (-μ)).ne'
  have := hE.ne'
  field_simp

end Cert.Rows

end
-- ==== Proof.KernelVals.lean ====
/- The kernel's result at an index, for finite `x`, `Wq` and `K_ext`: the sum over the devices of each head's values weighted by the
   exponentials of the allowed scores, over the sum of those, times the output weights. -/
module

public import proofs.«01_k».proof.Proof.SumVals
public import proofs.«01_k».proof.Proof.Softmax

@[expose] public section

noncomputable section

namespace Cert.KernelIdeal.Coll

open Idealize.ShloMosaic Idealize.ShloMosaic.TcCoe Idealize.SL.Sem Idealize.ShloMosaic.ValueIdx
open Cert.KernelIdeal Cert.KernelIdeal.Gen
open scoped BigOperators

/-- A device's partial product, at an index. -/
theorem partOf_apply (x : Vec Ideal S1x1024x1024 .f32) (wq wo : Vec Ideal S1024x1024 .f32) (k v : Vec Ideal S1024x8x128 .f32) (R n : Fin 1024) :
    partOf x wq wo k v (ix2 R n)
      = ∑ p : Fin 1024, headE (256 * (R.val / 256))
          (k0_pay10 (k0_pay2 wq) (fun j => x ((xRect (⟨R.val / 256, by omega⟩ : Fin 4)).emb j))) k v (headOf p) ⟨R.val % 256, by omega⟩ (coordOf p)
          * wo (ix2 p n) := by
  have hl : locI (ix2 R n) = ix2 (⟨R.val % 256, by omega⟩ : Fin 256) n := by
    funext a; match a with | ⟨0, _⟩ => rfl | ⟨1, _⟩ => rfl
  have ho : k0_pay3 (F := Ideal) wo = wo := shapeCast_self (α := EReal) wo shapeCasts_S1024x1024_S1024x1024
  unfold partOf
  refine (congrArg (chunkV (F := Ideal) _ _ _ _ _ _) hl).trans ?_
  refine (chunkV_apply _ _ _ _ _ _ _ _).trans ?_
  rw [ho]
  rfl

/-- The scaled query weights, at an index. -/
theorem scaled_apply (wq : Vec Ideal S1024x1024 .f32) (i p : Fin 1024) :
    k0_pay2 (F := Ideal) wq (ix2 i p) = wq (ix2 i p) * Ideal.ofBits .f32 0x3DB504F3#32 := by
  show shapeCast S1024x1024 wq shapeCasts_S1024x1024_S1024x1024 (ix2 i p) * _ = _
  rw [shapeCast_self]; rfl

/-- Real arrays for a device's `x`, query weights and keys, and a real scale. -/
structure Reals (x : Vec Ideal S1x1024x1024 .f32) (wq : Vec Ideal S1024x1024 .f32) (k : Vec Ideal S1024x8x128 .f32) where
  xr : Fin 1024 → Fin 1024 → ℝ
  wr : Fin 1024 → Fin 1024 → ℝ
  kr : Fin 1024 → Fin 8 → Fin 128 → ℝ
  sr : ℝ
  hx : ∀ R i, x (ix3 0 R i) = (xr R i : EReal)
  hw : ∀ i n, wq (ix2 i n) = (wr i n : EReal)
  hk : ∀ j h t, k (ix3 j h t) = (kr j h t : EReal)
  hs : Ideal.ofBits .f32 0x3DB504F3#32 = (sr : EReal)

variable {x : Vec Ideal S1x1024x1024 .f32} {wq : Vec Ideal S1024x1024 .f32} {k : Vec Ideal S1024x8x128 .f32}

/-- The score of key `j` for row `R` in the device's head `h`, a real number. -/
def Reals.score (ρ : Reals x wq k) (h : Fin 8) (R j : Fin 1024) : ℝ :=
  (∑ t : Fin 128, (∑ i : Fin 1024, ρ.xr R i * ρ.wr i (col h t)) * ρ.kr j h t) * ρ.sr

/-- The weight of key `j` for row `R` in the device's head `h`. -/
def Reals.weight (ρ : Reals x wq k) (h : Fin 8) (R j : Fin 1024) : EReal :=
  if j.val / 64 ≤ R.val / 64 then Ideal.exp (ρ.score h R j : EReal) else 0

/-- Row `R`, coordinate `t` of the device's head `h`. -/
def Reals.ctx (ρ : Reals x wq k) (v : Vec Ideal S1024x8x128 .f32) (h : Fin 8) (R : Fin 1024) (t : Fin 128) : EReal :=
  Ideal.div (∑ j : Fin 1024, ρ.weight h R j * v (ix3 j h t)) (∑ j : Fin 1024, ρ.weight h R j)

/-- The query of row `256 g + r`: the scale sits on the weights. -/
theorem Reals.query_eq (ρ : Reals x wq k) (g : Fin 4) (r : Fin 256) (p : Fin 1024) :
    k0_pay10 (k0_pay2 wq) (fun j => x ((xRect g).emb j)) (ix2 r p)
      = (((∑ i : Fin 1024, ρ.xr ⟨256 * g.val + r.val, by omega⟩ i * ρ.wr i p) * ρ.sr : ℝ) : EReal) := by
  rw [query_apply, Finset.sum_mul, ← Cert.Rows.sum_real]
  refine Finset.sum_congr rfl fun i _ => ?_
  rw [scaled_apply, ρ.hs, ρ.hw, xRows_apply x g r i, ρ.hx, ← EReal.coe_mul, ← EReal.coe_mul, mul_assoc]

theorem Reals.score_eq (ρ : Reals x wq k) (g : Fin 4) (r : Fin 256) (h : Fin 8) (j : Fin 1024) :
    Coll.score (k0_pay10 (k0_pay2 wq) (fun j => x ((xRect g).emb j))) k h r j = (ρ.score h ⟨256 * g.val + r.val, by omega⟩ j : EReal) := by
  unfold Coll.score Reals.score
  rw [Finset.sum_mul, ← Cert.Rows.sum_real]
  refine Finset.sum_congr rfl fun t _ => ?_
  rw [ρ.query_eq, ρ.hk, ← EReal.coe_mul]
  exact congrArg _ (by ring)

theorem Reals.head_eq (ρ : Reals x wq k) (v : Vec Ideal S1024x8x128 .f32) (g : Fin 4) (r : Fin 256) (h : Fin 8) (t : Fin 128) :
    headE (256 * g.val) (k0_pay10 (k0_pay2 wq) (fun j => x ((xRect g).emb j))) k v h r t = ρ.ctx v h ⟨256 * g.val + r.val, by omega⟩ t := by
  have e : ∀ j, wgt (256 * g.val) (k0_pay10 (k0_pay2 wq) (fun j => x ((xRect g).emb j))) k h r j
      = ρ.weight h ⟨256 * g.val + r.val, by omega⟩ j := fun j => by
    unfold wgt Reals.weight
    rw [ρ.score_eq]
  unfold headE Reals.ctx
  simp only [e]

/-- A device's partial product, at an index. -/
theorem Reals.part_eq (ρ : Reals x wq k) (v : Vec Ideal S1024x8x128 .f32) (wo : Vec Ideal S1024x1024 .f32) (R n : Fin 1024) :
    partOf x wq wo k v (ix2 R n) = ∑ p : Fin 1024, ρ.ctx v (headOf p) R (coordOf p) * wo (ix2 p n) := by
  rw [partOf_apply]
  refine Finset.sum_congr rfl fun p _ => congrArg (· * _) ?_
  refine (ρ.head_eq v (⟨R.val / 256, by omega⟩ : Fin 4) ⟨R.val % 256, by omega⟩ (headOf p) (coordOf p)).trans ?_
  refine congrArg (fun R => ρ.ctx v (headOf p) R (coordOf p)) (Fin.ext ?_)
  show 256 * (R.val / 256) + R.val % 256 = R.val
  omega

end Cert.KernelIdeal.Coll

end
-- ==== Proof.Reads.lean ====
/- What the device's own parts of the arrays hold, at an index: the copies that fetch its heads' keys and values, and the blocks of the
   query and output weights. -/
module

public import proofs.«01_k».proof.Proof.Ends
public import Idealize.ShloMosaic.Lib.ValueLayout
public import Idealize.ShloMosaic.Lib.Layout
public import Idealize.ShloMosaic.PureOps.Ideal.Laws

@[expose] public section

noncomputable section

namespace Cert.KernelIdeal.Coll

open Idealize.ShloMosaic Idealize.ShloMosaic.TcCoe Idealize.SL.Sem Idealize.ShloMosaic.ValueIdx
open Cert.KernelIdeal Cert.KernelIdeal.Gen

/-- Head `h` of device `c` among the whole model's heads. -/
def headIx (c : Dev nD) (h : Fin 8) : Fin 64 := ⟨8 * c.val + h.val, by have hc : c.val < 8 := c.isLt; omega⟩

/-- Position `p` of device `c`'s block among the whole model's columns. -/
def wideIx (c : Dev nD) (p : Fin 1024) : Fin 8192 := ⟨1024 * c.val + p.val, by have hc : c.val < 8 := c.isLt; omega⟩

/-- The rectangle of device `c`'s heads, at an index. -/
theorem heads_emb (c : Dev nD) (j : Fin 1024) (h : Fin 8) (t : Fin 128) :
    (Rect.unit (s := S1x1024x64x128) (k0_off1 c) S1x1024x8x128.size (k0_off1_inb c)).emb (ix4 (0 : Fin 1) j h t) = ix4 (0 : Fin 1) j (headIx c h) t := by
  have e := Gen.k0_off1_eq c
  funext a
  apply Fin.ext
  match a with
  | ⟨0, _⟩ => show k0_off1 c 0 + 1 * 0 = 0; rw [e]; rfl
  | ⟨1, _⟩ => show k0_off1 c 1 + 1 * j.val = j.val; rw [e]; show 0 + 1 * j.val = j.val; omega
  | ⟨2, _⟩ => show k0_off1 c 2 + 1 * h.val = 8 * c.val + h.val; rw [e]; show 8 * c.val + 1 * h.val = _; omega
  | ⟨3, _⟩ => show k0_off1 c 3 + 1 * t.val = t.val; rw [e]; show 0 + 1 * t.val = t.val; omega

variable (m : (ℓ : Loc nD τ sig) → Buf (Elt Ideal) ℓ)

/-- The device's keys are its heads of the whole key array. -/
theorem kIn_apply (c : Dev nD) (j : Fin 1024) (h : Fin 8) (t : Fin 128) :
    kIn m c (ix3 j h t) = m ((c : Thread nD τ).loc main_arg2) (ix4 (0 : Fin 1) j (headIx c h) t) := by
  refine Eq.trans ?_ (congrArg (m ((c : Thread nD τ).loc main_arg2)) (heads_emb c j h t))
  exact shapeCast_1abc_abc_apply (α := EReal) (m := 1024) (a := 8) (b := 128)
    (fun i => m ((c : Thread nD τ).loc main_arg2)
      ((Rect.unit (s := S1x1024x64x128) (k0_off1 c) S1x1024x8x128.size (k0_off1_inb c)).emb i))
    squeezes_S1x1024x8x128_S1024x8x128.numel_eq j h t

/-- The device's values are its heads of the whole value array. -/
theorem vIn_apply (c : Dev nD) (j : Fin 1024) (h : Fin 8) (t : Fin 128) :
    vIn m c (ix3 j h t) = m ((c : Thread nD τ).loc main_arg3) (ix4 (0 : Fin 1) j (headIx c h) t) := by
  refine Eq.trans ?_ (congrArg (m ((c : Thread nD τ).loc main_arg3)) (heads_emb c j h t))
  exact shapeCast_1abc_abc_apply (α := EReal) (m := 1024) (a := 8) (b := 128)
    (fun i => m ((c : Thread nD τ).loc main_arg3)
      ((Rect.unit (s := S1x1024x64x128) (k0_off1 c) S1x1024x8x128.size (k0_off1_inb c)).emb i))
    squeezes_S1x1024x8x128_S1024x8x128.numel_eq j h t

/-- Device `c`'s block of an array cut by columns. -/
theorem cols_apply (c : Dev nD) (w : (⟨2, ![1024, 8192]⟩ : Shape).Idx → EReal) (i p : Fin 1024) :
    Layout.block ⟨2, ![1024, 1024]⟩ ⟨2, ![1024, 8192]⟩ 1 8 c w (by decide) (ix2 i p) = w (ix2 i (wideIx c p)) := by
  refine congrArg w (funext fun a => Fin.ext ?_)
  match a with
  | ⟨0, _⟩ => rfl
  | ⟨1, _⟩ => show c.val * 1024 + p.val = 1024 * c.val + p.val; omega

/-- Device `c`'s block of an array cut by rows. -/
theorem rows_apply (c : Dev nD) (w : (⟨2, ![8192, 1024]⟩ : Shape).Idx → EReal) (p n : Fin 1024) :
    Layout.block ⟨2, ![1024, 1024]⟩ ⟨2, ![8192, 1024]⟩ 0 8 c w (by decide) (ix2 p n) = w (ix2 (wideIx c p) n) := by
  refine congrArg w (funext fun a => Fin.ext ?_)
  match a with
  | ⟨0, _⟩ => show c.val * 1024 + p.val = 1024 * c.val + p.val; omega
  | ⟨1, _⟩ => rfl

end Cert.KernelIdeal.Coll

end
-- ==== Proof.RefStages.lean ====
/- The reference cut into its stages, and each stage at an index, over the extended reals. -/
module

public import proofs.«01_k».proof.Proof.Gen.ReferenceIdeal.Run
public import Idealize.ShloMosaic.Lib.Pointwise

@[expose] public section

noncomputable section

namespace Cert.ReferenceIdeal.Stages

open Cert.ReferenceIdeal Cert.ReferenceIdeal.Gen Idealize.ShloMosaic Idealize.ShloMosaic.TcCoe
open scoped BigOperators

/-! ## The stages -/

/-- The block of each position. -/
def blocks : IVec S1024 32 :=
  select (andi (cmpi .ne (signi (iotaInDim S1024 32 0)) (broadcastInDim S1024 ![] bcast_S_S1024 (signi (id (constantI S_ 32 64#32)))))
      (cmpi .ne (Host.remsi (iotaInDim S1024 32 0) (broadcastInDim S1024 ![] bcast_S_S1024 (id (constantI S_ 32 64#32))))
        (broadcastInDim S1024 ![] bcast_S_S1024 (constantI S_ 32 0#32))))
    (subi (Host.divsi (iotaInDim S1024 32 0) (broadcastInDim S1024 ![] bcast_S_S1024 (id (constantI S_ 32 64#32))))
      (broadcastInDim S1024 ![] bcast_S_S1024 (constantI S_ 32 1#32)))
    (Host.divsi (iotaInDim S1024 32 0) (broadcastInDim S1024 ![] bcast_S_S1024 (id (constantI S_ 32 64#32))))

/-- Which position may look at which. -/
def allow : IVec S1024x1024 1 :=
  cmpi .sle (broadcastInDim S1024x1024 ![0, 1] bcast_S1x1024_S1024x1024_0_1 (broadcastInDim S1x1024 ![1] bcast_S1024_S1x1024_1 blocks))
    (broadcastInDim S1024x1024 ![0, 1] bcast_S1024x1_S1024x1024_0_1 (broadcastInDim S1024x1 ![0] bcast_S1024_S1024x1_0 blocks))

/-- Whether a position may look anywhere. -/
def keeps : IVec S1024 1 := Host.reduce IntOp.ori allow (constantI S_ 1 0#1) reducesTo_S1024x1024_S1024_d1 h_S_

def queries (x : FVec Ideal S1x1024x1024 .f32) (wq : FVec Ideal S1024x8192 .f32) : FVec Ideal S1x1024x64x128 .f32 :=
  shapeCast _ (Host.dotGeneral dot_S1x1024x1024_S1024x8192_S1x1024x8192_2_0_01_1_n_n none x wq : FVec Ideal S1x1024x8192 .f32)
    shapeCasts_S1x1024x8192_S1x1024x64x128

def scores (q k : FVec Ideal S1x1024x64x128 .f32) : FVec Ideal S1x64x1024x1024 .f32 :=
  mulf (Host.dotGeneral dot_S1x1024x64x128_S1x1024x64x128_S1x64x1024x1024_3_3_1_1_02_02 none q k)
    (broadcastInDim S1x64x1024x1024 ![] bcast_S_S1x64x1024x1024 (constant S_ .f32 0x3DB504F3#32))

def masking (s : FVec Ideal S1x64x1024x1024 .f32) : FVec Ideal S1x64x1024x1024 .f32 :=
  select (broadcastInDim S1x64x1024x1024 ![0, 1, 2, 3] bcast_S1x1x1024x1024_S1x64x1024x1024_0_1_2_3
      (broadcastInDim S1x1x1024x1024 ![2, 3] bcast_S1024x1024_S1x1x1024x1024_2_3 allow)) s
    (broadcastInDim S1x64x1024x1024 ![] bcast_S_S1x64x1024x1024 (id (constant S_ .f32 0xFF800000#32)))

def greatest (s : FVec Ideal S1x64x1024x1024 .f32) : FVec Ideal S1x64x1024 .f32 :=
  Host.reduce FloatOps.maximumf s (constant S_ .f32 0xFF800000#32) reducesTo_S1x64x1024x1024_S1x64x1024_d3 h_S_

def exps (s : FVec Ideal S1x64x1024x1024 .f32) : FVec Ideal S1x64x1024x1024 .f32 :=
  Host.exp (subf s (broadcastInDim S1x64x1024x1024 ![0, 1, 2, 3] bcast_S1x64x1024x1_S1x64x1024x1024_0_1_2_3
    (broadcastInDim S1x64x1024x1 ![0, 1, 2] bcast_S1x64x1024_S1x64x1024x1_0_1_2 (greatest s))))

def sums (w : FVec Ideal S1x64x1024x1024 .f32) : FVec Ideal S1x64x1024 .f32 :=
  Host.reduceAdd w (constant S_ .f32 0x00000000#32) reducesTo_S1x64x1024x1024_S1x64x1024_d3 h_S_

def probs (w : FVec Ideal S1x64x1024x1024 .f32) : FVec Ideal S1x64x1024x1024 .f32 :=
  select (broadcastInDim S1x64x1024x1024 ![0, 1, 2, 3] bcast_S1x1x1024x1_S1x64x1024x1024_0_1_2_3
      (broadcastInDim S1x1x1024x1 ![2] bcast_S1024_S1x1x1024x1_2 keeps))
    (Host.divf w (broadcastInDim S1x64x1024x1024 ![0, 1, 2, 3] bcast_S1x64x1024x1_S1x64x1024x1024_0_1_2_3
      (select (broadcastInDim S1x64x1024x1 ![0, 1, 2, 3] bcast_S1x1x1024x1_S1x64x1024x1_0_1_2_3
          (broadcastInDim S1x1x1024x1 ![2] bcast_S1024_S1x1x1024x1_2 keeps))
        (broadcastInDim S1x64x1024x1 ![0, 1, 2] bcast_S1x64x1024_S1x64x1024x1_0_1_2 (sums w))
        (broadcastInDim S1x64x1024x1 ![] bcast_S_S1x64x1024x1 (id (constant S_ .f32 0x3F800000#32))))))
    (broadcastInDim S1x64x1024x1024 ![] bcast_S_S1x64x1024x1024 (id (constant S_ .f32 0x00000000#32)))

def context (v : FVec Ideal S1x1024x64x128 .f32) (p : FVec Ideal S1x64x1024x1024 .f32) : FVec Ideal S1x1024x8192 .f32 :=
  shapeCast _ (transpose S1x1024x64x128 [0, 3, 1, 2]
    (Host.dotGeneral dot_S1x1024x64x128_S1x64x1024x1024_S1x64x128x1024_1_3_3_2_02_01 none v p : FVec Ideal S1x64x128x1024 .f32)
    transposes_S1x64x128x1024_S1x1024x64x128_0_3_1_2) shapeCasts_S1x1024x64x128_S1x1024x8192

def outs (ctx : FVec Ideal S1x1024x8192 .f32) (wo : FVec Ideal S8192x1024 .f32) : FVec Ideal S1x1024x1024 .f32 :=
  Host.dotGeneral dot_S1x1024x8192_S8192x1024_S1x1024x1024_2_0_01_1_n_n none ctx wo

/-- The reference from its five arguments. -/
def whole (x : FVec Ideal S1x1024x1024 .f32) (wq : FVec Ideal S1024x8192 .f32) (k v : FVec Ideal S1x1024x64x128 .f32)
    (wo : FVec Ideal S8192x1024 .f32) : FVec Ideal S1x1024x1024 .f32 :=
  outs (context v (probs (exps (masking (scores (queries x wq) k))))) wo

theorem res_eq (m : (ℓ : Loc nD τ sig) → Buf (Elt Ideal) ℓ) (c : Dev nD) :
    Value.res_main_v33 m c = whole (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

/-! ## The stages at an index -/

theorem outs_apply (ctx : FVec Ideal S1x1024x8192 .f32) (wo : FVec Ideal S8192x1024 .f32) (u : Fin 1) (R n : Fin 1024) :
    outs ctx wo (ix3 u R n) = ∑ i : Fin 8192, ctx (ix3 u R i) * wo (ix2 i n) := by
  pointwise [outs]

theorem context_apply (v : FVec Ideal S1x1024x64x128 .f32) (p : FVec Ideal S1x64x1024x1024 .f32) (u : Fin 1) (R : Fin 1024) (i : Fin 8192) :
    context v p (ix3 u R i) = ∑ j : Fin 1024, v (ix4 0 j ⟨i.val / 128, by omega⟩ ⟨i.val % 128, by omega⟩) * p (ix4 0 ⟨i.val / 128, by omega⟩ R j) := by
  pointwise [context]

theorem queries_apply (x : FVec Ideal S1x1024x1024 .f32) (wq : FVec Ideal S1024x8192 .f32) (u : Fin 1) (R : Fin 1024) (h : Fin 64) (t : Fin 128) :
    queries x wq (ix4 u R h t) = ∑ i : Fin 1024, x (ix3 0 R i) * wq (ix2 i ⟨h.val * 128 + t.val, by omega⟩) := by
  pointwise [queries]

theorem scores_apply (q k : FVec Ideal S1x1024x64x128 .f32) (u : Fin 1) (h : Fin 64) (R j : Fin 1024) :
    scores q k (ix4 u h R j) = (∑ t : Fin 128, q (ix4 0 R h t) * k (ix4 0 j h t)) * Ideal.ofBits .f32 0x3DB504F3#32 := by
  obtain rfl : u = 0 := Subsingleton.elim _ _
  pointwise [scores]

/-- The pattern of minus infinity. -/
theorem minus_infinity : Ideal.ofBits .f32 0xFF800000#32 = ⊥ := by
  simp [Ideal.ofBits, Ideal.ieee]

theorem masking_apply (s : FVec Ideal S1x64x1024x1024 .f32) (u : Fin 1) (h : Fin 64) (R j : Fin 1024) :
    masking s (ix4 u h R j) = if allow (ix2 R j) = 1#1 then s (ix4 u h R j) else ⊥ := by
  pointwise [masking]
  refine (congrArg (Scalar.select _ _) minus_infinity).trans ?_
  rfl

theorem greatest_apply (s : FVec Ideal S1x64x1024x1024 .f32) (u : Fin 1) (h : Fin 64) (R : Fin 1024) :
    greatest s (ix3 u h R) = (Finset.univ : Finset (Fin 1024)).sup fun j => s (ix4 0 h R j) := by
  pointwise [greatest]
  exact (congrArg (fun b => Finset.fold max b _ _) minus_infinity).trans rfl

theorem exps_apply (s : FVec Ideal S1x64x1024x1024 .f32) (u : Fin 1) (h : Fin 64) (R j : Fin 1024) :
    exps s (ix4 u h R j) = Ideal.exp (s (ix4 u h R j) - greatest s (ix3 0 h R)) := by
  pointwise [exps]

theorem sums_apply (w : FVec Ideal S1x64x1024x1024 .f32) (u : Fin 1) (h : Fin 64) (R : Fin 1024) :
    sums w (ix3 u h R) = ∑ j : Fin 1024, w (ix4 0 h R j) := by
  pointwise [sums]

theorem probs_apply (hk : ∀ R : Fin 1024, keeps (ix1 R) = 1#1) (w : FVec Ideal S1x64x1024x1024 .f32) (u : Fin 1) (h : Fin 64) (R j : Fin 1024) :
    probs w (ix4 u h R j) = Ideal.div (w (ix4 u h R j)) (sums w (ix3 0 h R)) := by
  pointwise [probs]
  rw [hk]
  rfl

end Cert.ReferenceIdeal.Stages

end
-- ==== Proof.RefMask.lean ====
/- The reference's mask at an index: allowed where the column's block of 64 is not after the row's. -/
module

public import proofs.«01_k».proof.Proof.RefStages

@[expose] public section

noncomputable section

namespace Cert.ReferenceIdeal.Stages

open Cert.ReferenceIdeal Cert.ReferenceIdeal.Gen Idealize.ShloMosaic Idealize.ShloMosaic.TcCoe
open scoped BigOperators

/-- The sign of a word. -/
def signOf (b : BitVec 32) : BitVec 32 := if b = 0 then 0 else if b.msb then -1 else 1

/-- The block of a position, as the reference computes it from the position's word. -/
def blockOf (b : BitVec 32) : BitVec 32 :=
  Scalar.select (IntOp.andi (IntOp.cmpi .ne (signOf b) (signOf 64#32)) (IntOp.cmpi .ne (IntOp.remsi .host b 64#32) 0#32))
    (IntOp.subi (IntOp.divsi .host b 64#32) 1#32) (IntOp.divsi .host b 64#32)

theorem blockOf_eq : ∀ n : Fin 1024, blockOf (BitVec.ofNat 32 n.val) = BitVec.ofNat 32 (n.val / 64) := by decide +kernel

theorem blocks_apply (n : Fin 1024) : blocks (ix1 n) = BitVec.ofNat 32 (n.val / 64) :=
  (show blocks (ix1 n) = blockOf (BitVec.ofNat 32 n.val) from rfl).trans (blockOf_eq n)

theorem le_block : ∀ a b : Fin 16, IntOp.cmpi .sle (BitVec.ofNat 32 a.val) (BitVec.ofNat 32 b.val) = if a.val ≤ b.val then 1#1 else 0#1 := by
  decide +kernel

theorem allow_apply (R j : Fin 1024) : allow (ix2 R j) = if j.val / 64 ≤ R.val / 64 then 1#1 else 0#1 := by
  pointwise [allow]
  rw [blocks_apply, blocks_apply]
  exact le_block ⟨j.val / 64, by omega⟩ ⟨R.val / 64, by omega⟩

/-- Every position may look at itself. -/
theorem keeps_apply (R : Fin 1024) : keeps (ix1 R) = 1#1 := by
  have h := Finset.fold_insert (op := IntOp.ori) (b := (0#1 : BitVec 1)) (f := fun x : Fin 1024 => allow (ix2 R x))
    (Finset.notMem_erase R Finset.univ)
  rw [Finset.insert_erase (Finset.mem_univ R), allow_apply, if_pos le_rfl] at h
  have e : ∀ b : BitVec 1, IntOp.ori 1#1 b = 1#1 := by decide
  pointwise [keeps]
  exact h.trans (e _)

end Cert.ReferenceIdeal.Stages

end
-- ==== Proof.RefVals.lean ====
/- The reference at an index, for finite `x`, `Wq` and `K_ext`: each head's values weighted by the exponentials of the allowed scores, over
   the sum of those, times the output weights. -/
module

public import proofs.«01_k».proof.Proof.RefMask
public import proofs.«01_k».proof.Proof.Softmax

@[expose] public section

noncomputable section

namespace Cert.ReferenceIdeal.Stages

open Cert.ReferenceIdeal Cert.ReferenceIdeal.Gen Idealize.ShloMosaic Idealize.ShloMosaic.TcCoe
open scoped BigOperators

/-- The scale of the scores is a real number. -/
theorem scale_real : ∃ s : ℝ, Ideal.ofBits .f32 0x3DB504F3#32 = (s : EReal) := by
  simp only [Ideal.ofBits, Ideal.ieee]
  split_ifs
  all_goals first | exact ⟨_, rfl⟩ | exact ⟨_, (EReal.coe_zero).symm⟩ | simp_all

/-- Real arrays for `x`, `Wq` and `K_ext`, and a real scale. -/
structure Reals (x : FVec Ideal S1x1024x1024 .f32) (wq : FVec Ideal S1024x8192 .f32) (k : FVec Ideal S1x1024x64x128 .f32) where
  xr : Fin 1024 → Fin 1024 → ℝ
  wr : Fin 1024 → Fin 8192 → ℝ
  kr : Fin 1024 → Fin 64 → Fin 128 → ℝ
  sr : ℝ
  hx : ∀ R i, x (ix3 0 R i) = (xr R i : EReal)
  hw : ∀ i n, wq (ix2 i n) = (wr i n : EReal)
  hk : ∀ j h t, k (ix4 0 j h t) = (kr j h t : EReal)
  hs : Ideal.ofBits .f32 0x3DB504F3#32 = (sr : EReal)

variable {x : FVec Ideal S1x1024x1024 .f32} {wq : FVec Ideal S1024x8192 .f32} {k : FVec Ideal S1x1024x64x128 .f32}

/-- Column of coordinate `t` of head `h`. -/
def column (h : Fin 64) (t : Fin 128) : Fin 8192 := ⟨h.val * 128 + t.val, by omega⟩

/-- The score of key `j` for row `R` in head `h`, a real number. -/
def Reals.score (ρ : Reals x wq k) (h : Fin 64) (R j : Fin 1024) : ℝ :=
  (∑ t : Fin 128, (∑ i : Fin 1024, ρ.xr R i * ρ.wr i (column h t)) * ρ.kr j h t) * ρ.sr

/-- The weight of key `j` for row `R` in head `h`. -/
def Reals.weight (ρ : Reals x wq k) (h : Fin 64) (R j : Fin 1024) : EReal :=
  if j.val / 64 ≤ R.val / 64 then Ideal.exp (ρ.score h R j : EReal) else 0

theorem Reals.score_eq (ρ : Reals x wq k) (u : Fin 1) (h : Fin 64) (R j : Fin 1024) :
    scores (queries x wq) k (ix4 u h R j) = (ρ.score h R j : EReal) := by
  rw [scores_apply, ρ.hs]
  unfold Reals.score
  rw [EReal.coe_mul, ← Cert.Rows.sum_real]
  refine congrArg (· * (ρ.sr : EReal)) (Finset.sum_congr rfl fun t _ => ?_)
  rw [queries_apply, ρ.hk, EReal.coe_mul, ← Cert.Rows.sum_real]
  refine congrArg (· * (ρ.kr j h t : EReal)) (Finset.sum_congr rfl fun i _ => ?_)
  rw [ρ.hx, EReal.coe_mul]
  exact congrArg (_ * ·) (ρ.hw i (column h t))

theorem Reals.masking_eq (ρ : Reals x wq k) (u : Fin 1) (h : Fin 64) (R j : Fin 1024) :
    masking (scores (queries x wq) k) (ix4 u h R j)
      = Cert.Rows.masked (fun j : Fin 1024 => j.val / 64 ≤ R.val / 64) (ρ.score h R) j := by
  rw [masking_apply, allow_apply, ρ.score_eq]
  unfold Cert.Rows.masked
  by_cases hc : j.val / 64 ≤ R.val / 64
  · rw [if_pos hc, if_pos rfl, if_pos hc]
  · rw [if_neg hc, if_neg (by decide), if_neg hc]

/-- Row `R`, coordinate `t` of head `h` of the context. -/
def Reals.ctx (ρ : Reals x wq k) (v : FVec Ideal S1x1024x64x128 .f32) (h : Fin 64) (R : Fin 1024) (t : Fin 128) : EReal :=
  Ideal.div (∑ j : Fin 1024, ρ.weight h R j * v (ix4 0 j h t)) (∑ j : Fin 1024, ρ.weight h R j)

theorem Reals.context_eq (ρ : Reals x wq k) (v : FVec Ideal S1x1024x64x128 .f32) (u : Fin 1) (R : Fin 1024) (i : Fin 8192) :
    context v (probs (exps (masking (scores (queries x wq) k)))) (ix3 u R i)
      = ρ.ctx v ⟨i.val / 128, by omega⟩ R ⟨i.val % 128, by omega⟩ := by
  rw [context_apply]
  simp only [probs_apply keeps_apply, sums_apply, exps_apply, greatest_apply, ρ.masking_eq]
  exact Cert.Rows.softmax_row (fun j : Fin 1024 => j.val / 64 ≤ R.val / 64) (ρ.score _ R) ⟨R, le_rfl⟩ _

/-- **The reference at an index.** -/
theorem Reals.whole_apply (ρ : Reals x wq k) (v : FVec Ideal S1x1024x64x128 .f32) (wo : FVec Ideal S8192x1024 .f32) (u : Fin 1) (R n : Fin 1024) :
    whole x wq k v wo (ix3 u R n)
      = ∑ i : Fin 8192, ρ.ctx v ⟨i.val / 128, by omega⟩ R ⟨i.val % 128, by omega⟩ * wo (ix2 i n) := by
  unfold whole
  rw [outs_apply]
  exact Finset.sum_congr rfl fun i _ => congrArg (· * _) (ρ.context_eq v u R i)

end Cert.ReferenceIdeal.Stages

end
-- ==== Proof.Agree.lean ====
/- The two sides agree: with a device's arrays the parts of the reference's that it holds, its contexts are the reference's contexts of its
   heads, and the devices' partial products add up to the reference's whole product. -/
module

public import proofs.«01_k».proof.Proof.KernelVals
public import proofs.«01_k».proof.Proof.Reads
public import proofs.«01_k».proof.Proof.RefVals
public import Idealize.ShloMosaic.Lib.Pointwise.IndexBridge

@[expose] public section

noncomputable section

namespace Cert.Agree

open Idealize.ShloMosaic
open Cert.KernelIdeal.Coll (headIx wideIx headOf coordOf)
open Cert.ReferenceIdeal (Stages.Reals)
open Cert.ReferenceIdeal.Stages (column whole)
open scoped BigOperators

/-- A sum over the whole model's columns is the sum over the devices of the sums over their blocks. -/
theorem sum_blocks (f : Fin 8192 → EReal) : ∑ i : Fin 8192, f i = ∑ c : Dev Cert.KernelIdeal.nD, ∑ p : Fin 1024, f (wideIx c p) := by
  refine (Equiv.sum_comp (finProdFinEquiv : Fin 8 × Fin 1024 ≃ Fin 8192) f).symm.trans ?_
  refine (Fintype.sum_prod_type (fun q : Fin 8 × Fin 1024 => f (finProdFinEquiv q))).trans ?_
  refine Finset.sum_congr rfl fun c _ => Finset.sum_congr rfl fun p _ => congrArg f (Fin.ext ?_)
  show p.val + 1024 * c.val = 1024 * c.val + p.val
  omega

variable {X : FVec Ideal Cert.ReferenceIdeal.S1x1024x1024 .f32} {WQ : FVec Ideal Cert.ReferenceIdeal.S1024x8192 .f32}
  {K V : FVec Ideal Cert.ReferenceIdeal.S1x1024x64x128 .f32} {WO : FVec Ideal Cert.ReferenceIdeal.S8192x1024 .f32}

/-- Device `c` holds `x` whole, its blocks of the weights, and its heads of the keys and values. -/
structure Holds (X : FVec Ideal Cert.ReferenceIdeal.S1x1024x1024 .f32) (WQ : FVec Ideal Cert.ReferenceIdeal.S1024x8192 .f32)
    (K V : FVec Ideal Cert.ReferenceIdeal.S1x1024x64x128 .f32) (WO : FVec Ideal Cert.ReferenceIdeal.S8192x1024 .f32)
    (c : Dev Cert.KernelIdeal.nD) (x : Vec Ideal Cert.KernelIdeal.S1x1024x1024 .f32) (wq wo : Vec Ideal Cert.KernelIdeal.S1024x1024 .f32)
    (k v : Vec Ideal Cert.KernelIdeal.S1024x8x128 .f32) : Prop where
  hx : ∀ R i, x (ValueIdx.ix3 0 R i) = X (ix3 0 R i)
  hwq : ∀ i p, wq (ValueIdx.ix2 i p) = WQ (ix2 i (wideIx c p))
  hwo : ∀ p n, wo (ValueIdx.ix2 p n) = WO (ix2 (wideIx c p) n)
  hk : ∀ j h t, k (ValueIdx.ix3 j h t) = K (ix4 0 j (headIx c h) t)
  hv : ∀ j h t, v (ValueIdx.ix3 j h t) = V (ix4 0 j (headIx c h) t)

variable {c : Dev Cert.KernelIdeal.nD} {x : Vec Ideal Cert.KernelIdeal.S1x1024x1024 .f32} {wq wo : Vec Ideal Cert.KernelIdeal.S1024x1024 .f32}
  {k v : Vec Ideal Cert.KernelIdeal.S1024x8x128 .f32}

/-- The device's real arrays are its parts of the reference's. -/
def Holds.reals (H : Holds X WQ K V WO c x wq wo k v) (ρ : Stages.Reals X WQ K) : Cert.KernelIdeal.Coll.Reals x wq k where
  xr := ρ.xr
  wr i p := ρ.wr i (wideIx c p)
  kr j h t := ρ.kr j (headIx c h) t
  sr := ρ.sr
  hx R i := (H.hx R i).trans (ρ.hx R i)
  hw i p := (H.hwq i p).trans (ρ.hw i _)
  hk j h t := (H.hk j h t).trans (ρ.hk j _ t)
  hs := ρ.hs

/-- Coordinate `t` of the device's head `h`, among the whole model's columns. -/
theorem wide_col (c : Dev Cert.KernelIdeal.nD) (h : Fin 8) (t : Fin 128) : wideIx c (Cert.KernelIdeal.Coll.col h t) = column (headIx c h) t :=
  Fin.ext (by show 1024 * c.val + (128 * h.val + t.val) = (8 * c.val + h.val) * 128 + t.val; omega)

theorem Holds.score_eq (H : Holds X WQ K V WO c x wq wo k v) (ρ : Stages.Reals X WQ K) (h : Fin 8) (R j : Fin 1024) :
    (H.reals ρ).score h R j = ρ.score (headIx c h) R j := by
  show (∑ t : Fin 128, (∑ i : Fin 1024, ρ.xr R i * ρ.wr i (wideIx c (Cert.KernelIdeal.Coll.col h t))) * ρ.kr j (headIx c h) t) * ρ.sr = _
  simp only [wide_col]
  rfl

theorem Holds.weight_eq (H : Holds X WQ K V WO c x wq wo k v) (ρ : Stages.Reals X WQ K) (h : Fin 8) (R j : Fin 1024) :
    (H.reals ρ).weight h R j = ρ.weight (headIx c h) R j := by
  unfold Cert.KernelIdeal.Coll.Reals.weight Cert.ReferenceIdeal.Stages.Reals.weight
  rw [H.score_eq]

/-- The device's context of its head `h` is the reference's of that head. -/
theorem Holds.ctx_eq (H : Holds X WQ K V WO c x wq wo k v) (ρ : Stages.Reals X WQ K) (h : Fin 8) (R : Fin 1024) (t : Fin 128) :
    (H.reals ρ).ctx v h R t = ρ.ctx V (headIx c h) R t := by
  unfold Cert.KernelIdeal.Coll.Reals.ctx Cert.ReferenceIdeal.Stages.Reals.ctx
  simp only [H.weight_eq, H.hv]

/-- The device's partial product is its block's part of the reference's sum. -/
theorem Holds.part_eq (H : Holds X WQ K V WO c x wq wo k v) (ρ : Stages.Reals X WQ K) (R n : Fin 1024) :
    Cert.KernelIdeal.Coll.partOf (F := Ideal) x wq wo k v (ValueIdx.ix2 R n)
      = ∑ p : Fin 1024, ρ.ctx V ⟨(wideIx c p).val / 128, by omega⟩ R ⟨(wideIx c p).val % 128, by omega⟩ * WO (ix2 (wideIx c p) n) := by
  refine ((H.reals ρ).part_eq v wo R n).trans (Finset.sum_congr rfl fun p _ => ?_)
  rw [H.ctx_eq, H.hwo]
  have e1 : headIx c (headOf p) = ⟨(wideIx c p).val / 128, by omega⟩ :=
    Fin.ext (by show 8 * c.val + p.val / 128 = (1024 * c.val + p.val) / 128; omega)
  have e2 : coordOf p = ⟨(wideIx c p).val % 128, by omega⟩ :=
    Fin.ext (by show p.val % 128 = (1024 * c.val + p.val) % 128; omega)
  rw [e1, e2]

/-- **The devices' sum is the reference.** -/
theorem out_eq (ρ : Stages.Reals X WQ K) (P : Dev Cert.KernelIdeal.nD → Cert.KernelIdeal.S1024x1024.Idx → EReal)
    (hP : ∀ c, ∃ x wq wo k v, Holds X WQ K V WO c x wq wo k v ∧ P c = Cert.KernelIdeal.Coll.partOf (F := Ideal) x wq wo k v) :
    Cert.KernelIdeal.Coll.outOf (F := Ideal) (Cert.KernelIdeal.Coll.redOf (F := Ideal) P) = whole X WQ K V WO := by
  funext i
  obtain ⟨u, R, n, rfl⟩ : ∃ (u : Fin 1) (R n : Fin 1024), i = ix3 u R n := ⟨i 0, i 1, i 2, eq_ix3 i⟩
  rw [ρ.whole_apply V WO u R n, sum_blocks, ix3_eq_valueIdx]
  refine (Cert.KernelIdeal.Coll.outOf_apply _ u R n).trans ((Cert.KernelIdeal.Coll.redOf_apply P R n).trans ?_)
  refine Finset.sum_congr rfl fun c _ => ?_
  obtain ⟨x, wq, wo, k, v, H, e⟩ := hP c
  rw [e]
  exact H.part_eq ρ R n

end Cert.Agree

end
-- ==== Proof.Finite.lean ====
/- What the precondition says: every entry of `x`, of a device's query weights and of the keys is a real number. -/
module

public import proofs.«01_k».proof.Defs
public import proofs.«01_k».proof.Proof.Gen.Pre_finite_scores_KernelIdeal
public import Idealize.ShloMosaic.PureOps.Ideal.Laws

@[expose] public section

noncomputable section

namespace Cert.Finite

open Idealize.ShloMosaic

/-- An extended real whose absolute value is below infinity is a real. -/
theorem real_of_lt (x : EReal) (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  induction x using EReal.rec with
  | bot => exact absurd h (by simp [Ideal.cmp])
  | coe r => exact ⟨r, rfl⟩
  | top => exact absurd h (by simp [Ideal.cmp])

variable {m : (ℓ : Loc Cert.KernelIdeal.nD Cert.KernelIdeal.τ Cert.KernelIdeal.sig) → Buf (Elt Ideal) ℓ}

/-- Every entry of `x` is a real number. -/
theorem x_real [Cert.Pre_finite_scores_KernelIdeal.Facts] (h : Pre_KernelIdeal_finite_scores_KernelIdeal m) (c : Dev Cert.KernelIdeal.nD) (i : Cert.KernelIdeal.S1x1024x1024.Idx) :
    ∃ r : ℝ, m ((c.tc : Thread Cert.KernelIdeal.nD Cert.KernelIdeal.τ).loc Cert.KernelIdeal.main_arg0) i = (r : EReal) :=
  real_of_lt _ (congrFun (h c).1 i)

/-- Every entry of the device's query weights is a real number. -/
theorem wq_real [Cert.Pre_finite_scores_KernelIdeal.Facts] (h : Pre_KernelIdeal_finite_scores_KernelIdeal m) (c : Dev Cert.KernelIdeal.nD) (i : Cert.KernelIdeal.S1024x1024.Idx) :
    ∃ r : ℝ, m ((c.tc : Thread Cert.KernelIdeal.nD Cert.KernelIdeal.τ).loc Cert.KernelIdeal.main_arg1) i = (r : EReal) :=
  real_of_lt _ (congrFun (h c).2.1 i)

/-- Every key is a real number. -/
theorem k_real [Cert.Pre_finite_scores_KernelIdeal.Facts] (h : Pre_KernelIdeal_finite_scores_KernelIdeal m) (c : Dev Cert.KernelIdeal.nD) (i : Cert.KernelIdeal.S1x1024x64x128.Idx) :
    ∃ r : ℝ, m ((c.tc : Thread Cert.KernelIdeal.nD Cert.KernelIdeal.τ).loc Cert.KernelIdeal.main_arg2) i = (r : EReal) :=
  real_of_lt _ (congrFun (h c).2.2 i)

end Cert.Finite

end
-- ==== Proof.Join.lean ====
/- The value claim: over the extended reals, with finite `x`, query weights and keys, every device's result is the reference's. -/
module

public import proofs.«01_k».proof.Proof.Agree
public import proofs.«01_k».proof.Proof.Finite
public import proofs.«01_k».proof.Proof.Gen.ReferenceIdeal.Run

@[expose] public section

noncomputable section

namespace Cert.Join

open Idealize.ShloMosaic Idealize.ShloMosaic.TcCoe Idealize.SL.Sem
open Cert.KernelIdeal.Coll (headIx wideIx)

/-- The kernel's memories and the reference's. -/
abbrev KMem : Type := (ℓ : Loc Cert.KernelIdeal.nD Cert.KernelIdeal.τ Cert.KernelIdeal.sig) → Buf (Elt Ideal) ℓ
abbrev RMem : Type := (ℓ : Loc Cert.ReferenceIdeal.nD Cert.ReferenceIdeal.τ Cert.ReferenceIdeal.sig) → Buf (Elt Ideal) ℓ

/-- A device's core, and the reference's. -/
abbrev kt (c : Dev Cert.KernelIdeal.nD) : Thread Cert.KernelIdeal.nD Cert.KernelIdeal.τ := c.tc
abbrev rt : Thread Cert.ReferenceIdeal.nD Cert.ReferenceIdeal.τ := (0 : Dev Cert.ReferenceIdeal.nD).tc

/-- The devices' arguments are the reference's: `x`, the keys and the values whole on every device, the query weights cut by columns and
    the output weights by rows. -/
def Matches (m : KMem) (m' : RMem) : Prop := ∀ c : Dev Cert.KernelIdeal.nD,
  m ((kt c).loc Cert.KernelIdeal.main_arg0) = m' (rt.loc Cert.ReferenceIdeal.main_arg0)
  ∧ m ((kt c).loc Cert.KernelIdeal.main_arg1) = Layout.block ⟨2, ![1024, 1024]⟩ ⟨2, ![1024, 8192]⟩ 1 8 c (m' (rt.loc Cert.ReferenceIdeal.main_arg1))
  ∧ m ((kt c).loc Cert.KernelIdeal.main_arg2) = m' (rt.loc Cert.ReferenceIdeal.main_arg2)
  ∧ m ((kt c).loc Cert.KernelIdeal.main_arg3) = m' (rt.loc Cert.ReferenceIdeal.main_arg3)
  ∧ m ((kt c).loc Cert.KernelIdeal.main_arg4) = Layout.block ⟨2, ![1024, 1024]⟩ ⟨2, ![8192, 1024]⟩ 0 8 c (m' (rt.loc Cert.ReferenceIdeal.main_arg4))

variable {m : KMem} {m' : RMem}

/-- What a device's copies and windows give it are its parts of the reference's arguments. -/
theorem holds (hm : Matches m m') (c : Dev Cert.KernelIdeal.nD) :
    Agree.Holds (m' (rt.loc Cert.ReferenceIdeal.main_arg0)) (m' (rt.loc Cert.ReferenceIdeal.main_arg1)) (m' (rt.loc Cert.ReferenceIdeal.main_arg2))
      (m' (rt.loc Cert.ReferenceIdeal.main_arg3)) (m' (rt.loc Cert.ReferenceIdeal.main_arg4)) c
      (Cert.KernelIdeal.Coll.xIn m c) (Cert.KernelIdeal.Coll.wqIn m c) (Cert.KernelIdeal.Coll.woIn m c)
      (Cert.KernelIdeal.Coll.kIn m c) (Cert.KernelIdeal.Coll.vIn m c) where
  hx R i := (congrFun ((Cert.KernelIdeal.Coll.xIn_eq m c).trans (hm c).1) _).trans (congrArg _ (ix3_eq_valueIdx 0 R i).symm)
  hwq i p := (congrFun ((Cert.KernelIdeal.Coll.wqIn_eq m c).trans (hm c).2.1) _).trans
    ((Cert.KernelIdeal.Coll.cols_apply c _ i p).trans (congrArg _ (ix2_eq_valueIdx i (wideIx c p)).symm))
  hwo p n := (congrFun ((Cert.KernelIdeal.Coll.woIn_eq m c).trans (hm c).2.2.2.2) _).trans
    ((Cert.KernelIdeal.Coll.rows_apply c _ p n).trans (congrArg _ (ix2_eq_valueIdx (wideIx c p) n).symm))
  hk j h t := (Cert.KernelIdeal.Coll.kIn_apply m c j h t).trans ((congrFun (hm c).2.2.1 _).trans (congrArg _ (ix4_eq_valueIdx 0 j (headIx c h) t).symm))
  hv j h t := (Cert.KernelIdeal.Coll.vIn_apply m c j h t).trans ((congrFun (hm c).2.2.2.1 _).trans (congrArg _ (ix4_eq_valueIdx 0 j (headIx c h) t).symm))

/-- Every column of the whole model is in some device's block. -/
theorem wide_split (n : Fin 8192) : n = wideIx (⟨n.val / 1024, by show n.val / 1024 < 8; omega⟩ : Dev Cert.KernelIdeal.nD) ⟨n.val % 1024, by omega⟩ :=
  Fin.ext (by show n.val = 1024 * (n.val / 1024) + n.val % 1024; omega)

/-- With finite scores, the reference's `x`, query weights and keys are real numbers. -/
theorem reals [Cert.Pre_finite_scores_KernelIdeal.Facts] (h : Pre_KernelIdeal_finite_scores_KernelIdeal m) (hm : Matches m m') :
    Nonempty (Cert.ReferenceIdeal.Stages.Reals (m' (rt.loc Cert.ReferenceIdeal.main_arg0)) (m' (rt.loc Cert.ReferenceIdeal.main_arg1))
      (m' (rt.loc Cert.ReferenceIdeal.main_arg2))) := by
  obtain ⟨s, hs⟩ := Cert.ReferenceIdeal.Stages.scale_real
  have hx : ∀ R i, ∃ r : ℝ, m' (rt.loc Cert.ReferenceIdeal.main_arg0) (ix3 (0 : Fin 1) R i) = (r : EReal) := fun R i => by
    obtain ⟨r, e⟩ := Finite.x_real h (0 : Fin 8) (ix3 (0 : Fin 1) R i)
    exact ⟨r, (congrFun (hm (0 : Fin 8)).1 _).symm.trans e⟩
  have hk : ∀ j h' t, ∃ r : ℝ, m' (rt.loc Cert.ReferenceIdeal.main_arg2) (ix4 (0 : Fin 1) j h' t) = (r : EReal) := fun j h' t => by
    obtain ⟨r, e⟩ := Finite.k_real h (0 : Fin 8) (ix4 (0 : Fin 1) j h' t)
    exact ⟨r, (congrFun (hm (0 : Fin 8)).2.2.1 _).symm.trans e⟩
  have hw : ∀ i n, ∃ r : ℝ, m' (rt.loc Cert.ReferenceIdeal.main_arg1) (ix2 i n) = (r : EReal) := fun i n => by
    obtain ⟨c, p, rfl⟩ : ∃ c p, n = wideIx c p := ⟨_, _, wide_split n⟩
    obtain ⟨r, e⟩ := Finite.wq_real h c (ValueIdx.ix2 i p)
    exact ⟨r, (((congrFun (hm c).2.1 _).trans (Cert.KernelIdeal.Coll.cols_apply c _ i p)).trans
      (congrArg _ (ix2_eq_valueIdx i (wideIx c p)).symm)).symm.trans e⟩
  choose xr hx using hx
  choose wr hw using hw
  choose kr hk using hk
  exact ⟨⟨xr, wr, kr, s, hx, hw, hk, hs⟩⟩

/-- **The kernel's result is the reference's.** -/
theorem result_eq [Cert.Pre_finite_scores_KernelIdeal.Facts] (h : Pre_KernelIdeal_finite_scores_KernelIdeal m) (hm : Matches m m') :
    Cert.KernelIdeal.Coll.outOf (F := Ideal) (Cert.KernelIdeal.Coll.RR m) = Cert.ReferenceIdeal.Value.res_main_v33 m' (0 : Dev Cert.ReferenceIdeal.nD) := by
  obtain ⟨ρ⟩ := reals h hm
  exact Agree.out_eq ρ (Cert.KernelIdeal.Coll.PP m) fun c => ⟨_, _, _, _, _, holds hm c, rfl⟩

/-- The value claim. -/
theorem algebraic : Cert.algebraic_KernelIdeal_ReferenceIdeal_pre_finite_scores_KernelIdeal := fun m g m' g' h hm =>
  ⟨Cert.ReferenceIdeal.Value.res_main_v33 m' (0 : Dev Cert.ReferenceIdeal.nD),
    (θ_run Cert.KernelIdeal.defs _ _).mono
      (fun _ hr c => ⟨((hr.1 c).1).trans (result_eq h hm), (hr.1 c).2⟩)
      (Cert.KernelIdeal.Coll.run_all (F := Ideal) m g),
    (θ_run Cert.ReferenceIdeal.defs _ _).mono (fun _ hr => hr (0 : Dev Cert.ReferenceIdeal.nD))
      (Cert.ReferenceIdeal.Value.run (F := Ideal) m' g')⟩

end Cert.Join

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Ends
public import proofs.«01_k».proof.Proof.Same
public import proofs.«01_k».proof.Proof.Join
public import proofs.«01_k».proof.Proof.Gen.Pre_finite_scores_KernelIdeal
public import proofs.«01_k».proof.Proof.Gen.Pre_finite_scores_ReferenceIdeal
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel's frame: the run over any float values, at words. -/
theorem frame_kernel : Cert.quiescent_Kernel := fun m ρ _ => by
  rw [Cert.KernelIdeal.Coll.same_defs]
  exact Cert.KernelIdeal.Coll.run_frame (F := Bits) m ρ

/-- The idealised kernel's frame: the same run over the extended reals. -/
theorem frame_kernelIdeal : Cert.quiescent_KernelIdeal := fun m ρ _ =>
  Cert.KernelIdeal.Coll.run_frame (F := Ideal) m ρ

/-- The reference's frame: host operations only, no semaphore. -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

/-- The idealised kernel's frame from the memories of the value claim. -/
theorem frame_kernelIdeal_pre : Cert.quiescent_KernelIdeal_pre_finite_scores_KernelIdeal := fun m ρ _ =>
  Cert.KernelIdeal.Coll.run_frame (F := Ideal) m ρ

/-- The reference's frame from the memories of the value claim. -/
theorem frame_reference_pre : Cert.quiescent_ReferenceIdeal_pre_finite_scores_ReferenceIdeal := fun m ρ _ =>
  frame_reference m ρ trivial

/-- All the claims. -/
theorem claim : Cert.Claim := ⟨Cert.Kernel.Gen.facts, Cert.KernelIdeal.Gen.facts, Cert.ReferenceIdeal.Gen.facts,
  Cert.Pre_finite_scores_KernelIdeal.Gen.facts, Cert.Pre_finite_scores_ReferenceIdeal.Gen.facts,
  frame_kernel, frame_kernelIdeal, frame_kernelIdeal_pre, frame_reference, frame_reference_pre, trivial, Cert.Join.algebraic⟩

end Cert.Proof

end
